-- ==== Defs.lean ====
def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_RefSIdeal (m : (ℓ : Loc Cert.RefSIdeal.nD Cert.RefSIdeal.τ Cert.RefSIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_RefRopeIdeal (m : (ℓ : Loc Cert.RefRopeIdeal.nD Cert.RefRopeIdeal.τ Cert.RefRopeIdeal.sig) → Buf (Elt Ideal) ℓ) : Prop :=
  True

def Pre_KernelRot (m : (ℓ : Loc Cert.KernelRot.nD Cert.KernelRot.τ Cert.KernelRot.sig) → Buf (Elt Bits) ℓ) : Prop :=
  True

def Pre_KernelRotIdeal (m : (ℓ : Loc Cert.KernelRotIdeal.nD Cert.KernelRotIdeal.τ Cert.KernelRotIdeal.sig) → Buf (Elt Ideal) ℓ) : Prop :=
  True

def Pre_RefRotIdeal (m : (ℓ : Loc Cert.RefRotIdeal.nD Cert.RefRotIdeal.τ Cert.RefRotIdeal.sig) → Buf (Elt Ideal) ℓ) : Prop :=
  True

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3)
      ∧ r.2.mem ((c.tc : Thread Cert.KernelS.nD Cert.KernelS.τ).loc Cert.KernelS.main_arg4) = m ((c.tc : Thread Cert.KernelS.nD Cert.KernelS.τ).loc Cert.KernelS.main_arg4))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4))
      ∧ r.2.sem = fun _ => 0)

def quiescent_RefSIdeal [hRefSIdeal : Cert.RefSIdeal.Facts] : Prop :=
  ∀ (m : (ℓ : Loc Cert.RefSIdeal.nD Cert.RefSIdeal.τ Cert.RefSIdeal.sig) → Buf (Elt Ideal) ℓ) (g : Dev Cert.RefSIdeal.nD → PrngReg), Pre_RefSIdeal m →
    θ_run (Cert.RefSIdeal.defs (F := Ideal)) (onTc (τ := Cert.RefSIdeal.τ) (Cert.RefSIdeal.main (F := Ideal))) ⟨m, fun _ => 0, g⟩ (fun r => (∀ c : Dev Cert.RefSIdeal.nD,
      r.2.mem ((c.tc : Thread Cert.RefSIdeal.nD Cert.RefSIdeal.τ).loc Cert.RefSIdeal.main_arg0) = m ((c.tc : Thread Cert.RefSIdeal.nD Cert.RefSIdeal.τ).loc Cert.RefSIdeal.main_arg0)
      ∧ r.2.mem ((c.tc : Thread Cert.RefSIdeal.nD Cert.RefSIdeal.τ).loc Cert.RefSIdeal.main_arg1) = m ((c.tc : Thread Cert.RefSIdeal.nD Cert.RefSIdeal.τ).loc Cert.RefSIdeal.main_arg1)
      ∧ r.2.mem ((c.tc : Thread Cert.RefSIdeal.nD Cert.RefSIdeal.τ).loc Cert.RefSIdeal.main_arg2) = m ((c.tc : Thread Cert.RefSIdeal.nD Cert.RefSIdeal.τ).loc Cert.RefSIdeal.main_arg2)
      ∧ r.2.mem ((c.tc : Thread Cert.RefSIdeal.nD Cert.RefSIdeal.τ).loc Cert.RefSIdeal.main_arg3) = m ((c.tc : Thread Cert.RefSIdeal.nD Cert.RefSIdeal.τ).loc Cert.RefSIdeal.main_arg3)
      ∧ r.2.mem ((c.tc : Thread Cert.RefSIdeal.nD Cert.RefSIdeal.τ).loc Cert.RefSIdeal.main_arg4) = m ((c.tc : Thread Cert.RefSIdeal.nD Cert.RefSIdeal.τ).loc Cert.RefSIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7)
      ∧ r.2.mem ((c.tc : Thread Cert.RefMixIdeal.nD Cert.RefMixIdeal.τ).loc Cert.RefMixIdeal.main_arg8) = m ((c.tc : Thread Cert.RefMixIdeal.nD Cert.RefMixIdeal.τ).loc Cert.RefMixIdeal.main_arg8))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8)
      ∧ r.2.mem ((c.tc : Thread Cert.KernelFfn.nD Cert.KernelFfn.τ).loc Cert.KernelFfn.main_arg9) = m ((c.tc : Thread Cert.KernelFfn.nD Cert.KernelFfn.τ).loc Cert.KernelFfn.main_arg9))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
      ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6)
      ∧ r.2.mem ((c.tc : Thread Cert.RefFfnIdeal.nD Cert.RefFfnIdeal.τ).loc Cert.RefFfnIdeal.main_arg7) = m ((c.tc : Thread Cert.RefFfnIdeal.nD Cert.RefFfnIdeal.τ).loc Cert.RefFfnIdeal.main_arg7)
      ∧ r.2.mem ((c.tc : Thread Cert.RefFfnIdeal.nD Cert.RefFfnIdeal.τ).loc Cert.RefFfnIdeal.main_arg8) = m ((c.tc : Thread Cert.RefFfnIdeal.nD Cert.RefFfnIdeal.τ).loc Cert.RefFfnIdeal.main_arg8)
      ∧ r.2.mem ((c.tc : Thread Cert.RefFfnIdeal.nD Cert.RefFfnIdeal.τ).loc Cert.RefFfnIdeal.main_arg9) = m ((c.tc : Thread Cert.RefFfnIdeal.nD Cert.RefFfnIdeal.τ).loc Cert.RefFfnIdeal.main_arg9))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ r.2.sem = fun _ => 0)

def quiescent_RefRopeIdeal [hRefRopeIdeal : Cert.RefRopeIdeal.Facts] : Prop :=
  ∀ (m : (ℓ : Loc Cert.RefRopeIdeal.nD Cert.RefRopeIdeal.τ Cert.RefRopeIdeal.sig) → Buf (Elt Ideal) ℓ) (g : Dev Cert.RefRopeIdeal.nD → PrngReg), Pre_RefRopeIdeal m →
    θ_run (Cert.RefRopeIdeal.defs (F := Ideal)) (onTc (τ := Cert.RefRopeIdeal.τ) (Cert.RefRopeIdeal.main (F := Ideal))) ⟨m, fun _ => 0, g⟩ (fun r => (∀ c : Dev Cert.RefRopeIdeal.nD,
      r.2.mem ((c.tc : Thread Cert.RefRopeIdeal.nD Cert.RefRopeIdeal.τ).loc Cert.RefRopeIdeal.main_arg0) = m ((c.tc : Thread Cert.RefRopeIdeal.nD Cert.RefRopeIdeal.τ).loc Cert.RefRopeIdeal.main_arg0))
      ∧ r.2.sem = fun _ => 0)

def quiescent_KernelRot [hKernelRot : Cert.KernelRot.Facts] : Prop :=
  ∀ (m : (ℓ : Loc Cert.KernelRot.nD Cert.KernelRot.τ Cert.KernelRot.sig) → Buf (Elt Bits) ℓ) (g : Dev Cert.KernelRot.nD → PrngReg), Pre_KernelRot m →
    θ_run (Cert.KernelRot.defs (F := Bits)) (onTc (τ := Cert.KernelRot.τ) (Cert.KernelRot.main (F := Bits))) ⟨m, fun _ => 0, g⟩ (fun r => (∀ c : Dev Cert.KernelRot.nD,
      r.2.mem ((c.tc : Thread Cert.KernelRot.nD Cert.KernelRot.τ).loc Cert.KernelRot.main_arg0) = m ((c.tc : Thread Cert.KernelRot.nD Cert.KernelRot.τ).loc Cert.KernelRot.main_arg0))
      ∧ r.2.sem = fun _ => 0)

def quiescent_KernelRotIdeal [hKernelRotIdeal : Cert.KernelRotIdeal.Facts] : Prop :=
  ∀ (m : (ℓ : Loc Cert.KernelRotIdeal.nD Cert.KernelRotIdeal.τ Cert.KernelRotIdeal.sig) → Buf (Elt Ideal) ℓ) (g : Dev Cert.KernelRotIdeal.nD → PrngReg), Pre_KernelRotIdeal m →
    θ_run (Cert.KernelRotIdeal.defs (F := Ideal)) (onTc (τ := Cert.KernelRotIdeal.τ) (Cert.KernelRotIdeal.main (F := Ideal))) ⟨m, fun _ => 0, g⟩ (fun r => (∀ c : Dev Cert.KernelRotIdeal.nD,
      r.2.mem ((c.tc : Thread Cert.KernelRotIdeal.nD Cert.KernelRotIdeal.τ).loc Cert.KernelRotIdeal.main_arg0) = m ((c.tc : Thread Cert.KernelRotIdeal.nD Cert.KernelRotIdeal.τ).loc Cert.KernelRotIdeal.main_arg0))
      ∧ r.2.sem = fun _ => 0)

def quiescent_RefRotIdeal [hRefRotIdeal : Cert.RefRotIdeal.Facts] : Prop :=
  ∀ (m : (ℓ : Loc Cert.RefRotIdeal.nD Cert.RefRotIdeal.τ Cert.RefRotIdeal.sig) → Buf (Elt Ideal) ℓ) (g : Dev Cert.RefRotIdeal.nD → PrngReg), Pre_RefRotIdeal m →
    θ_run (Cert.RefRotIdeal.defs (F := Ideal)) (onTc (τ := Cert.RefRotIdeal.τ) (Cert.RefRotIdeal.main (F := Ideal))) ⟨m, fun _ => 0, g⟩ (fun r => (∀ c : Dev Cert.RefRotIdeal.nD,
      r.2.mem ((c.tc : Thread Cert.RefRotIdeal.nD Cert.RefRotIdeal.τ).loc Cert.RefRotIdeal.main_arg0) = m ((c.tc : Thread Cert.RefRotIdeal.nD Cert.RefRotIdeal.τ).loc Cert.RefRotIdeal.main_arg0))
      ∧ r.2.sem = fun _ => 0)

def preserves_KernelS_KernelSIdeal : Prop :=
  True

def algebraic_KernelSIdeal_RefSIdeal_on_real_rows [hKernelSIdeal : Cert.KernelSIdeal.Facts] [hRefSIdeal : Cert.RefSIdeal.Facts] [hOn_real_rows : Cert.On_real_rows.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.RefSIdeal.nD Cert.RefSIdeal.τ Cert.RefSIdeal.sig) → Buf (Elt Ideal) ℓ) (g' : Dev Cert.RefSIdeal.nD → PrngReg), Pre_KernelSIdeal m →
    (∀ c : Dev Cert.KernelSIdeal.nD,
      m' ((c.tc : Thread Cert.RefSIdeal.nD Cert.RefSIdeal.τ).loc Cert.RefSIdeal.main_arg0) = m ((c.tc : Thread Cert.KernelSIdeal.nD Cert.KernelSIdeal.τ).loc Cert.KernelSIdeal.main_arg0)
      ∧ m' ((c.tc : Thread Cert.RefSIdeal.nD Cert.RefSIdeal.τ).loc Cert.RefSIdeal.main_arg1) = m ((c.tc : Thread Cert.KernelSIdeal.nD Cert.KernelSIdeal.τ).loc Cert.KernelSIdeal.main_arg1)
      ∧ m' ((c.tc : Thread Cert.RefSIdeal.nD Cert.RefSIdeal.τ).loc Cert.RefSIdeal.main_arg2) = m ((c.tc : Thread Cert.KernelSIdeal.nD Cert.KernelSIdeal.τ).loc Cert.KernelSIdeal.main_arg2)
      ∧ m' ((c.tc : Thread Cert.RefSIdeal.nD Cert.RefSIdeal.τ).loc Cert.RefSIdeal.main_arg3) = m ((c.tc : Thread Cert.KernelSIdeal.nD Cert.KernelSIdeal.τ).loc Cert.KernelSIdeal.main_arg3)
      ∧ m' ((c.tc : Thread Cert.RefSIdeal.nD Cert.RefSIdeal.τ).loc Cert.RefSIdeal.main_arg4) = m ((c.tc : Thread Cert.KernelSIdeal.nD Cert.KernelSIdeal.τ).loc Cert.KernelSIdeal.main_arg4)) →
    ∃ (v0 : (c : Dev Cert.KernelSIdeal.nD) → Buf (Elt Ideal) ((c.tc : Thread Cert.KernelSIdeal.nD Cert.KernelSIdeal.τ).loc Cert.KernelSIdeal.main_v3_0)) (v1 : (c : Dev Cert.KernelSIdeal.nD) → Buf (Elt Ideal) ((c.tc : Thread Cert.KernelSIdeal.nD Cert.KernelSIdeal.τ).loc Cert.KernelSIdeal.main_v3_1)) (v2 : (c : Dev Cert.KernelSIdeal.nD) → Buf (Elt Ideal) ((c.tc : Thread Cert.KernelSIdeal.nD Cert.KernelSIdeal.τ).loc Cert.KernelSIdeal.main_v3_2)) (v3 : (c : Dev Cert.KernelSIdeal.nD) → Buf (Elt Ideal) ((c.tc : Thread Cert.KernelSIdeal.nD Cert.KernelSIdeal.τ).loc Cert.KernelSIdeal.main_v3_3)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          (∀ i : (⟨3, ![32, 8, 1024]⟩ : Shape).Idx, (Cert.On_real_rows.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4))).1 i = 1#1 → r.2.mem ((c.tc : Thread Cert.KernelSIdeal.nD Cert.KernelSIdeal.τ).loc Cert.KernelSIdeal.main_v3_0) i = v0 c i)
          ∧ (∀ i : (⟨4, ![32, 4, 256, 256]⟩ : Shape).Idx, (Cert.On_real_rows.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4))).2.1 i = 1#1 → r.2.mem ((c.tc : Thread Cert.KernelSIdeal.nD Cert.KernelSIdeal.τ).loc Cert.KernelSIdeal.main_v3_1) i = v1 c i)
          ∧ (∀ i : (⟨4, ![32, 4, 1, 256]⟩ : Shape).Idx, (Cert.On_real_rows.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4))).2.2.1 i = 1#1 → r.2.mem ((c.tc : Thread Cert.KernelSIdeal.nD Cert.KernelSIdeal.τ).loc Cert.KernelSIdeal.main_v3_2) i = v2 c i)
          ∧ (∀ i : (⟨4, ![32, 4, 1, 1]⟩ : Shape).Idx, (Cert.On_real_rows.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4))).2.2.2 i = 1#1 → r.2.mem ((c.tc : Thread Cert.KernelSIdeal.nD Cert.KernelSIdeal.τ).loc Cert.KernelSIdeal.main_v3_3) i = v3 c i)
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
          ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4))
      ∧ θ_run (Cert.RefSIdeal.defs (F := Ideal)) (onTc (τ := Cert.RefSIdeal.τ) (Cert.RefSIdeal.main (F := Ideal))) ⟨m', fun _ => 0, g'⟩ (fun r => ∀ c : Dev Cert.RefSIdeal.nD,
          (∀ i : (⟨3, ![32, 8, 1024]⟩ : Shape).Idx, (Cert.On_real_rows.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4))).1 i = 1#1 → r.2.mem ((c.tc : Thread Cert.RefSIdeal.nD Cert.RefSIdeal.τ).loc Cert.RefSIdeal.main_v119) i = v0 c i)
          ∧ (∀ i : (⟨4, ![32, 4, 256, 256]⟩ : Shape).Idx, (Cert.On_real_rows.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4))).2.1 i = 1#1 → r.2.mem ((c.tc : Thread Cert.RefSIdeal.nD Cert.RefSIdeal.τ).loc Cert.RefSIdeal.main_v82) i = v1 c i)
          ∧ (∀ i : (⟨4, ![32, 4, 1, 256]⟩ : Shape).Idx, (Cert.On_real_rows.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4))).2.2.1 i = 1#1 → r.2.mem ((c.tc : Thread Cert.RefSIdeal.nD Cert.RefSIdeal.τ).loc Cert.RefSIdeal.main_v120) i = v2 c i)
          ∧ (∀ i : (⟨4, ![32, 4, 1, 1]⟩ : Shape).Idx, (Cert.On_real_rows.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4))).2.2.2 i = 1#1 → r.2.mem ((c.tc : Thread Cert.RefSIdeal.nD Cert.RefSIdeal.τ).loc Cert.RefSIdeal.main_v121) i = v3 c i)
          ∧ r.2.mem ((c.tc : Thread Cert.RefSIdeal.nD Cert.RefSIdeal.τ).loc Cert.RefSIdeal.main_arg0) = m' ((c.tc : Thread Cert.RefSIdeal.nD Cert.RefSIdeal.τ).loc Cert.RefSIdeal.main_arg0)
          ∧ r.2.mem ((c.tc : Thread Cert.RefSIdeal.nD Cert.RefSIdeal.τ).loc Cert.RefSIdeal.main_arg1) = m' ((c.tc : Thread Cert.RefSIdeal.nD Cert.RefSIdeal.τ).loc Cert.RefSIdeal.main_arg1)
          ∧ r.2.mem ((c.tc : Thread Cert.RefSIdeal.nD Cert.RefSIdeal.τ).loc Cert.RefSIdeal.main_arg2) = m' ((c.tc : Thread Cert.RefSIdeal.nD Cert.RefSIdeal.τ).loc Cert.RefSIdeal.main_arg2)
          ∧ r.2.mem ((c.tc : Thread Cert.RefSIdeal.nD Cert.RefSIdeal.τ).loc Cert.RefSIdeal.main_arg3) = m' ((c.tc : Thread Cert.RefSIdeal.nD Cert.RefSIdeal.τ).loc Cert.RefSIdeal.main_arg3)
          ∧ r.2.mem ((c.tc : Thread Cert.RefSIdeal.nD Cert.RefSIdeal.τ).loc Cert.RefSIdeal.main_arg4) = m' ((c.tc : Thread Cert.RefSIdeal.nD Cert.RefSIdeal.τ).loc Cert.RefSIdeal.main_arg4))

def preserves_KernelIn_KernelInIdeal : Prop :=
  True

def algebraic_KernelInIdeal_RefInIdeal [hKernelInIdeal : Cert.KernelInIdeal.Facts] [hRefInIdeal : Cert.RefInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.RefInIdeal.nD Cert.RefInIdeal.τ Cert.RefInIdeal.sig) → Buf (Elt Ideal) ℓ) (g' : Dev Cert.RefInIdeal.nD → PrngReg), Pre_KernelInIdeal m →
    (∀ c : Dev Cert.KernelInIdeal.nD,
      m' ((c.tc : Thread Cert.RefInIdeal.nD Cert.RefInIdeal.τ).loc Cert.RefInIdeal.main_arg0) = m ((c.tc : Thread Cert.KernelInIdeal.nD Cert.KernelInIdeal.τ).loc Cert.KernelInIdeal.main_arg0)
      ∧ m' ((c.tc : Thread Cert.RefInIdeal.nD Cert.RefInIdeal.τ).loc Cert.RefInIdeal.main_arg1) = m ((c.tc : Thread Cert.KernelInIdeal.nD Cert.KernelInIdeal.τ).loc Cert.KernelInIdeal.main_arg1)
      ∧ m' ((c.tc : Thread Cert.RefInIdeal.nD Cert.RefInIdeal.τ).loc Cert.RefInIdeal.main_arg2) = m ((c.tc : Thread Cert.KernelInIdeal.nD Cert.KernelInIdeal.τ).loc Cert.KernelInIdeal.main_arg2)
      ∧ m' ((c.tc : Thread Cert.RefInIdeal.nD Cert.RefInIdeal.τ).loc Cert.RefInIdeal.main_arg3) = m ((c.tc : Thread Cert.KernelInIdeal.nD Cert.KernelInIdeal.τ).loc Cert.KernelInIdeal.main_arg3)
      ∧ m' ((c.tc : Thread Cert.RefInIdeal.nD Cert.RefInIdeal.τ).loc Cert.RefInIdeal.main_arg4) = m ((c.tc : Thread Cert.KernelInIdeal.nD Cert.KernelInIdeal.τ).loc Cert.KernelInIdeal.main_arg4)
      ∧ m' ((c.tc : Thread Cert.RefInIdeal.nD Cert.RefInIdeal.τ).loc Cert.RefInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v23)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v23) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v35) = v0 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5))

def preserves_KernelMix_KernelMixIdeal : Prop :=
  True

def algebraic_KernelMixIdeal_RefMixIdeal [hKernelMixIdeal : Cert.KernelMixIdeal.Facts] [hRefMixIdeal : Cert.RefMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_KernelMixIdeal m →
    (∀ c : Dev Cert.KernelMixIdeal.nD,
      m' ((c.tc : Thread Cert.RefMixIdeal.nD Cert.RefMixIdeal.τ).loc Cert.RefMixIdeal.main_arg0) = m ((c.tc : Thread Cert.KernelMixIdeal.nD Cert.KernelMixIdeal.τ).loc Cert.KernelMixIdeal.main_arg0)
      ∧ m' ((c.tc : Thread Cert.RefMixIdeal.nD Cert.RefMixIdeal.τ).loc Cert.RefMixIdeal.main_arg1) = m ((c.tc : Thread Cert.KernelMixIdeal.nD Cert.KernelMixIdeal.τ).loc Cert.KernelMixIdeal.main_arg1)
      ∧ m' ((c.tc : Thread Cert.RefMixIdeal.nD Cert.RefMixIdeal.τ).loc Cert.RefMixIdeal.main_arg2) = m ((c.tc : Thread Cert.KernelMixIdeal.nD Cert.KernelMixIdeal.τ).loc Cert.KernelMixIdeal.main_arg2)
      ∧ m' ((c.tc : Thread Cert.RefMixIdeal.nD Cert.RefMixIdeal.τ).loc Cert.RefMixIdeal.main_arg3) = m ((c.tc : Thread Cert.KernelMixIdeal.nD Cert.KernelMixIdeal.τ).loc Cert.KernelMixIdeal.main_arg3)
      ∧ m' ((c.tc : Thread Cert.RefMixIdeal.nD Cert.RefMixIdeal.τ).loc Cert.RefMixIdeal.main_arg4) = m ((c.tc : Thread Cert.KernelMixIdeal.nD Cert.KernelMixIdeal.τ).loc Cert.KernelMixIdeal.main_arg4)
      ∧ m' ((c.tc : Thread Cert.RefMixIdeal.nD Cert.RefMixIdeal.τ).loc Cert.RefMixIdeal.main_arg5) = m ((c.tc : Thread Cert.KernelMixIdeal.nD Cert.KernelMixIdeal.τ).loc Cert.KernelMixIdeal.main_arg5)
      ∧ m' ((c.tc : Thread Cert.RefMixIdeal.nD Cert.RefMixIdeal.τ).loc Cert.RefMixIdeal.main_arg6) = m ((c.tc : Thread Cert.KernelMixIdeal.nD Cert.KernelMixIdeal.τ).loc Cert.KernelMixIdeal.main_arg6)
      ∧ m' ((c.tc : Thread Cert.RefMixIdeal.nD Cert.RefMixIdeal.τ).loc Cert.RefMixIdeal.main_arg7) = m ((c.tc : Thread Cert.KernelMixIdeal.nD Cert.KernelMixIdeal.τ).loc Cert.KernelMixIdeal.main_arg7)
      ∧ m' ((c.tc : Thread Cert.RefMixIdeal.nD Cert.RefMixIdeal.τ).loc Cert.RefMixIdeal.main_arg8) = m ((c.tc : Thread Cert.KernelMixIdeal.nD Cert.KernelMixIdeal.τ).loc Cert.KernelMixIdeal.main_arg8)) →
    ∃ (v0 : (c : Dev Cert.KernelMixIdeal.nD) → Buf (Elt Ideal) ((c.tc : Thread Cert.KernelMixIdeal.nD Cert.KernelMixIdeal.τ).loc Cert.KernelMixIdeal.main_v4)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v4) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v35) = v0 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4)
          ∧ r.2.mem ((c.tc : Thread Cert.RefMixIdeal.nD Cert.RefMixIdeal.τ).loc Cert.RefMixIdeal.main_arg5) = m' ((c.tc : Thread Cert.RefMixIdeal.nD Cert.RefMixIdeal.τ).loc Cert.RefMixIdeal.main_arg5)
          ∧ r.2.mem ((c.tc : Thread Cert.RefMixIdeal.nD Cert.RefMixIdeal.τ).loc Cert.RefMixIdeal.main_arg6) = m' ((c.tc : Thread Cert.RefMixIdeal.nD Cert.RefMixIdeal.τ).loc Cert.RefMixIdeal.main_arg6)
          ∧ r.2.mem ((c.tc : Thread Cert.RefMixIdeal.nD Cert.RefMixIdeal.τ).loc Cert.RefMixIdeal.main_arg7) = m' ((c.tc : Thread Cert.RefMixIdeal.nD Cert.RefMixIdeal.τ).loc Cert.RefMixIdeal.main_arg7)
          ∧ r.2.mem ((c.tc : Thread Cert.RefMixIdeal.nD Cert.RefMixIdeal.τ).loc Cert.RefMixIdeal.main_arg8) = m' ((c.tc : Thread Cert.RefMixIdeal.nD Cert.RefMixIdeal.τ).loc Cert.RefMixIdeal.main_arg8))

def preserves_KernelFfn_KernelFfnIdeal : Prop :=
  True

def algebraic_KernelFfnIdeal_RefFfnIdeal [hKernelFfnIdeal : Cert.KernelFfnIdeal.Facts] [hRefFfnIdeal : Cert.RefFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_KernelFfnIdeal m →
    (∀ c : Dev Cert.KernelFfnIdeal.nD,
      m' ((c.tc : Thread Cert.RefFfnIdeal.nD Cert.RefFfnIdeal.τ).loc Cert.RefFfnIdeal.main_arg0) = m ((c.tc : Thread Cert.KernelFfnIdeal.nD Cert.KernelFfnIdeal.τ).loc Cert.KernelFfnIdeal.main_arg0)
      ∧ m' ((c.tc : Thread Cert.RefFfnIdeal.nD Cert.RefFfnIdeal.τ).loc Cert.RefFfnIdeal.main_arg1) = m ((c.tc : Thread Cert.KernelFfnIdeal.nD Cert.KernelFfnIdeal.τ).loc Cert.KernelFfnIdeal.main_arg1)
      ∧ m' ((c.tc : Thread Cert.RefFfnIdeal.nD Cert.RefFfnIdeal.τ).loc Cert.RefFfnIdeal.main_arg2) = m ((c.tc : Thread Cert.KernelFfnIdeal.nD Cert.KernelFfnIdeal.τ).loc Cert.KernelFfnIdeal.main_arg2)
      ∧ m' ((c.tc : Thread Cert.RefFfnIdeal.nD Cert.RefFfnIdeal.τ).loc Cert.RefFfnIdeal.main_arg3) = m ((c.tc : Thread Cert.KernelFfnIdeal.nD Cert.KernelFfnIdeal.τ).loc Cert.KernelFfnIdeal.main_arg3)
      ∧ m' ((c.tc : Thread Cert.RefFfnIdeal.nD Cert.RefFfnIdeal.τ).loc Cert.RefFfnIdeal.main_arg4) = m ((c.tc : Thread Cert.KernelFfnIdeal.nD Cert.KernelFfnIdeal.τ).loc Cert.KernelFfnIdeal.main_arg4)
      ∧ m' ((c.tc : Thread Cert.RefFfnIdeal.nD Cert.RefFfnIdeal.τ).loc Cert.RefFfnIdeal.main_arg5) = m ((c.tc : Thread Cert.KernelFfnIdeal.nD Cert.KernelFfnIdeal.τ).loc Cert.KernelFfnIdeal.main_arg5)
      ∧ m' ((c.tc : Thread Cert.RefFfnIdeal.nD Cert.RefFfnIdeal.τ).loc Cert.RefFfnIdeal.main_arg6) = m ((c.tc : Thread Cert.KernelFfnIdeal.nD Cert.KernelFfnIdeal.τ).loc Cert.KernelFfnIdeal.main_arg6)
      ∧ m' ((c.tc : Thread Cert.RefFfnIdeal.nD Cert.RefFfnIdeal.τ).loc Cert.RefFfnIdeal.main_arg7) = m ((c.tc : Thread Cert.KernelFfnIdeal.nD Cert.KernelFfnIdeal.τ).loc Cert.KernelFfnIdeal.main_arg7)
      ∧ m' ((c.tc : Thread Cert.RefFfnIdeal.nD Cert.RefFfnIdeal.τ).loc Cert.RefFfnIdeal.main_arg8) = m ((c.tc : Thread Cert.KernelFfnIdeal.nD Cert.KernelFfnIdeal.τ).loc Cert.KernelFfnIdeal.main_arg8)
      ∧ m' ((c.tc : Thread Cert.RefFfnIdeal.nD Cert.RefFfnIdeal.τ).loc Cert.RefFfnIdeal.main_arg9) = m ((c.tc : Thread Cert.KernelFfnIdeal.nD Cert.KernelFfnIdeal.τ).loc Cert.KernelFfnIdeal.main_arg9)) →
    ∃ (v0 : (c : Dev Cert.KernelFfnIdeal.nD) → Buf (Elt Ideal) ((c.tc : Thread Cert.KernelFfnIdeal.nD Cert.KernelFfnIdeal.τ).loc Cert.KernelFfnIdeal.main_v5_0)) (v1 : (c : Dev Cert.KernelFfnIdeal.nD) → Buf (Elt Ideal) ((c.tc : Thread Cert.KernelFfnIdeal.nD Cert.KernelFfnIdeal.τ).loc Cert.KernelFfnIdeal.main_v5_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v5_0) = v0 c
          ∧ r.2.mem ((c.tc : Thread Cert.KernelFfnIdeal.nD Cert.KernelFfnIdeal.τ).loc Cert.KernelFfnIdeal.main_v5_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
          ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v80) = v0 c
          ∧ r.2.mem ((c.tc : Thread Cert.RefFfnIdeal.nD Cert.RefFfnIdeal.τ).loc Cert.RefFfnIdeal.main_v64) = v1 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6)
          ∧ r.2.mem ((c.tc : Thread Cert.RefFfnIdeal.nD Cert.RefFfnIdeal.τ).loc Cert.RefFfnIdeal.main_arg7) = m' ((c.tc : Thread Cert.RefFfnIdeal.nD Cert.RefFfnIdeal.τ).loc Cert.RefFfnIdeal.main_arg7)
          ∧ r.2.mem ((c.tc : Thread Cert.RefFfnIdeal.nD Cert.RefFfnIdeal.τ).loc Cert.RefFfnIdeal.main_arg8) = m' ((c.tc : Thread Cert.RefFfnIdeal.nD Cert.RefFfnIdeal.τ).loc Cert.RefFfnIdeal.main_arg8)
          ∧ r.2.mem ((c.tc : Thread Cert.RefFfnIdeal.nD Cert.RefFfnIdeal.τ).loc Cert.RefFfnIdeal.main_arg9) = m' ((c.tc : Thread Cert.RefFfnIdeal.nD Cert.RefFfnIdeal.τ).loc Cert.RefFfnIdeal.main_arg9))

def preserves_KernelRope_KernelRopeIdeal : Prop :=
  True

def algebraic_KernelRopeIdeal_RefRopeIdeal [hKernelRopeIdeal : Cert.KernelRopeIdeal.Facts] [hRefRopeIdeal : Cert.RefRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.RefRopeIdeal.nD Cert.RefRopeIdeal.τ Cert.RefRopeIdeal.sig) → Buf (Elt Ideal) ℓ) (g' : Dev Cert.RefRopeIdeal.nD → PrngReg), Pre_KernelRopeIdeal m →
    (∀ c : Dev Cert.KernelRopeIdeal.nD,
      m' ((c.tc : Thread Cert.RefRopeIdeal.nD Cert.RefRopeIdeal.τ).loc Cert.RefRopeIdeal.main_arg0) = m ((c.tc : Thread Cert.KernelRopeIdeal.nD Cert.KernelRopeIdeal.τ).loc Cert.KernelRopeIdeal.main_arg0)) →
    ∃ (v0 : (c : Dev Cert.KernelRopeIdeal.nD) → Buf (Elt Ideal) ((c.tc : Thread Cert.KernelRopeIdeal.nD Cert.KernelRopeIdeal.τ).loc Cert.KernelRopeIdeal.main_v25_0)) (v1 : (c : Dev Cert.KernelRopeIdeal.nD) → Buf (Elt Ideal) ((c.tc : Thread Cert.KernelRopeIdeal.nD Cert.KernelRopeIdeal.τ).loc Cert.KernelRopeIdeal.main_v25_1)) (v2 : (c : Dev Cert.KernelRopeIdeal.nD) → Buf (Elt Ideal) ((c.tc : Thread Cert.KernelRopeIdeal.nD Cert.KernelRopeIdeal.τ).loc Cert.KernelRopeIdeal.main_v25_2)) (v3 : (c : Dev Cert.KernelRopeIdeal.nD) → Buf (Elt Ideal) ((c.tc : Thread Cert.KernelRopeIdeal.nD Cert.KernelRopeIdeal.τ).loc Cert.KernelRopeIdeal.main_v25_3)) (v4 : (c : Dev Cert.KernelRopeIdeal.nD) → Buf (Elt Ideal) ((c.tc : Thread Cert.KernelRopeIdeal.nD Cert.KernelRopeIdeal.τ).loc Cert.KernelRopeIdeal.main_v25_4)) (v5 : (c : Dev Cert.KernelRopeIdeal.nD) → Buf (Elt Ideal) ((c.tc : Thread Cert.KernelRopeIdeal.nD Cert.KernelRopeIdeal.τ).loc Cert.KernelRopeIdeal.main_v25_5)) (v6 : (c : Dev Cert.KernelRopeIdeal.nD) → Buf (Elt Ideal) ((c.tc : Thread Cert.KernelRopeIdeal.nD Cert.KernelRopeIdeal.τ).loc Cert.KernelRopeIdeal.main_v25_6)) (v7 : (c : Dev Cert.KernelRopeIdeal.nD) → Buf (Elt Ideal) ((c.tc : Thread Cert.KernelRopeIdeal.nD Cert.KernelRopeIdeal.τ).loc Cert.KernelRopeIdeal.main_v25_7)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v25_0) = v0 c
          ∧ r.2.mem ((c.tc : Thread Cert.KernelRopeIdeal.nD Cert.KernelRopeIdeal.τ).loc Cert.KernelRopeIdeal.main_v25_1) = v1 c
          ∧ r.2.mem ((c.tc : Thread Cert.KernelRopeIdeal.nD Cert.KernelRopeIdeal.τ).loc Cert.KernelRopeIdeal.main_v25_2) = v2 c
          ∧ r.2.mem ((c.tc : Thread Cert.KernelRopeIdeal.nD Cert.KernelRopeIdeal.τ).loc Cert.KernelRopeIdeal.main_v25_3) = v3 c
          ∧ r.2.mem ((c.tc : Thread Cert.KernelRopeIdeal.nD Cert.KernelRopeIdeal.τ).loc Cert.KernelRopeIdeal.main_v25_4) = v4 c
          ∧ r.2.mem ((c.tc : Thread Cert.KernelRopeIdeal.nD Cert.KernelRopeIdeal.τ).loc Cert.KernelRopeIdeal.main_v25_5) = v5 c
          ∧ r.2.mem ((c.tc : Thread Cert.KernelRopeIdeal.nD Cert.KernelRopeIdeal.τ).loc Cert.KernelRopeIdeal.main_v25_6) = v6 c
          ∧ r.2.mem ((c.tc : Thread Cert.KernelRopeIdeal.nD Cert.KernelRopeIdeal.τ).loc Cert.KernelRopeIdeal.main_v25_7) = v7 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ θ_run (Cert.RefRopeIdeal.defs (F := Ideal)) (onTc (τ := Cert.RefRopeIdeal.τ) (Cert.RefRopeIdeal.main (F := Ideal))) ⟨m', fun _ => 0, g'⟩ (fun r => ∀ c : Dev Cert.RefRopeIdeal.nD,
          r.2.mem ((c.tc : Thread Cert.RefRopeIdeal.nD Cert.RefRopeIdeal.τ).loc Cert.RefRopeIdeal.main_v89) = v0 c
          ∧ r.2.mem ((c.tc : Thread Cert.RefRopeIdeal.nD Cert.RefRopeIdeal.τ).loc Cert.RefRopeIdeal.main_v90) = v1 c
          ∧ r.2.mem ((c.tc : Thread Cert.RefRopeIdeal.nD Cert.RefRopeIdeal.τ).loc Cert.RefRopeIdeal.main_v91) = v2 c
          ∧ r.2.mem ((c.tc : Thread Cert.RefRopeIdeal.nD Cert.RefRopeIdeal.τ).loc Cert.RefRopeIdeal.main_v92) = v3 c
          ∧ r.2.mem ((c.tc : Thread Cert.RefRopeIdeal.nD Cert.RefRopeIdeal.τ).loc Cert.RefRopeIdeal.main_v96) = v4 c
          ∧ r.2.mem ((c.tc : Thread Cert.RefRopeIdeal.nD Cert.RefRopeIdeal.τ).loc Cert.RefRopeIdeal.main_v102) = v5 c
          ∧ r.2.mem ((c.tc : Thread Cert.RefRopeIdeal.nD Cert.RefRopeIdeal.τ).loc Cert.RefRopeIdeal.main_v106) = v6 c
          ∧ r.2.mem ((c.tc : Thread Cert.RefRopeIdeal.nD Cert.RefRopeIdeal.τ).loc Cert.RefRopeIdeal.main_v112) = v7 c
          ∧ r.2.mem ((c.tc : Thread Cert.RefRopeIdeal.nD Cert.RefRopeIdeal.τ).loc Cert.RefRopeIdeal.main_arg0) = m' ((c.tc : Thread Cert.RefRopeIdeal.nD Cert.RefRopeIdeal.τ).loc Cert.RefRopeIdeal.main_arg0))

def preserves_KernelRot_KernelRotIdeal : Prop :=
  True

def algebraic_KernelRotIdeal_RefRotIdeal [hKernelRotIdeal : Cert.KernelRotIdeal.Facts] [hRefRotIdeal : Cert.RefRotIdeal.Facts] : Prop :=
  ∀ (m : (ℓ : Loc Cert.KernelRotIdeal.nD Cert.KernelRotIdeal.τ Cert.KernelRotIdeal.sig) → Buf (Elt Ideal) ℓ) (g : Dev Cert.KernelRotIdeal.nD → PrngReg)
    (m' : (ℓ : Loc Cert.RefRotIdeal.nD Cert.RefRotIdeal.τ Cert.RefRotIdeal.sig) → Buf (Elt Ideal) ℓ) (g' : Dev Cert.RefRotIdeal.nD → PrngReg), Pre_KernelRotIdeal m →
    (∀ c : Dev Cert.KernelRotIdeal.nD,
      m' ((c.tc : Thread Cert.RefRotIdeal.nD Cert.RefRotIdeal.τ).loc Cert.RefRotIdeal.main_arg0) = m ((c.tc : Thread Cert.KernelRotIdeal.nD Cert.KernelRotIdeal.τ).loc Cert.KernelRotIdeal.main_arg0)) →
    ∃ (v0 : (c : Dev Cert.KernelRotIdeal.nD) → Buf (Elt Ideal) ((c.tc : Thread Cert.KernelRotIdeal.nD Cert.KernelRotIdeal.τ).loc Cert.KernelRotIdeal.main_v30_0)) (v1 : (c : Dev Cert.KernelRotIdeal.nD) → Buf (Elt Ideal) ((c.tc : Thread Cert.KernelRotIdeal.nD Cert.KernelRotIdeal.τ).loc Cert.KernelRotIdeal.main_v30_1)) (v2 : (c : Dev Cert.KernelRotIdeal.nD) → Buf (Elt Ideal) ((c.tc : Thread Cert.KernelRotIdeal.nD Cert.KernelRotIdeal.τ).loc Cert.KernelRotIdeal.main_v30_2)) (v3 : (c : Dev Cert.KernelRotIdeal.nD) → Buf (Elt Ideal) ((c.tc : Thread Cert.KernelRotIdeal.nD Cert.KernelRotIdeal.τ).loc Cert.KernelRotIdeal.main_v30_3)),
      θ_run (Cert.KernelRotIdeal.defs (F := Ideal)) (onTc (τ := Cert.KernelRotIdeal.τ) (Cert.KernelRotIdeal.main (F := Ideal))) ⟨m, fun _ => 0, g⟩ (fun r => ∀ c : Dev Cert.KernelRotIdeal.nD,
          r.2.mem ((c.tc : Thread Cert.KernelRotIdeal.nD Cert.KernelRotIdeal.τ).loc Cert.KernelRotIdeal.main_v30_0) = v0 c
          ∧ r.2.mem ((c.tc : Thread Cert.KernelRotIdeal.nD Cert.KernelRotIdeal.τ).loc Cert.KernelRotIdeal.main_v30_1) = v1 c
          ∧ r.2.mem ((c.tc : Thread Cert.KernelRotIdeal.nD Cert.KernelRotIdeal.τ).loc Cert.KernelRotIdeal.main_v30_2) = v2 c
          ∧ r.2.mem ((c.tc : Thread Cert.KernelRotIdeal.nD Cert.KernelRotIdeal.τ).loc Cert.KernelRotIdeal.main_v30_3) = v3 c
          ∧ r.2.mem ((c.tc : Thread Cert.KernelRotIdeal.nD Cert.KernelRotIdeal.τ).loc Cert.KernelRotIdeal.main_arg0) = m ((c.tc : Thread Cert.KernelRotIdeal.nD Cert.KernelRotIdeal.τ).loc Cert.KernelRotIdeal.main_arg0))
      ∧ θ_run (Cert.RefRotIdeal.defs (F := Ideal)) (onTc (τ := Cert.RefRotIdeal.τ) (Cert.RefRotIdeal.main (F := Ideal))) ⟨m', fun _ => 0, g'⟩ (fun r => ∀ c : Dev Cert.RefRotIdeal.nD,
          r.2.mem ((c.tc : Thread Cert.RefRotIdeal.nD Cert.RefRotIdeal.τ).loc Cert.RefRotIdeal.main_v91) = v0 c
          ∧ r.2.mem ((c.tc : Thread Cert.RefRotIdeal.nD Cert.RefRotIdeal.τ).loc Cert.RefRotIdeal.main_v92) = v1 c
          ∧ r.2.mem ((c.tc : Thread Cert.RefRotIdeal.nD Cert.RefRotIdeal.τ).loc Cert.RefRotIdeal.main_v93) = v2 c
          ∧ r.2.mem ((c.tc : Thread Cert.RefRotIdeal.nD Cert.RefRotIdeal.τ).loc Cert.RefRotIdeal.main_v94) = v3 c
          ∧ r.2.mem ((c.tc : Thread Cert.RefRotIdeal.nD Cert.RefRotIdeal.τ).loc Cert.RefRotIdeal.main_arg0) = m' ((c.tc : Thread Cert.RefRotIdeal.nD Cert.RefRotIdeal.τ).loc Cert.RefRotIdeal.main_arg0))

def Claim : Prop :=
  ∃ (hKernelS : Cert.KernelS.Facts) (hKernelSIdeal : Cert.KernelSIdeal.Facts) (hRefSIdeal : Cert.RefSIdeal.Facts) (hKernelIn : Cert.KernelIn.Facts) (hKernelInIdeal : Cert.KernelInIdeal.Facts) (hRefInIdeal : Cert.RefInIdeal.Facts) (hKernelMix : Cert.KernelMix.Facts) (hKernelMixIdeal : Cert.KernelMixIdeal.Facts) (hRefMixIdeal : Cert.RefMixIdeal.Facts) (hKernelFfn : Cert.KernelFfn.Facts) (hKernelFfnIdeal : Cert.KernelFfnIdeal.Facts) (hRefFfnIdeal : Cert.RefFfnIdeal.Facts) (hKernelRope : Cert.KernelRope.Facts) (hKernelRopeIdeal : Cert.KernelRopeIdeal.Facts) (hRefRopeIdeal : Cert.RefRopeIdeal.Facts) (hKernelRot : Cert.KernelRot.Facts) (hKernelRotIdeal : Cert.KernelRotIdeal.Facts) (hRefRotIdeal : Cert.RefRotIdeal.Facts) (hOn_real_rows : Cert.On_real_rows.Facts),
    quiescent_KernelS (hKernelS := hKernelS)
    ∧ quiescent_KernelSIdeal (hKernelSIdeal := hKernelSIdeal)
    ∧ quiescent_RefSIdeal (hRefSIdeal := hRefSIdeal)
    ∧ quiescent_KernelIn (hKernelIn := hKernelIn)
    ∧ quiescent_KernelInIdeal (hKernelInIdeal := hKernelInIdeal)
    ∧ quiescent_RefInIdeal (hRefInIdeal := hRefInIdeal)
    ∧ quiescent_KernelMix (hKernelMix := hKernelMix)
    ∧ quiescent_KernelMixIdeal (hKernelMixIdeal := hKernelMixIdeal)
    ∧ quiescent_RefMixIdeal (hRefMixIdeal := hRefMixIdeal)
    ∧ quiescent_KernelFfn (hKernelFfn := hKernelFfn)
    ∧ quiescent_KernelFfnIdeal (hKernelFfnIdeal := hKernelFfnIdeal)
    ∧ quiescent_RefFfnIdeal (hRefFfnIdeal := hRefFfnIdeal)
    ∧ quiescent_KernelRope (hKernelRope := hKernelRope)
    ∧ quiescent_KernelRopeIdeal (hKernelRopeIdeal := hKernelRopeIdeal)
    ∧ quiescent_RefRopeIdeal (hRefRopeIdeal := hRefRopeIdeal)
    ∧ quiescent_KernelRot (hKernelRot := hKernelRot)
    ∧ quiescent_KernelRotIdeal (hKernelRotIdeal := hKernelRotIdeal)
    ∧ quiescent_RefRotIdeal (hRefRotIdeal := hRefRotIdeal)
    ∧ preserves_KernelS_KernelSIdeal
    ∧ algebraic_KernelSIdeal_RefSIdeal_on_real_rows (hKernelSIdeal := hKernelSIdeal) (hRefSIdeal := hRefSIdeal) (hOn_real_rows := hOn_real_rows)
    ∧ preserves_KernelIn_KernelInIdeal
    ∧ algebraic_KernelInIdeal_RefInIdeal (hKernelInIdeal := hKernelInIdeal) (hRefInIdeal := hRefInIdeal)
    ∧ preserves_KernelMix_KernelMixIdeal
    ∧ algebraic_KernelMixIdeal_RefMixIdeal (hKernelMixIdeal := hKernelMixIdeal) (hRefMixIdeal := hRefMixIdeal)
    ∧ preserves_KernelFfn_KernelFfnIdeal
    ∧ algebraic_KernelFfnIdeal_RefFfnIdeal (hKernelFfnIdeal := hKernelFfnIdeal) (hRefFfnIdeal := hRefFfnIdeal)
    ∧ preserves_KernelRope_KernelRopeIdeal
    ∧ algebraic_KernelRopeIdeal_RefRopeIdeal (hKernelRopeIdeal := hKernelRopeIdeal) (hRefRopeIdeal := hRefRopeIdeal)
    ∧ preserves_KernelRot_KernelRotIdeal
    ∧ algebraic_KernelRotIdeal_RefRotIdeal (hKernelRotIdeal := hKernelRotIdeal) (hRefRotIdeal := hRefRotIdeal)
-- ==== On_real_rows.lean ====
abbrev S32x8x9216 : Shape := ⟨3, ![32, 8, 9216]⟩
abbrev S1024 : Shape := ⟨1, ![1024]⟩
abbrev S32x4x256x256 : Shape := ⟨4, ![32, 4, 256, 256]⟩
abbrev S32x4x256 : Shape := ⟨3, ![32, 4, 256]⟩
abbrev S32x4 : Shape := ⟨2, ![32, 4]⟩
abbrev S32x8x1024 : Shape := ⟨3, ![32, 8, 1024]⟩
abbrev S_ : Shape := ⟨0, ![]⟩
abbrev S32x4x1x256 : Shape := ⟨4, ![32, 4, 1, 256]⟩
abbrev S32x4x1x1 : Shape := ⟨4, ![32, 4, 1, 1]⟩

class Facts : Prop where
  bcast_S_S32x8x1024 : S_.BroadcastsInDim S32x8x1024 (![] : Fin 0 → Fin S32x8x1024.rank)
  bcast_S_S32x4x256x256 : S_.BroadcastsInDim S32x4x256x256 (![] : Fin 0 → Fin S32x4x256x256.rank)
  bcast_S_S32x4x1x256 : S_.BroadcastsInDim S32x4x1x256 (![] : Fin 0 → Fin S32x4x1x256.rank)
  bcast_S_S32x4x1x1 : S_.BroadcastsInDim S32x4x1x1 (![] : Fin 0 → Fin S32x4x1x1.rank)

variable [Facts]

def fn {F : FTy → Type} [FloatOps F] (main_arg0 : FVec F S32x8x9216 .f32) (main_arg1 : FVec F S1024 .f32) (main_arg2 : FVec F S32x4x256x256 .f32) (main_arg3 : FVec F S32x4x256 .f32) (main_arg4 : FVec F S32x4 .f32) : IVec S32x8x1024 1 × IVec S32x4x256x256 1 × IVec S32x4x1x256 1 × IVec S32x4x1x1 1 :=
  let main_v0 : IVec S32x8x1024 32 := iotaInDim S32x8x1024 32 1
  let main_c : IVec S_ 32 := constantI S_ 32 4#32
  let main_v1 : IVec S32x8x1024 32 := broadcastInDim S32x8x1024 ![] bcast_S_S32x8x1024 main_c
  let main_v2 : IVec S32x8x1024 1 := cmpi .slt main_v0 main_v1
  let main_c_0 : IVec S_ 1 := constantI S_ 1 1#1
  let main_v3 : IVec S32x4x256x256 1 := broadcastInDim S32x4x256x256 ![] bcast_S_S32x4x256x256 main_c_0
  let main_c_1 : IVec S_ 1 := constantI S_ 1 1#1
  let main_v4 : IVec S32x4x1x256 1 := broadcastInDim S32x4x1x256 ![] bcast_S_S32x4x1x256 main_c_1
  let main_c_2 : IVec S_ 1 := constantI S_ 1 1#1
  let main_v5 : IVec S32x4x1x1 1 := broadcastInDim S32x4x1x1 ![] bcast_S_S32x4x1x1 main_c_2
  (main_v2, main_v3, main_v4, main_v5)
-- ==== KernelS.lean ====
abbrev S32x8x9216 : Shape := ⟨3, ![32, 8, 9216]⟩
abbrev S1024 : Shape := ⟨1, ![1024]⟩
abbrev S32x4x256x256 : Shape := ⟨4, ![32, 4, 256, 256]⟩
abbrev S32x4x256 : Shape := ⟨3, ![32, 4, 256]⟩
abbrev S32x4 : Shape := ⟨2, ![32, 4]⟩
abbrev S1x1024 : Shape := ⟨2, ![1, 1024]⟩
abbrev S32x4x1x256 : Shape := ⟨4, ![32, 4, 1, 256]⟩
abbrev S32x4x1x1 : Shape := ⟨4, ![32, 4, 1, 1]⟩
abbrev S32x8x1024 : Shape := ⟨3, ![32, 8, 1024]⟩
abbrev S1x8x1024 : Shape := ⟨3, ![1, 8, 1024]⟩
abbrev S1x8x128 : Shape := ⟨3, ![1, 8, 128]⟩
abbrev S1x4x256x256 : Shape := ⟨4, ![1, 4, 256, 256]⟩
abbrev S1x4x1x256 : Shape := ⟨4, ![1, 4, 1, 256]⟩
abbrev S1x4x1x1 : Shape := ⟨4, ![1, 4, 1, 1]⟩
abbrev S8x128 : Shape := ⟨2, ![8, 128]⟩
abbrev S120x128 : Shape := ⟨2, ![120, 128]⟩
abbrev S128x128 : Shape := ⟨2, ![128, 128]⟩
abbrev S128x1 : Shape := ⟨2, ![128, 1]⟩
abbrev S1x128 : Shape := ⟨2, ![1, 128]⟩
abbrev S8x1024 : Shape := ⟨2, ![8, 1024]⟩
abbrev S120x1024 : Shape := ⟨2, ![120, 1024]⟩
abbrev S128x1024 : Shape := ⟨2, ![128, 1024]⟩
abbrev S128x256 : Shape := ⟨2, ![128, 256]⟩
abbrev S1x1x1x1 : Shape := ⟨4, ![1, 1, 1, 1]⟩
abbrev S1x1 : Shape := ⟨2, ![1, 1]⟩
abbrev S1x1x256x256 : Shape := ⟨4, ![1, 1, 256, 256]⟩
abbrev S256x256 : Shape := ⟨2, ![256, 256]⟩
abbrev S1x1x1x256 : Shape := ⟨4, ![1, 1, 1, 256]⟩
abbrev S1x256 : Shape := ⟨2, ![1, 256]⟩
abbrev S128 : Shape := ⟨1, ![128]⟩
abbrev S8x256 : Shape := ⟨2, ![8, 256]⟩
abbrev S1x8x256 : Shape := ⟨3, ![1, 8, 256]⟩
abbrev S1 : Shape := ⟨1, ![1]⟩
abbrev S256 : Shape := ⟨1, ![256]⟩

abbrev nBuf : Space → Nat
  | .hbm => 12
  | .vmem => 25
  | .smem => 0
  | _ => 0

abbrev bufTy : (tb : Table) → Fin (tcTables nBuf tb) → BufTy
  | .hbm, ⟨0, _⟩ => ⟨S32x8x9216, .f32⟩
  | .hbm, ⟨1, _⟩ => ⟨S1024, .f32⟩
  | .hbm, ⟨2, _⟩ => ⟨S32x4x256x256, .f32⟩
  | .hbm, ⟨3, _⟩ => ⟨S32x4x256, .f32⟩
  | .hbm, ⟨4, _⟩ => ⟨S32x4, .f32⟩
  | .hbm, ⟨5, _⟩ => ⟨S1x1024, .f32⟩
  | .hbm, ⟨6, _⟩ => ⟨S32x4x1x256, .f32⟩
  | .hbm, ⟨7, _⟩ => ⟨S32x4x1x1, .f32⟩
  | .hbm, ⟨8, _⟩ => ⟨S32x8x1024, .f32⟩
  | .hbm, ⟨9, _⟩ => ⟨S32x4x256x256, .f32⟩
  | .hbm, ⟨10, _⟩ => ⟨S32x4x1x256, .f32⟩
  | .hbm, ⟨11, _⟩ => ⟨S32x4x1x1, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x128, .f32⟩
  | .local _ .vmem, ⟨9, _⟩ => ⟨S1x8x128, .f32⟩
  | .local _ .vmem, ⟨10, _⟩ => ⟨S1x1024, .f32⟩
  | .local _ .vmem, ⟨11, _⟩ => ⟨S1x4x256x256, .f32⟩
  | .local _ .vmem, ⟨12, _⟩ => ⟨S1x4x256x256, .f32⟩
  | .local _ .vmem, ⟨13, _⟩ => ⟨S1x4x1x256, .f32⟩
  | .local _ .vmem, ⟨14, _⟩ => ⟨S1x4x1x256, .f32⟩
  | .local _ .vmem, ⟨15, _⟩ => ⟨S1x4x1x1, .f32⟩
  | .local _ .vmem, ⟨16, _⟩ => ⟨S1x4x1x1, .f32⟩
  | .local _ .vmem, ⟨17, _⟩ => ⟨S1x8x1024, .f32⟩
  | .local _ .vmem, ⟨18, _⟩ => ⟨S1x8x1024, .f32⟩
  | .local _ .vmem, ⟨19, _⟩ => ⟨S1x4x256x256, .f32⟩
  | .local _ .vmem, ⟨20, _⟩ => ⟨S1x4x256x256, .f32⟩
  | .local _ .vmem, ⟨21, _⟩ => ⟨S1x4x1x256, .f32⟩
  | .local _ .vmem, ⟨22, _⟩ => ⟨S1x4x1x256, .f32⟩
  | .local _ .vmem, ⟨23, _⟩ => ⟨S1x4x1x1, .f32⟩
  | .local _ .vmem, ⟨24, _⟩ => ⟨S1x4x1x1, .f32⟩
  | _, _ => ⟨S32x8x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c68_i32 : BitVec 32 := 68#32
  let c0_i32 : BitVec 32 := 0#32
  ![arg0.toNat, arg1.toNat, c68_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RefSIdeal.lean ====
abbrev S32x8x9216 : Shape := ⟨3, ![32, 8, 9216]⟩
abbrev S1024 : Shape := ⟨1, ![1024]⟩
abbrev S32x4x256x256 : Shape := ⟨4, ![32, 4, 256, 256]⟩
abbrev S32x4x256 : Shape := ⟨3, ![32, 4, 256]⟩
abbrev S32x4 : Shape := ⟨2, ![32, 4]⟩
abbrev S32x4x1024 : Shape := ⟨3, ![32, 4, 1024]⟩
abbrev S32x4x4 : Shape := ⟨3, ![32, 4, 4]⟩
abbrev S32x4x4x256 : Shape := ⟨4, ![32, 4, 4, 256]⟩
abbrev S_ : Shape := ⟨0, ![]⟩
abbrev S4x4 : Shape := ⟨2, ![4, 4]⟩
abbrev S32x4x4x1 : Shape := ⟨4, ![32, 4, 4, 1]⟩
abbrev S32x4x1x4 : Shape := ⟨4, ![32, 4, 1, 4]⟩
abbrev S32x4x4x4 : Shape := ⟨4, ![32, 4, 4, 4]⟩
abbrev S32x4x1 : Shape := ⟨3, ![32, 4, 1]⟩
abbrev S32x4x1x1 : Shape := ⟨4, ![32, 4, 1, 1]⟩
abbrev S1x1x1024 : Shape := ⟨3, ![1, 1, 1024]⟩
abbrev S32x8x1024 : Shape := ⟨3, ![32, 8, 1024]⟩
abbrev S32x4x1x256 : Shape := ⟨4, ![32, 4, 1, 256]⟩

abbrev nBuf : Space → Nat
  | .hbm => 169
  | .vmem => 0
  | .smem => 0
  | _ => 0

abbrev hbmTy0_0 (i : Nat) : BufTy := match i % 128 with
  | 0 => ⟨S32x8x9216, .f32⟩
  | 1 => ⟨S1024, .f32⟩
  | 2 => ⟨S32x4x256x256, .f32⟩
  | 3 => ⟨S32x4x256, .f32⟩
  | 4 => ⟨S32x4, .f32⟩
  | 5 => ⟨S32x4x1024, .f32⟩
  | 6 => ⟨S32x4x1024, .f32⟩
  | 7 => ⟨S32x4x1024, .f32⟩
  | 8 => ⟨S32x4x4, .f32⟩
  | 9 => ⟨S32x4x4, .f32⟩
  | 10 => ⟨S32x4x1024, .f32⟩
  | 11 => ⟨S32x4x4x256, .f32⟩
  | 12 => ⟨S32x4x4x256, .f32⟩
  | 13 => ⟨S32x4x4x256, .f32⟩
  | 14 => ⟨S32x4x4x256, .f32⟩
  | 15 => ⟨S_, .f32⟩
  | 16 => ⟨S32x4x4x256, .f32⟩
  | 17 => ⟨S32x4x4x256, .f32⟩
  | 18 => ⟨S32x4x4x256, .f32⟩
  | 19 => ⟨S32x4x4x256, .f32⟩
  | 20 => ⟨S32x4x4, .f32⟩
  | 21 => ⟨S32x4x4, .f32⟩
  | 22 => ⟨S_, .f32⟩
  | 23 => ⟨S32x4x4, .f32⟩
  | 24 => ⟨S32x4x4, .f32⟩
  | 25 => ⟨S32x4x4, .f32⟩
  | 26 => ⟨S32x4x4, .f32⟩
  | 27 => ⟨S32x4x4, .i1⟩
  | 28 => ⟨S32x4x4, .f32⟩
  | 29 => ⟨S32x4x4, .f32⟩
  | 30 => ⟨S32x4x4, .f32⟩
  | 31 => ⟨S32x4x4, .f32⟩
  | 32 => ⟨S32x4x4, .f32⟩
  | 33 => ⟨S32x4x4, .f32⟩
  | 34 => ⟨S32x4x4, .f32⟩
  | 35 => ⟨S32x4x4, .f32⟩
  | 36 => ⟨S32x4x4, .f32⟩
  | 37 => ⟨S32x4x4, .f32⟩
  | 38 => ⟨S_, .i1⟩
  | 39 => ⟨S4x4, .i1⟩
  | 40 => ⟨S4x4, .i32⟩
  | 41 => ⟨S_, .i32⟩
  | 42 => ⟨S4x4, .i32⟩
  | 43 => ⟨S4x4, .i32⟩
  | 44 => ⟨S4x4, .i32⟩
  | 45 => ⟨S4x4, .i1⟩
  | 46 => ⟨S_, .i1⟩
  | 47 => ⟨S4x4, .i1⟩
  | 48 => ⟨S4x4, .i1⟩
  | 49 => ⟨S_, .f32⟩
  | 50 => ⟨S_, .f32⟩
  | 51 => ⟨S32x4x4, .f32⟩
  | 52 => ⟨S32x4x4x1, .f32⟩
  | 53 => ⟨S32x4x1x4, .f32⟩
  | 54 => ⟨S32x4x4x4, .f32⟩
  | 55 => ⟨S32x4x4x4, .f32⟩
  | 56 => ⟨S32x4x4x4, .f32⟩
  | 57 => ⟨S32x4x1x4, .f32⟩
  | 58 => ⟨S32x4x4x4, .f32⟩
  | 59 => ⟨S32x4x4x4, .f32⟩
  | 60 => ⟨S_, .f32⟩
  | 61 => ⟨S_, .f32⟩
  | 62 => ⟨S32x4x4x4, .i1⟩
  | 63 => ⟨S32x4x4x4, .f32⟩
  | 64 => ⟨S32x4x4x4, .f32⟩
  | 65 => ⟨S32x4x1, .f32⟩
  | 66 => ⟨S32x4x4, .f32⟩
  | 67 => ⟨S32x4x4, .f32⟩
  | 68 => ⟨S_, .f32⟩
  | 69 => ⟨S32x4x4, .f32⟩
  | 70 => ⟨S32x4x4, .f32⟩
  | 71 => ⟨S32x4x4, .f32⟩
  | 72 => ⟨S32x4x4, .f32⟩
  | 73 => ⟨S32x4x4x4, .f32⟩
  | 74 => ⟨S32x4x4x1, .f32⟩
  | 75 => ⟨S32x4x4x4, .f32⟩
  | 76 => ⟨S32x4x4x4, .f32⟩
  | 77 => ⟨S32x4x4x4, .f32⟩
  | 78 => ⟨S32x4x4x4, .f32⟩
  | 79 => ⟨S32x4x4x1, .f32⟩
  | 80 => ⟨S32x4x4x256, .f32⟩
  | 81 => ⟨S32x4x4x256, .f32⟩
  | 82 => ⟨S32x4x4x256, .f32⟩
  | 83 => ⟨S32x4x4x256, .f32⟩
  | 84 => ⟨S32x4x4x256, .f32⟩
  | 85 => ⟨S32x4x4, .f32⟩
  | 86 => ⟨S32x4x4, .f32⟩
  | 87 => ⟨S_, .f32⟩
  | 88 => ⟨S32x4x4, .f32⟩
  | 89 => ⟨S32x4x4, .f32⟩
  | 90 => ⟨S32x4x4, .f32⟩
  | 91 => ⟨S32x4x4, .f32⟩
  | 92 => ⟨S32x4x4, .f32⟩
  | 93 => ⟨S32x4x4, .f32⟩
  | 94 => ⟨S32x4x4x1, .f32⟩
  | 95 => ⟨S32x4x4x256, .f32⟩
  | 96 => ⟨S32x4x4x256, .f32⟩
  | 97 => ⟨S32x4x1, .f32⟩
  | 98 => ⟨S32x4, .f32⟩
  | 99 => ⟨S32x4x1, .f32⟩
  | 100 => ⟨S32x4x4, .f32⟩
  | 101 => ⟨S32x4x4, .f32⟩
  | 102 => ⟨S32x4x4, .f32⟩
  | 103 => ⟨S32x4, .f32⟩
  | 104 => ⟨S_, .f32⟩
  | 105 => ⟨S32x4, .f32⟩
  | 106 => ⟨S32x4, .f32⟩
  | 107 => ⟨S32x4x1, .f32⟩
  | 108 => ⟨S32x4x4, .f32⟩
  | 109 => ⟨S32x4x4, .f32⟩
  | 110 => ⟨S32x4x4, .f32⟩
  | 111 => ⟨S32x4, .f32⟩
  | 112 => ⟨S32x4, .f32⟩
  | 113 => ⟨S32x4, .f32⟩
  | 114 => ⟨S32x4x1x1, .f32⟩
  | 115 => ⟨S32x4x256x256, .f32⟩
  | 116 => ⟨S32x4x256x256, .f32⟩
  | 117 => ⟨S32x4x4x1, .f32⟩
  | 118 => ⟨S32x4x4x256, .f32⟩
  | 119 => ⟨S32x4x4x256, .f32⟩
  | 120 => ⟨S32x4x256x256, .f32⟩
  | 121 => ⟨S32x4x256x256, .f32⟩
  | 122 => ⟨S32x4x1, .f32⟩
  | 123 => ⟨S32x4x256, .f32⟩
  | 124 => ⟨S32x4x256, .f32⟩
  | 125 => ⟨S32x4x256, .f32⟩
  | 126 => ⟨S32x4x256, .f32⟩
  | 127 => ⟨S32x4x4x256, .f32⟩
  | _ => ⟨S32x8x9216, .f32⟩

abbrev hbmTy0_1 (i : Nat) : BufTy := match i % 128 with
  | 0 => ⟨S_, .f32⟩
  | 1 => ⟨S32x4x4, .f32⟩
  | 2 => ⟨S32x4x4x1, .f32⟩
  | 3 => ⟨S_, .f32⟩
  | 4 => ⟨S32x4x4x1, .f32⟩
  | 5 => ⟨S32x4x4x1, .f32⟩
  | 6 => ⟨S32x4x4x256, .f32⟩
  | 7 => ⟨S32x4x4x256, .f32⟩
  | 8 => ⟨S32x4x4x256, .f32⟩
  | 9 => ⟨S_, .f32⟩
  | 10 => ⟨S32x4x4, .f32⟩
  | 11 => ⟨S32x4x4x1, .f32⟩
  | 12 => ⟨S_, .f32⟩
  | 13 => ⟨S32x4x4x1, .f32⟩
  | 14 => ⟨S32x4x4x1, .f32⟩
  | 15 => ⟨S32x4x4x256, .f32⟩
  | 16 => ⟨S32x4x4x256, .f32⟩
  | 17 => ⟨S_, .f32⟩
  | 18 => ⟨S32x4x4x1, .f32⟩
  | 19 => ⟨S32x4x4x1, .f32⟩
  | 20 => ⟨S32x4x4x1, .f32⟩
  | 21 => ⟨S32x4x4x256, .f32⟩
  | 22 => ⟨S32x4x4x256, .f32⟩
  | 23 => ⟨S32x4x1024, .f32⟩
  | 24 => ⟨S1x1x1024, .f32⟩
  | 25 => ⟨S32x4x1024, .f32⟩
  | 26 => ⟨S32x4x1024, .f32⟩
  | 27 => ⟨S32x4x1024, .f32⟩
  | 28 => ⟨S32x4x1024, .f32⟩
  | 29 => ⟨S_, .f32⟩
  | 30 => ⟨S32x4x1024, .f32⟩
  | 31 => ⟨S32x4x1024, .f32⟩
  | 32 => ⟨S_, .f32⟩
  | 33 => ⟨S32x4x1024, .f32⟩
  | 34 => ⟨S32x4x1024, .f32⟩
  | 35 => ⟨S32x4x1024, .f32⟩
  | 36 => ⟨S_, .f32⟩
  | 37 => ⟨S32x4x1024, .f32⟩
  | 38 => ⟨S32x8x1024, .f32⟩
  | 39 => ⟨S32x4x1x256, .f32⟩
  | 40 => ⟨S32x4x1x1, .f32⟩
  | _ => ⟨S32x8x9216, .f32⟩

abbrev hbmTy (i : Nat) : BufTy := match i / 128 with
  | 0 => hbmTy0_0 i
  | 1 => hbmTy0_1 i
  | _ => ⟨S32x8x9216, .f32⟩

abbrev bufTy : (tb : Table) → Fin (tcTables nBuf tb) → BufTy
  | .hbm, ⟨i, _⟩ => hbmTy i
  | _, _ => ⟨S32x8x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_0 : Ref sig .tc := ⟨.hbm, 46, rfl⟩
abbrev main_call1_v5 : Ref sig .tc := ⟨.hbm, 47, rfl⟩
abbrev main_v18 : Ref sig .tc := ⟨.hbm, 48, rfl⟩
abbrev main_call2_call0_cst : Ref sig .tc := ⟨.hbm, 49, rfl⟩
abbrev main_call2_call0_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_0 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_1 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_2 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_3 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_4 : Ref sig .tc := ⟨.hbm, 128, rfl⟩
abbrev main_v89 : Ref sig .tc := ⟨.hbm, 129, rfl⟩
abbrev main_v90 : Ref sig .tc := ⟨.hbm, 130, rfl⟩
abbrev main_cst_5 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_6 : Ref sig .tc := ⟨.hbm, 137, rfl⟩
abbrev main_v96 : Ref sig .tc := ⟨.hbm, 138, rfl⟩
abbrev main_v97 : Ref sig .tc := ⟨.hbm, 139, rfl⟩
abbrev main_cst_7 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_8 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_9 : Ref sig .tc := ⟨.hbm, 157, rfl⟩
abbrev main_v113 : Ref sig .tc := ⟨.hbm, 158, rfl⟩
abbrev main_v114 : Ref sig .tc := ⟨.hbm, 159, rfl⟩
abbrev main_cst_10 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_11 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩

abbrev nD : Nat := 1
abbrev τ : Topo := Topo.v7x

variable {F : FTy → Type} [FloatOps F]
-- ==== KernelIn.lean ====
abbrev S4x4096x1024 : Shape := ⟨3, ![4, 4096, 1024]⟩
abbrev S1024 : Shape := ⟨1, ![1024]⟩
abbrev S4x1x1024 : Shape := ⟨3, ![4, 1, 1024]⟩
abbrev S1024x8760 : Shape := ⟨2, ![1024, 8760]⟩
abbrev S8760 : Shape := ⟨1, ![8760]⟩
abbrev S1024x4096 : Shape := ⟨2, ![1024, 4096]⟩
abbrev S1024x1024 : Shape := ⟨2, ![1024, 1024]⟩
abbrev S1024x1536 : Shape := ⟨2, ![1024, 1536]⟩
abbrev S1024x8 : Shape := ⟨2, ![1024, 8]⟩
abbrev S1024x48 : Shape := ⟨2, ![1024, 48]⟩
abbrev S_ : Shape := ⟨0, ![]⟩
abbrev S1024x72 : Shape := ⟨2, ![1024, 72]⟩
abbrev S1024x384 : Shape := ⟨2, ![1024, 384]⟩
abbrev S1024x9216 : Shape := ⟨2, ![1024, 9216]⟩
abbrev S4096 : Shape := ⟨1, ![4096]⟩
abbrev S1536 : Shape := ⟨1, ![1536]⟩
abbrev S8 : Shape := ⟨1, ![8]⟩
abbrev S48 : Shape := ⟨1, ![48]⟩
abbrev S72 : Shape := ⟨1, ![72]⟩
abbrev S384 : Shape := ⟨1, ![384]⟩
abbrev S9216 : Shape := ⟨1, ![9216]⟩
abbrev S1x1024 : Shape := ⟨2, ![1, 1024]⟩
abbrev S1x9216 : Shape := ⟨2, ![1, 9216]⟩
abbrev S4x4096x9216 : Shape := ⟨3, ![4, 4096, 9216]⟩
abbrev S1x1024x1024 : Shape := ⟨3, ![1, 1024, 1024]⟩
abbrev S1x1x1024 : Shape := ⟨3, ![1, 1, 1024]⟩
abbrev S1024x1 : Shape := ⟨2, ![1024, 1]⟩

abbrev nBuf : Space → Nat
  | .hbm => 34
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8760, .f32⟩
  | .hbm, ⟨5, _⟩ => ⟨S8760, .f32⟩
  | .hbm, ⟨6, _⟩ => ⟨S1024x4096, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1536, .f32⟩
  | .hbm, ⟨11, _⟩ => ⟨S1024x8, .f32⟩
  | .hbm, ⟨12, _⟩ => ⟨S1024x48, .f32⟩
  | .hbm, ⟨13, _⟩ => ⟨S_, .f32⟩
  | .hbm, ⟨14, _⟩ => ⟨S1024x72, .f32⟩
  | .hbm, ⟨15, _⟩ => ⟨S_, .f32⟩
  | .hbm, ⟨16, _⟩ => ⟨S1024x384, .f32⟩
  | .hbm, ⟨17, _⟩ => ⟨S1024x9216, .f32⟩
  | .hbm, ⟨18, _⟩ => ⟨S1024x9216, .bf16⟩
  | .hbm, ⟨19, _⟩ => ⟨S4096, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1536, .f32⟩
  | .hbm, ⟨24, _⟩ => ⟨S8, .f32⟩
  | .hbm, ⟨25, _⟩ => ⟨S48, .f32⟩
  | .hbm, ⟨26, _⟩ => ⟨S_, .f32⟩
  | .hbm, ⟨27, _⟩ => ⟨S72, .f32⟩
  | .hbm, ⟨28, _⟩ => ⟨S_, .f32⟩
  | .hbm, ⟨29, _⟩ => ⟨S384, .f32⟩
  | .hbm, ⟨30, _⟩ => ⟨S9216, .f32⟩
  | .hbm, ⟨31, _⟩ => ⟨S1x1024, .f32⟩
  | .hbm, ⟨32, _⟩ => ⟨S1x9216, .f32⟩
  | .hbm, ⟨33, _⟩ => ⟨S4x4096x9216, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== RefInIdeal.lean ====
abbrev S4x4096x1024 : Shape := ⟨3, ![4, 4096, 1024]⟩
abbrev S1024 : Shape := ⟨1, ![1024]⟩
abbrev S4x1x1024 : Shape := ⟨3, ![4, 1, 1024]⟩
abbrev S1024x8760 : Shape := ⟨2, ![1024, 8760]⟩
abbrev S8760 : Shape := ⟨1, ![8760]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8760 : Shape := ⟨3, ![4, 4096, 8760]⟩
abbrev S1x1x8760 : Shape := ⟨3, ![1, 1, 8760]⟩
abbrev S4x4096x4 : Shape := ⟨3, ![4, 4096, 4]⟩
abbrev S4x4096x1536 : Shape := ⟨3, ![4, 4096, 1536]⟩
abbrev S4x4096x48 : Shape := ⟨3, ![4, 4096, 48]⟩
abbrev S4x4096x456 : Shape := ⟨3, ![4, 4096, 456]⟩
abbrev S4x4096x9216 : Shape := ⟨3, ![4, 4096, 9216]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8760, .f32⟩
  | .hbm, ⟨5, _⟩ => ⟨S8760, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x8760, .f32⟩
  | .hbm, ⟨30, _⟩ => ⟨S1x1x8760, .f32⟩
  | .hbm, ⟨31, _⟩ => ⟨S4x4096x8760, .f32⟩
  | .hbm, ⟨32, _⟩ => ⟨S4x4096x8760, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x4, .f32⟩
  | .hbm, ⟨38, _⟩ => ⟨S4x4096x4, .f32⟩
  | .hbm, ⟨39, _⟩ => ⟨S4x4096x1024, .f32⟩
  | .hbm, ⟨40, _⟩ => ⟨S4x4096x1536, .f32⟩
  | .hbm, ⟨41, _⟩ => ⟨S4x4096x48, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096x456, .f32⟩
  | .hbm, ⟨46, _⟩ => ⟨S4x4096x9216, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== KernelMix.lean ====
abbrev S4x4096x1024 : Shape := ⟨3, ![4, 4096, 1024]⟩
abbrev S4x4096x9216 : Shape := ⟨3, ![4, 4096, 9216]⟩
abbrev S4x1x1024 : Shape := ⟨3, ![4, 1, 1024]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x9216, .f32⟩
  | .hbm, ⟨4, _⟩ => ⟨S4x1x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefMixIdeal.lean ====
abbrev S4x4096x1024 : Shape := ⟨3, ![4, 4096, 1024]⟩
abbrev S4x4096x9216 : Shape := ⟨3, ![4, 4096, 9216]⟩
abbrev S4x1x1024 : Shape := ⟨3, ![4, 1, 1024]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x9216, .f32⟩
  | .hbm, ⟨4, _⟩ => ⟨S4x1x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x1024, .f32⟩
  | .hbm, ⟨45, _⟩ => ⟨S4x4096x1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== KernelFfn.lean ====
abbrev S4x4096x1024 : Shape := ⟨3, ![4, 4096, 1024]⟩
abbrev S1024 : Shape := ⟨1, ![1024]⟩
abbrev S4x1x1024 : Shape := ⟨3, ![4, 1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S1x1024 : Shape := ⟨2, ![1, 1024]⟩
abbrev S4x8x2x5632 : Shape := ⟨4, ![4, 8, 2, 5632]⟩
abbrev S1x512x1024 : Shape := ⟨3, ![1, 512, 1024]⟩
abbrev S1x1x1024 : Shape := ⟨3, ![1, 1, 1024]⟩
abbrev S1x1x2x5632 : Shape := ⟨4, ![1, 1, 2, 5632]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S8x1 : Shape := ⟨2, ![8, 1]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩
abbrev S504x256 : Shape := ⟨2, ![504, 256]⟩
abbrev S2x256 : Shape := ⟨2, ![2, 256]⟩
abbrev S1x1x2x256 : Shape := ⟨4, ![1, 1, 2, 256]⟩
abbrev S3x256 : Shape := ⟨2, ![3, 256]⟩
abbrev S256x1024 : Shape := ⟨2, ![256, 1024]⟩

abbrev nBuf : Space → Nat
  | .hbm => 17
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024x5632, .bf16⟩
  | .hbm, ⟨11, _⟩ => ⟨S2816x1024, .bf16⟩
  | .hbm, ⟨12, _⟩ => ⟨S1x5632, .f32⟩
  | .hbm, ⟨13, _⟩ => ⟨S1x1024, .f32⟩
  | .hbm, ⟨14, _⟩ => ⟨S1x1024, .f32⟩
  | .hbm, ⟨15, _⟩ => ⟨S4x4096x1024, .f32⟩
  | .hbm, ⟨16, _⟩ => ⟨S4x8x2x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x512x1024, .f32⟩
  | .local _ .vmem, ⟨15, _⟩ => ⟨S1x512x1024, .f32⟩
  | .local _ .vmem, ⟨16, _⟩ => ⟨S1x1x2x5632, .f32⟩
  | .local _ .vmem, ⟨17, _⟩ => ⟨S1x1x2x5632, .f32⟩
  | .local _ .vmem, ⟨18, _⟩ => ⟨S8x5632, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RefFfnIdeal.lean ====
abbrev S4x4096x1024 : Shape := ⟨3, ![4, 4096, 1024]⟩
abbrev S1024 : Shape := ⟨1, ![1024]⟩
abbrev S4x1x1024 : Shape := ⟨3, ![4, 1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x2x5632 : Shape := ⟨3, ![4, 2, 5632]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩
abbrev S4x8x512x5632 : Shape := ⟨4, ![4, 8, 512, 5632]⟩
abbrev S4x8x2x5632 : Shape := ⟨4, ![4, 8, 2, 5632]⟩

abbrev nBuf : Space → Nat
  | .hbm => 103
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x2x5632, .f32⟩
  | .hbm, ⟨35, _⟩ => ⟨S4x4096x5632, .f32⟩
  | .hbm, ⟨36, _⟩ => ⟨S4x4098x5632, .f32⟩
  | .hbm, ⟨37, _⟩ => ⟨S1x5632, .f32⟩
  | .hbm, ⟨38, _⟩ => ⟨S5632, .f32⟩
  | .hbm, ⟨39, _⟩ => ⟨S4x4096x5632, .f32⟩
  | .hbm, ⟨40, _⟩ => ⟨S1x1x5632, .f32⟩
  | .hbm, ⟨41, _⟩ => ⟨S4x4096x5632, .f32⟩
  | .hbm, ⟨42, _⟩ => ⟨S4x4096x5632, .f32⟩
  | .hbm, ⟨43, _⟩ => ⟨S1x1x5632, .f32⟩
  | .hbm, ⟨44, _⟩ => ⟨S4x4096x5632, .f32⟩
  | .hbm, ⟨45, _⟩ => ⟨S4x4096x5632, .f32⟩
  | .hbm, ⟨46, _⟩ => ⟨S1x5632, .f32⟩
  | .hbm, ⟨47, _⟩ => ⟨S5632, .f32⟩
  | .hbm, ⟨48, _⟩ => ⟨S4x4096x5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S1x5632, .f32⟩
  | .hbm, ⟨54, _⟩ => ⟨S5632, .f32⟩
  | .hbm, ⟨55, _⟩ => ⟨S4x4096x5632, .f32⟩
  | .hbm, ⟨56, _⟩ => ⟨S1x1x5632, .f32⟩
  | .hbm, ⟨57, _⟩ => ⟨S4x4096x5632, .f32⟩
  | .hbm, ⟨58, _⟩ => ⟨S4x4096x5632, .f32⟩
  | .hbm, ⟨59, _⟩ => ⟨S4x4096x5632, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S_, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S_, .f32⟩
  | .hbm, ⟨73, _⟩ => ⟨S4x4096x2816, .f32⟩
  | .hbm, ⟨74, _⟩ => ⟨S4x4096x2816, .f32⟩
  | .hbm, ⟨75, _⟩ => ⟨S_, .f32⟩
  | .hbm, ⟨76, _⟩ => ⟨S4x4096x2816, .f32⟩
  | .hbm, ⟨77, _⟩ => ⟨S4x4096x2816, .f32⟩
  | .hbm, ⟨78, _⟩ => ⟨S4x4096x2816, .f32⟩
  | .hbm, ⟨79, _⟩ => ⟨S4x4096x2816, .f32⟩
  | .hbm, ⟨80, _⟩ => ⟨S4x4096x1024, .f32⟩
  | .hbm, ⟨81, _⟩ => ⟨S4x4096x5632, .f32⟩
  | .hbm, ⟨82, _⟩ => ⟨S4x8x512x5632, .f32⟩
  | .hbm, ⟨83, _⟩ => ⟨S4x8x2x5632, .f32⟩
  | .hbm, ⟨84, _⟩ => ⟨S4x4096x1024, .f32⟩
  | .hbm, ⟨85, _⟩ => ⟨S_, .f32⟩
  | .hbm, ⟨86, _⟩ => ⟨S4x4096, .f32⟩
  | .hbm, ⟨87, _⟩ => ⟨S4x4096x1, .f32⟩
  | .hbm, ⟨88, _⟩ => ⟨S_, .f32⟩
  | .hbm, ⟨89, _⟩ => ⟨S4x4096x1, .f32⟩
  | .hbm, ⟨90, _⟩ => ⟨S4x4096x1, .f32⟩
  | .hbm, ⟨91, _⟩ => ⟨S_, .f32⟩
  | .hbm, ⟨92, _⟩ => ⟨S4x4096x1, .f32⟩
  | .hbm, ⟨93, _⟩ => ⟨S4x4096x1, .f32⟩
  | .hbm, ⟨94, _⟩ => ⟨S4x4096x1, .f32⟩
  | .hbm, ⟨95, _⟩ => ⟨S4x4096x1024, .f32⟩
  | .hbm, ⟨96, _⟩ => ⟨S4x4096x1024, .f32⟩
  | .hbm, ⟨97, _⟩ => ⟨S1x1x1024, .f32⟩
  | .hbm, ⟨98, _⟩ => ⟨S4x4096x1024, .f32⟩
  | .hbm, ⟨99, _⟩ => ⟨S4x4096x1024, .f32⟩
  | .hbm, ⟨100, _⟩ => ⟨S4x4096x1024, .f32⟩
  | .hbm, ⟨101, _⟩ => ⟨S4x4096x1024, .f32⟩
  | .hbm, ⟨102, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_cst_10 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== KernelRope.lean ====
abbrev S4x4096x9216 : Shape := ⟨3, ![4, 4096, 9216]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x128 : Shape := ⟨2, ![4096, 128]⟩
abbrev S4x4096x1024 : Shape := ⟨3, ![4, 4096, 1024]⟩
abbrev S4x4096x512 : Shape := ⟨3, ![4, 4096, 512]⟩
abbrev S4x4096x256 : Shape := ⟨3, ![4, 4096, 256]⟩
abbrev S4x320x4096 : Shape := ⟨3, ![4, 320, 4096]⟩
abbrev S1x512x1024 : Shape := ⟨3, ![1, 512, 1024]⟩
abbrev S1x512x512 : Shape := ⟨3, ![1, 512, 512]⟩
abbrev S512x128 : Shape := ⟨2, ![512, 128]⟩
abbrev S1x512x256 : Shape := ⟨3, ![1, 512, 256]⟩
abbrev S1x320x512 : Shape := ⟨3, ![1, 320, 512]⟩
abbrev S512x1024 : Shape := ⟨2, ![512, 1024]⟩
abbrev S512x512 : Shape := ⟨2, ![512, 512]⟩
abbrev S512x256 : Shape := ⟨2, ![512, 256]⟩
abbrev S16x512 : Shape := ⟨2, ![16, 512]⟩
abbrev S256x512 : Shape := ⟨2, ![256, 512]⟩
abbrev S64x512 : Shape := ⟨2, ![64, 512]⟩
abbrev S320x512 : Shape := ⟨2, ![320, 512]⟩

abbrev nBuf : Space → Nat
  | .hbm => 39
  | .vmem => 30
  | .smem => 0
  | _ => 0

abbrev bufTy : (tb : Table) → Fin (tcTables nBuf tb) → BufTy
  | .hbm, ⟨0, _⟩ => ⟨S4x4096x9216, .f32⟩
  | .hbm, ⟨1, _⟩ => ⟨S4096, .i32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S4096, .f32⟩
  | .hbm, ⟨11, _⟩ => ⟨S4096x1, .f32⟩
  | .hbm, ⟨12, _⟩ => ⟨S1x8, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S_, .f32⟩
  | .hbm, ⟨19, _⟩ => ⟨S4096x8, .f32⟩
  | .hbm, ⟨20, _⟩ => ⟨S_, .f32⟩
  | .hbm, ⟨21, _⟩ => ⟨S4096x48, .f32⟩
  | .hbm, ⟨22, _⟩ => ⟨S_, .f32⟩
  | .hbm, ⟨23, _⟩ => ⟨S4096x48, .f32⟩
  | .hbm, ⟨24, _⟩ => ⟨S4096x64, .f32⟩
  | .hbm, ⟨25, _⟩ => ⟨S4096x64, .f32⟩
  | .hbm, ⟨26, _⟩ => ⟨S4096x8, .f32⟩
  | .hbm, ⟨27, _⟩ => ⟨S4096x64, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S4x4096x1024, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x256, .bf16⟩
  | .hbm, ⟨36, _⟩ => ⟨S4x320x4096, .bf16⟩
  | .hbm, ⟨37, _⟩ => ⟨S4x4096x256, .bf16⟩
  | .hbm, ⟨38, _⟩ => ⟨S4x320x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x1024, .f32⟩
  | .local _ .vmem, ⟨15, _⟩ => ⟨S1x512x1024, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x256, .bf16⟩
  | .local _ .vmem, ⟨23, _⟩ => ⟨S1x512x256, .bf16⟩
  | .local _ .vmem, ⟨24, _⟩ => ⟨S1x320x512, .bf16⟩
  | .local _ .vmem, ⟨25, _⟩ => ⟨S1x320x512, .bf16⟩
  | .local _ .vmem, ⟨26, _⟩ => ⟨S1x512x256, .bf16⟩
  | .local _ .vmem, ⟨27, _⟩ => ⟨S1x512x256, .bf16⟩
  | .local _ .vmem, ⟨28, _⟩ => ⟨S1x320x512, .bf16⟩
  | .local _ .vmem, ⟨29, _⟩ => ⟨S1x320x512, .bf16⟩
  | _, _ => ⟨S4x4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev main_v25_2 : Ref sig .tc := ⟨.hbm, 33, rfl⟩
abbrev main_v25_3 : Ref sig .tc := ⟨.hbm, 34, rfl⟩
abbrev main_v25_4 : Ref sig .tc := ⟨.hbm, 35, rfl⟩
abbrev main_v25_5 : Ref sig .tc := ⟨.hbm, 36, rfl⟩
abbrev main_v25_6 : Ref sig .tc := ⟨.hbm, 37, rfl⟩
abbrev main_v25_7 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x320x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x320x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RefRopeIdeal.lean ====
abbrev S4x4096x9216 : Shape := ⟨3, ![4, 4096, 9216]⟩
abbrev S4096 : Shape := ⟨1, ![4096]⟩
abbrev S4x4096x1024 : Shape := ⟨3, ![4, 4096, 1024]⟩
abbrev S4x4096x16x64 : Shape := ⟨4, ![4, 4096, 16, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x16x8 : Shape := ⟨4, ![4, 4096, 16, 8]⟩
abbrev S4x4096x16x48 : Shape := ⟨4, ![4, 4096, 16, 48]⟩
abbrev S1x4096x1x8 : Shape := ⟨4, ![1, 4096, 1, 8]⟩
abbrev S4x4096x1536 : Shape := ⟨3, ![4, 4096, 1536]⟩
abbrev S4x4096x3x2x4x64 : Shape := ⟨6, ![4, 4096, 3, 2, 4, 64]⟩
abbrev S4x4096x3x1x4x64 : Shape := ⟨6, ![4, 4096, 3, 1, 4, 64]⟩
abbrev S4x4096x3x4x64 : Shape := ⟨5, ![4, 4096, 3, 4, 64]⟩
abbrev S4x4096x12x64 : Shape := ⟨4, ![4, 4096, 12, 64]⟩
abbrev S4x4096x12x8 : Shape := ⟨4, ![4, 4096, 12, 8]⟩
abbrev S4x4096x12x48 : Shape := ⟨4, ![4, 4096, 12, 48]⟩
abbrev S4x4096x1x2x4x64 : Shape := ⟨6, ![4, 4096, 1, 2, 4, 64]⟩
abbrev S4x4096x2x4x64 : Shape := ⟨5, ![4, 4096, 2, 4, 64]⟩
abbrev S4x4x16x4096 : Shape := ⟨4, ![4, 4, 16, 4096]⟩
abbrev S4x4096x512 : Shape := ⟨3, ![4, 4096, 512]⟩
abbrev S4x4096x1x4x64 : Shape := ⟨5, ![4, 4096, 1, 4, 64]⟩
abbrev S4x4096x4x64 : Shape := ⟨4, ![4, 4096, 4, 64]⟩
abbrev S4x4096x256 : Shape := ⟨3, ![4, 4096, 256]⟩
abbrev S4x4x64x4096 : Shape := ⟨4, ![4, 4, 64, 4096]⟩
abbrev S4x4x80x4096 : Shape := ⟨4, ![4, 4, 80, 4096]⟩
abbrev S4x320x4096 : Shape := ⟨3, ![4, 320, 4096]⟩

abbrev nBuf : Space → Nat
  | .hbm => 119
  | .vmem => 0
  | .smem => 0
  | _ => 0

abbrev bufTy : (tb : Table) → Fin (tcTables nBuf tb) → BufTy
  | .hbm, ⟨0, _⟩ => ⟨S4x4096x9216, .f32⟩
  | .hbm, ⟨1, _⟩ => ⟨S4096, .i32⟩
  | .hbm, ⟨2, _⟩ => ⟨S4x4096x1024, .f32⟩
  | .hbm, ⟨3, _⟩ => ⟨S4x4096x16x64, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S4096, .f32⟩
  | .hbm, ⟨13, _⟩ => ⟨S4096x1, .f32⟩
  | .hbm, ⟨14, _⟩ => ⟨S1x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x1x8, .f32⟩
  | .hbm, ⟨20, _⟩ => ⟨S4096x8, .f32⟩
  | .hbm, ⟨21, _⟩ => ⟨S4096x1x8, .f32⟩
  | .hbm, ⟨22, _⟩ => ⟨S4x4096x16x8, .f32⟩
  | .hbm, ⟨23, _⟩ => ⟨S4x4096x16x8, .f32⟩
  | .hbm, ⟨24, _⟩ => ⟨S4x4096x16x48, .f32⟩
  | .hbm, ⟨25, _⟩ => ⟨S1x4096x1x8, .f32⟩
  | .hbm, ⟨26, _⟩ => ⟨S4x4096x16x8, .f32⟩
  | .hbm, ⟨27, _⟩ => ⟨S4x4096x16x8, .f32⟩
  | .hbm, ⟨28, _⟩ => ⟨S1x4096x1x8, .f32⟩
  | .hbm, ⟨29, _⟩ => ⟨S4x4096x16x8, .f32⟩
  | .hbm, ⟨30, _⟩ => ⟨S4x4096x16x8, .f32⟩
  | .hbm, ⟨31, _⟩ => ⟨S4x4096x16x8, .f32⟩
  | .hbm, ⟨32, _⟩ => ⟨S1x4096x1x8, .f32⟩
  | .hbm, ⟨33, _⟩ => ⟨S4x4096x16x8, .f32⟩
  | .hbm, ⟨34, _⟩ => ⟨S4x4096x16x8, .f32⟩
  | .hbm, ⟨35, _⟩ => ⟨S1x4096x1x8, .f32⟩
  | .hbm, ⟨36, _⟩ => ⟨S4x4096x16x8, .f32⟩
  | .hbm, ⟨37, _⟩ => ⟨S4x4096x16x8, .f32⟩
  | .hbm, ⟨38, _⟩ => ⟨S4x4096x16x8, .f32⟩
  | .hbm, ⟨39, _⟩ => ⟨S4x4096x16x64, .f32⟩
  | .hbm, ⟨40, _⟩ => ⟨S4x4096x1536, .f32⟩
  | .hbm, ⟨41, _⟩ => ⟨S4x4096x3x2x4x64, .f32⟩
  | .hbm, ⟨42, _⟩ => ⟨S4x4096x3x1x4x64, .f32⟩
  | .hbm, ⟨43, _⟩ => ⟨S4x4096x3x4x64, .f32⟩
  | .hbm, ⟨44, _⟩ => ⟨S4x4096x12x64, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S4096, .f32⟩
  | .hbm, ⟨54, _⟩ => ⟨S4096x1, .f32⟩
  | .hbm, ⟨55, _⟩ => ⟨S1x8, .f32⟩
  | .hbm, ⟨56, _⟩ => ⟨S4096x8, .f32⟩
  | .hbm, ⟨57, _⟩ => ⟨S4096x8, .f32⟩
  | .hbm, ⟨58, _⟩ => ⟨S4096x8, .f32⟩
  | .hbm, ⟨59, _⟩ => ⟨S4096x8, .f32⟩
  | .hbm, ⟨60, _⟩ => ⟨S4096x1x8, .f32⟩
  | .hbm, ⟨61, _⟩ => ⟨S4096x8, .f32⟩
  | .hbm, ⟨62, _⟩ => ⟨S4096x1x8, .f32⟩
  | .hbm, ⟨63, _⟩ => ⟨S4x4096x12x8, .f32⟩
  | .hbm, ⟨64, _⟩ => ⟨S4x4096x12x8, .f32⟩
  | .hbm, ⟨65, _⟩ => ⟨S4x4096x12x48, .f32⟩
  | .hbm, ⟨66, _⟩ => ⟨S1x4096x1x8, .f32⟩
  | .hbm, ⟨67, _⟩ => ⟨S4x4096x12x8, .f32⟩
  | .hbm, ⟨68, _⟩ => ⟨S4x4096x12x8, .f32⟩
  | .hbm, ⟨69, _⟩ => ⟨S1x4096x1x8, .f32⟩
  | .hbm, ⟨70, _⟩ => ⟨S4x4096x12x8, .f32⟩
  | .hbm, ⟨71, _⟩ => ⟨S4x4096x12x8, .f32⟩
  | .hbm, ⟨72, _⟩ => ⟨S4x4096x12x8, .f32⟩
  | .hbm, ⟨73, _⟩ => ⟨S1x4096x1x8, .f32⟩
  | .hbm, ⟨74, _⟩ => ⟨S4x4096x12x8, .f32⟩
  | .hbm, ⟨75, _⟩ => ⟨S4x4096x12x8, .f32⟩
  | .hbm, ⟨76, _⟩ => ⟨S1x4096x1x8, .f32⟩
  | .hbm, ⟨77, _⟩ => ⟨S4x4096x12x8, .f32⟩
  | .hbm, ⟨78, _⟩ => ⟨S4x4096x12x8, .f32⟩
  | .hbm, ⟨79, _⟩ => ⟨S4x4096x12x8, .f32⟩
  | .hbm, ⟨80, _⟩ => ⟨S4x4096x12x64, .f32⟩
  | .hbm, ⟨81, _⟩ => ⟨S4x4096x3x4x64, .f32⟩
  | .hbm, ⟨82, _⟩ => ⟨S4x4096x3x1x4x64, .f32⟩
  | .hbm, ⟨83, _⟩ => ⟨S4x4096x3x4x64, .f32⟩
  | .hbm, ⟨84, _⟩ => ⟨S4x4096x3x1x4x64, .f32⟩
  | .hbm, ⟨85, _⟩ => ⟨S4x4096x3x1x4x64, .f32⟩
  | .hbm, ⟨86, _⟩ => ⟨S4x4096x3x2x4x64, .f32⟩
  | .hbm, ⟨87, _⟩ => ⟨S4x4096x1x2x4x64, .f32⟩
  | .hbm, ⟨88, _⟩ => ⟨S4x4096x2x4x64, .f32⟩
  | .hbm, ⟨89, _⟩ => ⟨S4x4096x1x2x4x64, .f32⟩
  | .hbm, ⟨90, _⟩ => ⟨S4x4096x2x4x64, .f32⟩
  | .hbm, ⟨91, _⟩ => ⟨S4x4096x1x2x4x64, .f32⟩
  | .hbm, ⟨92, _⟩ => ⟨S4x4096x2x4x64, .f32⟩
  | .hbm, ⟨93, _⟩ => ⟨S_, .f32⟩
  | .hbm, ⟨94, _⟩ => ⟨S4x4x16x4096, .f32⟩
  | .hbm, ⟨95, _⟩ => ⟨S4x4096x1024, .f32⟩
  | .hbm, ⟨96, _⟩ => ⟨S4x4096x512, .f32⟩
  | .hbm, ⟨97, _⟩ => ⟨S4x4096x512, .f32⟩
  | .hbm, ⟨98, _⟩ => ⟨S4x4096x512, .f32⟩
  | .hbm, ⟨99, _⟩ => ⟨S4x4096x1x4x64, .f32⟩
  | .hbm, ⟨100, _⟩ => ⟨S4x4096x4x64, .f32⟩
  | .hbm, ⟨101, _⟩ => ⟨S4x4096x256, .f32⟩
  | .hbm, ⟨102, _⟩ => ⟨S4x4096x256, .bf16⟩
  | .hbm, ⟨103, _⟩ => ⟨S4x4096x1x4x64, .f32⟩
  | .hbm, ⟨104, _⟩ => ⟨S4x4096x4x64, .f32⟩
  | .hbm, ⟨105, _⟩ => ⟨S4x4x64x4096, .f32⟩
  | .hbm, ⟨106, _⟩ => ⟨S4x4x80x4096, .f32⟩
  | .hbm, ⟨107, _⟩ => ⟨S4x320x4096, .f32⟩
  | .hbm, ⟨108, _⟩ => ⟨S4x320x4096, .bf16⟩
  | .hbm, ⟨109, _⟩ => ⟨S4x4096x1x4x64, .f32⟩
  | .hbm, ⟨110, _⟩ => ⟨S4x4096x4x64, .f32⟩
  | .hbm, ⟨111, _⟩ => ⟨S4x4096x256, .f32⟩
  | .hbm, ⟨112, _⟩ => ⟨S4x4096x256, .bf16⟩
  | .hbm, ⟨113, _⟩ => ⟨S4x4096x1x4x64, .f32⟩
  | .hbm, ⟨114, _⟩ => ⟨S4x4096x4x64, .f32⟩
  | .hbm, ⟨115, _⟩ => ⟨S4x4x64x4096, .f32⟩
  | .hbm, ⟨116, _⟩ => ⟨S4x4x80x4096, .f32⟩
  | .hbm, ⟨117, _⟩ => ⟨S4x320x4096, .f32⟩
  | .hbm, ⟨118, _⟩ => ⟨S4x320x4096, .bf16⟩
  | _, _ => ⟨S4x4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_cst_1 : Ref sig .tc := ⟨.hbm, 47, rfl⟩
abbrev main_v44 : Ref sig .tc := ⟨.hbm, 48, rfl⟩
abbrev main_v45 : Ref sig .tc := ⟨.hbm, 49, rfl⟩
abbrev main_cst_2 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_cst_3 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩

abbrev nD : Nat := 1
abbrev τ : Topo := Topo.v7x

variable {F : FTy → Type} [FloatOps F]
-- ==== KernelRot.lean ====
abbrev S1x256x9216 : Shape := ⟨3, ![1, 256, 9216]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S256x1 : Shape := ⟨2, ![256, 1]⟩
abbrev S256x8 : Shape := ⟨2, ![256, 8]⟩
abbrev S256x48 : Shape := ⟨2, ![256, 48]⟩
abbrev S256x64 : Shape := ⟨2, ![256, 64]⟩
abbrev S256x128 : Shape := ⟨2, ![256, 128]⟩
abbrev S1x256x1024 : Shape := ⟨3, ![1, 256, 1024]⟩
abbrev S1x256x512 : Shape := ⟨3, ![1, 256, 512]⟩
abbrev S256x1024 : Shape := ⟨2, ![256, 1024]⟩
abbrev S256x512 : Shape := ⟨2, ![256, 512]⟩
abbrev S256x256 : Shape := ⟨2, ![256, 256]⟩

abbrev nBuf : Space → Nat
  | .hbm => 41
  | .vmem => 11
  | .smem => 0
  | _ => 0

abbrev bufTy : (tb : Table) → Fin (tcTables nBuf tb) → BufTy
  | .hbm, ⟨0, _⟩ => ⟨S1x256x9216, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S1x8, .i32⟩
  | .hbm, ⟨6, _⟩ => ⟨S32x8, .i32⟩
  | .hbm, ⟨7, _⟩ => ⟨S256, .i32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S256, .f32⟩
  | .hbm, ⟨17, _⟩ => ⟨S256x1, .f32⟩
  | .hbm, ⟨18, _⟩ => ⟨S1x8, .f32⟩
  | .hbm, ⟨19, _⟩ => ⟨S256x8, .f32⟩
  | .hbm, ⟨20, _⟩ => ⟨S256x8, .f32⟩
  | .hbm, ⟨21, _⟩ => ⟨S256x8, .f32⟩
  | .hbm, ⟨22, _⟩ => ⟨S256x8, .f32⟩
  | .hbm, ⟨23, _⟩ => ⟨S256x8, .f32⟩
  | .hbm, ⟨24, _⟩ => ⟨S_, .f32⟩
  | .hbm, ⟨25, _⟩ => ⟨S256x8, .f32⟩
  | .hbm, ⟨26, _⟩ => ⟨S_, .f32⟩
  | .hbm, ⟨27, _⟩ => ⟨S256x48, .f32⟩
  | .hbm, ⟨28, _⟩ => ⟨S_, .f32⟩
  | .hbm, ⟨29, _⟩ => ⟨S256x48, .f32⟩
  | .hbm, ⟨30, _⟩ => ⟨S256x64, .f32⟩
  | .hbm, ⟨31, _⟩ => ⟨S256x64, .f32⟩
  | .hbm, ⟨32, _⟩ => ⟨S256x8, .f32⟩
  | .hbm, ⟨33, _⟩ => ⟨S256x64, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S1x256x1024, .f32⟩
  | .hbm, ⟨38, _⟩ => ⟨S1x256x512, .f32⟩
  | .hbm, ⟨39, _⟩ => ⟨S1x256x512, .f32⟩
  | .hbm, ⟨40, _⟩ => ⟨S1x256x512, .f32⟩
  | .local _ .vmem, ⟨0, _⟩ => ⟨S1x256x1024, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S1x256x1024, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | _, _ => ⟨S1x256x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== RefRotIdeal.lean ====
abbrev S1x256x9216 : Shape := ⟨3, ![1, 256, 9216]⟩
abbrev S32x8x9216 : Shape := ⟨3, ![32, 8, 9216]⟩
abbrev S8 : Shape := ⟨1, ![8]⟩
abbrev S_ : Shape := ⟨0, ![]⟩
abbrev S32x8x1024 : Shape := ⟨3, ![32, 8, 1024]⟩
abbrev S32x8x16x64 : Shape := ⟨4, ![32, 8, 16, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S32x8x16x8 : Shape := ⟨4, ![32, 8, 16, 8]⟩
abbrev S32x8x16x48 : Shape := ⟨4, ![32, 8, 16, 48]⟩
abbrev S1x8x1x8 : Shape := ⟨4, ![1, 8, 1, 8]⟩
abbrev S32x8x1536 : Shape := ⟨3, ![32, 8, 1536]⟩
abbrev S32x8x3x2x4x64 : Shape := ⟨6, ![32, 8, 3, 2, 4, 64]⟩
abbrev S32x8x3x1x4x64 : Shape := ⟨6, ![32, 8, 3, 1, 4, 64]⟩
abbrev S32x8x3x4x64 : Shape := ⟨5, ![32, 8, 3, 4, 64]⟩
abbrev S32x8x12x64 : Shape := ⟨4, ![32, 8, 12, 64]⟩
abbrev S32x8x12x8 : Shape := ⟨4, ![32, 8, 12, 8]⟩
abbrev S32x8x12x48 : Shape := ⟨4, ![32, 8, 12, 48]⟩
abbrev S32x8x1x2x4x64 : Shape := ⟨6, ![32, 8, 1, 2, 4, 64]⟩
abbrev S32x8x2x4x64 : Shape := ⟨5, ![32, 8, 2, 4, 64]⟩
abbrev S1x256x1024 : Shape := ⟨3, ![1, 256, 1024]⟩
abbrev S1x256x512 : Shape := ⟨3, ![1, 256, 512]⟩

abbrev nBuf : Space → Nat
  | .hbm => 101
  | .vmem => 0
  | .smem => 0
  | _ => 0

abbrev bufTy : (tb : Table) → Fin (tcTables nBuf tb) → BufTy
  | .hbm, ⟨0, _⟩ => ⟨S1x256x9216, .f32⟩
  | .hbm, ⟨1, _⟩ => ⟨S32x8x9216, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S32x8x1024, .f32⟩
  | .hbm, ⟨7, _⟩ => ⟨S32x8x16x64, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S1x8, .f32⟩
  | .hbm, ⟨19, _⟩ => ⟨S8x8, .f32⟩
  | .hbm, ⟨20, _⟩ => ⟨S8x8, .f32⟩
  | .hbm, ⟨21, _⟩ => ⟨S8x8, .f32⟩
  | .hbm, ⟨22, _⟩ => ⟨S8x8, .f32⟩
  | .hbm, ⟨23, _⟩ => ⟨S8x1x8, .f32⟩
  | .hbm, ⟨24, _⟩ => ⟨S8x8, .f32⟩
  | .hbm, ⟨25, _⟩ => ⟨S8x1x8, .f32⟩
  | .hbm, ⟨26, _⟩ => ⟨S32x8x16x8, .f32⟩
  | .hbm, ⟨27, _⟩ => ⟨S32x8x16x8, .f32⟩
  | .hbm, ⟨28, _⟩ => ⟨S32x8x16x48, .f32⟩
  | .hbm, ⟨29, _⟩ => ⟨S1x8x1x8, .f32⟩
  | .hbm, ⟨30, _⟩ => ⟨S32x8x16x8, .f32⟩
  | .hbm, ⟨31, _⟩ => ⟨S32x8x16x8, .f32⟩
  | .hbm, ⟨32, _⟩ => ⟨S1x8x1x8, .f32⟩
  | .hbm, ⟨33, _⟩ => ⟨S32x8x16x8, .f32⟩
  | .hbm, ⟨34, _⟩ => ⟨S32x8x16x8, .f32⟩
  | .hbm, ⟨35, _⟩ => ⟨S32x8x16x8, .f32⟩
  | .hbm, ⟨36, _⟩ => ⟨S1x8x1x8, .f32⟩
  | .hbm, ⟨37, _⟩ => ⟨S32x8x16x8, .f32⟩
  | .hbm, ⟨38, _⟩ => ⟨S32x8x16x8, .f32⟩
  | .hbm, ⟨39, _⟩ => ⟨S1x8x1x8, .f32⟩
  | .hbm, ⟨40, _⟩ => ⟨S32x8x16x8, .f32⟩
  | .hbm, ⟨41, _⟩ => ⟨S32x8x16x8, .f32⟩
  | .hbm, ⟨42, _⟩ => ⟨S32x8x16x8, .f32⟩
  | .hbm, ⟨43, _⟩ => ⟨S32x8x16x64, .f32⟩
  | .hbm, ⟨44, _⟩ => ⟨S32x8x1536, .f32⟩
  | .hbm, ⟨45, _⟩ => ⟨S32x8x3x2x4x64, .f32⟩
  | .hbm, ⟨46, _⟩ => ⟨S32x8x3x1x4x64, .f32⟩
  | .hbm, ⟨47, _⟩ => ⟨S32x8x3x4x64, .f32⟩
  | .hbm, ⟨48, _⟩ => ⟨S32x8x12x64, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S8, .f32⟩
  | .hbm, ⟨58, _⟩ => ⟨S8x1, .f32⟩
  | .hbm, ⟨59, _⟩ => ⟨S1x8, .f32⟩
  | .hbm, ⟨60, _⟩ => ⟨S8x8, .f32⟩
  | .hbm, ⟨61, _⟩ => ⟨S8x8, .f32⟩
  | .hbm, ⟨62, _⟩ => ⟨S8x8, .f32⟩
  | .hbm, ⟨63, _⟩ => ⟨S8x8, .f32⟩
  | .hbm, ⟨64, _⟩ => ⟨S8x1x8, .f32⟩
  | .hbm, ⟨65, _⟩ => ⟨S8x8, .f32⟩
  | .hbm, ⟨66, _⟩ => ⟨S8x1x8, .f32⟩
  | .hbm, ⟨67, _⟩ => ⟨S32x8x12x8, .f32⟩
  | .hbm, ⟨68, _⟩ => ⟨S32x8x12x8, .f32⟩
  | .hbm, ⟨69, _⟩ => ⟨S32x8x12x48, .f32⟩
  | .hbm, ⟨70, _⟩ => ⟨S1x8x1x8, .f32⟩
  | .hbm, ⟨71, _⟩ => ⟨S32x8x12x8, .f32⟩
  | .hbm, ⟨72, _⟩ => ⟨S32x8x12x8, .f32⟩
  | .hbm, ⟨73, _⟩ => ⟨S1x8x1x8, .f32⟩
  | .hbm, ⟨74, _⟩ => ⟨S32x8x12x8, .f32⟩
  | .hbm, ⟨75, _⟩ => ⟨S32x8x12x8, .f32⟩
  | .hbm, ⟨76, _⟩ => ⟨S32x8x12x8, .f32⟩
  | .hbm, ⟨77, _⟩ => ⟨S1x8x1x8, .f32⟩
  | .hbm, ⟨78, _⟩ => ⟨S32x8x12x8, .f32⟩
  | .hbm, ⟨79, _⟩ => ⟨S32x8x12x8, .f32⟩
  | .hbm, ⟨80, _⟩ => ⟨S1x8x1x8, .f32⟩
  | .hbm, ⟨81, _⟩ => ⟨S32x8x12x8, .f32⟩
  | .hbm, ⟨82, _⟩ => ⟨S32x8x12x8, .f32⟩
  | .hbm, ⟨83, _⟩ => ⟨S32x8x12x8, .f32⟩
  | .hbm, ⟨84, _⟩ => ⟨S32x8x12x64, .f32⟩
  | .hbm, ⟨85, _⟩ => ⟨S32x8x3x4x64, .f32⟩
  | .hbm, ⟨86, _⟩ => ⟨S32x8x3x1x4x64, .f32⟩
  | .hbm, ⟨87, _⟩ => ⟨S32x8x3x4x64, .f32⟩
  | .hbm, ⟨88, _⟩ => ⟨S32x8x3x1x4x64, .f32⟩
  | .hbm, ⟨89, _⟩ => ⟨S32x8x3x1x4x64, .f32⟩
  | .hbm, ⟨90, _⟩ => ⟨S32x8x3x2x4x64, .f32⟩
  | .hbm, ⟨91, _⟩ => ⟨S32x8x1x2x4x64, .f32⟩
  | .hbm, ⟨92, _⟩ => ⟨S32x8x2x4x64, .f32⟩
  | .hbm, ⟨93, _⟩ => ⟨S32x8x1x2x4x64, .f32⟩
  | .hbm, ⟨94, _⟩ => ⟨S32x8x2x4x64, .f32⟩
  | .hbm, ⟨95, _⟩ => ⟨S32x8x1x2x4x64, .f32⟩
  | .hbm, ⟨96, _⟩ => ⟨S32x8x2x4x64, .f32⟩
  | .hbm, ⟨97, _⟩ => ⟨S1x256x1024, .f32⟩
  | .hbm, ⟨98, _⟩ => ⟨S1x256x512, .f32⟩
  | .hbm, ⟨99, _⟩ => ⟨S1x256x512, .f32⟩
  | .hbm, ⟨100, _⟩ => ⟨S1x256x512, .f32⟩
  | _, _ => ⟨S1x256x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst_1 : Ref sig .tc := ⟨.hbm, 51, rfl⟩
abbrev main_v47 : Ref sig .tc := ⟨.hbm, 52, rfl⟩
abbrev main_v48 : Ref sig .tc := ⟨.hbm, 53, rfl⟩
abbrev main_cst_2 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩

abbrev nD : Nat := 1
abbrev τ : Topo := Topo.v7x

variable {F : FTy → Type} [FloatOps F]
-- ==== Proof.Chunk.lean ====
/-
  The arithmetic of one chunk of the stabilised mLSTM recurrence for one head, over the extended reals:
  plain functions of a position `t`, a source position `s` and feature indices, for any chunk length `L`
  and head width `D`.  The kernel's block and the reference's whole sequence are both read as these.
-/
module

public import Idealize.ShloMosaic.Lib.Pointwise
public import Idealize.ShloMosaic.Lib.WordCmp

@[expose] public section

noncomputable section

namespace MLSTM

open Idealize.ShloMosaic

variable {L D : ℕ}

/-- The log of a sigmoid as both programs spell it: `-(max (-x) 0 + log (1 + exp (-|x|)))`. -/
def logSig (x : EReal) : EReal :=
  0 - (max (0 - x) 0 + Ideal.log1p (Ideal.exp (0 - max ((0 - x) - 0) (-((0 - x) - 0)))))

/-- The running sum of the log forget gates, up to and including position `t`. -/
def cum (lf : Fin L → EReal) (t : Fin L) : EReal := ∑ s, if s ≤ t then lf s else 0

theorem exp_bot : Ideal.exp ⊥ = 0 := rfl
theorem exp_coe (r : ℝ) : Ideal.exp (r : EReal) = ((Real.exp r : ℝ) : EReal) := rfl
theorem log_coe (r : ℝ) (h : 0 < r) : Ideal.log (r : EReal) = ((Real.log r : ℝ) : EReal) :=
  if_neg (not_le.mpr h)

/-- A log of a sigmoid is never `+∞`. -/
theorem logSig_ne_top (x : EReal) : logSig x ≠ ⊤ := by
  have hexp : ∀ u, 0 ≤ Ideal.exp u := by
    intro u
    induction u with
    | bot => exact le_of_eq exp_bot.symm
    | top => exact (le_top : (0 : EReal) ≤ ⊤)
    | coe r => rw [exp_coe]; exact EReal.coe_nonneg.mpr (Real.exp_pos r).le
  have hlog : ∀ u, 0 ≤ u → Ideal.log1p u ≠ ⊥ := by
    intro u hu
    induction u with
    | bot => exact absurd hu (by simp)
    | top => exact (top_ne_bot : (⊤ : EReal) ≠ ⊥)
    | coe r =>
      have hr : 0 ≤ r := EReal.coe_nonneg.mp hu
      rw [Ideal.log1p, show (1 : EReal) + (r : EReal) = ((1 + r : ℝ) : EReal) from rfl, log_coe _ (by linarith)]
      exact EReal.coe_ne_bot _
  have hmax : max (0 - x) 0 ≠ ⊥ := fun h => by
    have h0 : (0 : EReal) ≤ ⊥ := h ▸ le_max_right _ _
    simp at h0
  have hsum := EReal.add_ne_bot_iff.mpr ⟨hmax, hlog _ (hexp (0 - max ((0 - x) - 0) (-((0 - x) - 0))))⟩
  rw [logSig, sub_eq_add_neg, zero_add]
  intro h
  exact hsum (EReal.neg_eq_top_iff.mp h)

/-- A number below `+∞`, its remainder after itself and the remainder's remainder add up to the number: at a real
    both remainders are `0`, at `-∞` they are `-∞`. -/
theorem split_add (a : EReal) (ha : a ≠ ⊤) : a + (a - a) + (a - a - (a - a)) = a := by
  induction a with
  | bot => rfl
  | top => exact absurd rfl ha
  | coe r => rw [← EReal.coe_sub, ← EReal.coe_sub, ← EReal.coe_add, ← EReal.coe_add]; simp

/-- The running sum from the three parts that a number is split into. -/
theorem cum_split (A : Fin L → EReal) (hA : ∀ s, A s ≠ ⊤) (t : Fin L) :
    (∑ s, if s ≤ t then A s else 0) + (∑ s, if s ≤ t then A s - A s else 0)
      + (∑ s, if s ≤ t then A s - A s - (A s - A s) else 0) = cum A t := by
  rw [← Finset.sum_add_distrib, ← Finset.sum_add_distrib, cum]
  refine Finset.sum_congr rfl fun s _ => ?_
  by_cases h : s ≤ t
  · simp only [if_pos h]; exact split_add _ (hA s)
  · simp only [if_neg h, add_zero]

/-- The log weight of source `s` at position `t`: `-∞` for a later source. -/
def dlog (b li : Fin L → EReal) (t s : Fin L) : EReal := if s ≤ t then b t - b s + li s else ⊥

/-- The stabiliser of position `t`. -/
def stab (m : EReal) (b li : Fin L → EReal) (t : Fin L) : EReal :=
  max (m + b t) (Finset.univ.sup (dlog b li t))

/-- The weight of the carried state at position `t`. -/
def wIn (m : EReal) (b li : Fin L → EReal) (t : Fin L) : EReal := Ideal.exp (m + b t - stab m b li t)

/-- The weighted score of position `t` against source `s`. -/
def score (q k : Fin L → Fin D → EReal) (m : EReal) (b li : Fin L → EReal) (t s : Fin L) : EReal :=
  (∑ d, q t d * k s d) * Ideal.exp (dlog b li t s - stab m b li t)

/-- The numerator of the read-out. -/
def num (q k v : Fin L → Fin D → EReal) (C : Fin D → Fin D → EReal) (m : EReal) (b li : Fin L → EReal)
    (t : Fin L) (e : Fin D) : EReal :=
  wIn m b li t * (∑ d, q t d * C e d) + ∑ s, score q k m b li t s * v s e

/-- The denominator of the read-out, before the stabiliser's bound. -/
def den (q k : Fin L → Fin D → EReal) (n : Fin D → EReal) (m : EReal) (b li : Fin L → EReal)
    (t : Fin L) : EReal :=
  wIn m b li t * (∑ d, q t d * n d) + ∑ s, score q k m b li t s

/-- The read-out of the memory. -/
def hid (q k v : Fin L → Fin D → EReal) (C : Fin D → Fin D → EReal) (n : Fin D → EReal) (m : EReal)
    (b li : Fin L → EReal) (t : Fin L) (e : Fin D) : EReal :=
  Ideal.div (num q k v C m b li t e)
    (max (max (den q k n m b li t) (-(den q k n m b li t))) (Ideal.exp (0 - stab m b li t)))

/-- The stabiliser after the chunk, where `bl` is the whole sum of log forget gates. -/
def mNew (m bl : EReal) (b li : Fin L → EReal) : EReal :=
  max (m + bl) (Finset.univ.sup fun s => bl - b s + li s)

/-- The weight of source `s` in the state after the chunk. -/
def wOut (m bl : EReal) (b li : Fin L → EReal) (s : Fin L) : EReal :=
  Ideal.exp (bl - b s + li s - mNew m bl b li)

/-- The weight of the state before the chunk in the state after it. -/
def decay (m bl : EReal) (b li : Fin L → EReal) : EReal := Ideal.exp (m + bl - mNew m bl b li)

/-- The matrix memory after the chunk. -/
def cNew (k v : Fin L → Fin D → EReal) (C : Fin D → Fin D → EReal) (m bl : EReal) (b li : Fin L → EReal)
    (e d : Fin D) : EReal :=
  decay m bl b li * C e d + ∑ s, v s e * wOut m bl b li s * k s d

/-- The normaliser after the chunk. -/
def nNew (k : Fin L → Fin D → EReal) (n : Fin D → EReal) (m bl : EReal) (b li : Fin L → EReal)
    (d : Fin D) : EReal :=
  decay m bl b li * n d + ∑ s, wOut m bl b li s * k s d

/-- The mean of a head's read-out over its features (the divisor is the programs' constant 256). -/
def mean (f : Fin D → EReal) : EReal := Ideal.div (∑ e, f e) (Ideal.ofBits .f32 0x43800000#32)

/-- The read-out normalised over its features, scaled and gated. -/
def gated (h : Fin D → EReal) (w o : Fin D → EReal) (e : Fin D) : EReal :=
  (h e - mean h) * Ideal.rsqrt (mean (fun j => (h j - mean h) * (h j - mean h)) + Ideal.ofBits .f32 0x358637BD#32)
    * w e * Ideal.logistic (o e)

end MLSTM
-- ==== Proof.HeadS.lean ====
/-
  One head of the kernel's block, sample call: the operations a head's stores are computed by, as functions of the head's
  slices, and what they are at an index (the arithmetic of `Chunk`).
-/
module

public import proofs.«01_k».proof.Proof.Gen.KernelSIdeal.Skeleton
public import proofs.«01_k».proof.Proof.Chunk

@[expose] public section

set_option maxRecDepth 16384

noncomputable section

namespace Cert.KernelSIdeal.Head

open Cert.KernelSIdeal Cert.KernelSIdeal.Gen Idealize.ShloMosaic Idealize.SL.Sem

variable (q k v : FVec Ideal S128x256 .f32) (lir br : FVec Ideal S1x128 .f32) (lic bc : FVec Ideal S128x1 .f32)
  (m : FVec Ideal S1x1 .f32) (C : FVec Ideal S256x256 .f32) (n : FVec Ideal S1x256 .f32)
  (w : FVec Ideal S1x256 .f32) (o : FVec Ideal S128x256 .f32)

/-- The log weights of a head's sources. -/
def dlog : FVec Ideal S128x128 .f32 :=
  select k0_pay13 (addf (subf (broadcastTo S128x128 bc broadcasts_S128x1_S128x128)
      (broadcastTo S128x128 br broadcasts_S1x128_S128x128)) (broadcastTo S128x128 lir broadcasts_S1x128_S128x128))
    (broadcast S128x128 (Scalar.ofBits .f32 0xFF800000#32))

/-- The stabilisers of a head's positions. -/
def stab : FVec Ideal S128x1 .f32 :=
  maximumf (addf (broadcastTo S128x1 m broadcasts_S1x1_S128x1) bc)
    (shapeCast S128x1 (multiReduction .maximumf [1] S128 (dlog lir br bc) 0xFF800000#32 reduces_S128x128_S128 (.inl rfl) rfl)
      shapeCasts_S128_S128x1)

/-- The weights of the carried state. -/
def wIn : FVec Ideal S128x1 .f32 :=
  exp (subf (addf (broadcastTo S128x1 m broadcasts_S1x1_S128x1) bc) (stab lir br bc m))

/-- The weighted scores. -/
def score : FVec Ideal S128x128 .f32 :=
  mulf (matmul dot_S128x256_S128x256_S128x128_1_1_0_0_n_n none (truncf .bf16 q bitsLt_bf16_f32)
      (truncf .bf16 k bitsLt_bf16_f32) (constant S128x128 .f32 0x00000000#32))
    (exp (subf (dlog lir br bc) (broadcastTo S128x128 (stab lir br bc m) broadcasts_S128x1_S128x128)))

/-- The read-out's numerator. -/
def num : FVec Ideal S128x256 .f32 :=
  addf (mulf (broadcastTo S128x256 (wIn lir br bc m) broadcasts_S128x1_S128x256)
      (matmul dot_S128x256_S256x256_S128x256_1_1_0_0_n_n none (truncf .bf16 q bitsLt_bf16_f32)
        (truncf .bf16 C bitsLt_bf16_f32) (constant S128x256 .f32 0x00000000#32)))
    (matmul dot_S128x128_S128x256_S128x256_1_0_0_1_n_n none (truncf .bf16 (score q k lir br bc m) bitsLt_bf16_f32)
      (truncf .bf16 v bitsLt_bf16_f32) (constant S128x256 .f32 0x00000000#32))

/-- The read-out's denominator. -/
def den : FVec Ideal S128x1 .f32 :=
  addf (mulf (wIn lir br bc m) (shapeCast S128x1 (multiReduction .add [1] S128
        (mulf q (broadcastTo S128x256 n broadcasts_S1x256_S128x256)) 0x00000000#32 reduces_S128x256_S128 (.inl rfl) rfl)
      shapeCasts_S128_S128x1))
    (shapeCast S128x1 (multiReduction .add [1] S128 (score q k lir br bc m) 0x00000000#32 reduces_S128x128_S128 (.inl rfl) rfl)
      shapeCasts_S128_S128x1)

/-- The read-out. -/
def hid : FVec Ideal S128x256 .f32 :=
  divf (num q k v lir br bc m C) (broadcastTo S128x256 (maximumf (absf (den q k lir br bc m n))
    (exp (subf (broadcast S128x1 (Scalar.ofBits .f32 0x00000000#32)) (stab lir br bc m)))) broadcasts_S128x1_S128x256)

/-- The mean over a head's features, at each position. -/
def mean (h : FVec Ideal S128x256 .f32) : FVec Ideal S128x1 .f32 :=
  divf (shapeCast S128x1 (multiReduction .add [1] S128 h 0x00000000#32 reduces_S128x256_S128 (.inl rfl) rfl) shapeCasts_S128_S128x1)
    (broadcast S128x1 (Scalar.ofBits .f32 0x43800000#32))

/-- The read-out normalised, scaled and gated: what a head stores of its positions. -/
def gated (h : FVec Ideal S128x256 .f32) : FVec Ideal S128x256 .f32 :=
  mulf (mulf (mulf (subf h (broadcastTo S128x256 (mean h) broadcasts_S128x1_S128x256))
    (broadcastTo S128x256 (rsqrt (addf (mean (mulf (subf h (broadcastTo S128x256 (mean h) broadcasts_S128x1_S128x256))
        (subf h (broadcastTo S128x256 (mean h) broadcasts_S128x1_S128x256))))
      (broadcast S128x1 (Scalar.ofBits .f32 0x358637BD#32)))) broadcasts_S128x1_S128x256))
    (broadcastTo S128x256 w broadcasts_S1x256_S128x256)) (logistic o)

/-- The last position's running sum. -/
def bl : FVec Ideal S1x1 .f32 := extractStridedSlice S1x1 ![0, 127] br slices_S1x128_o0_127_S1x1

/-- The log weights of the sources in the next state. -/
def wlog : FVec Ideal S128x1 .f32 := addf (subf (broadcastTo S128x1 (bl br) broadcasts_S1x1_S128x1) bc) lic

/-- The next stabiliser. -/
def mNew : FVec Ideal S1x1 .f32 :=
  maximumf (addf m (bl br)) (shapeCast S1x1 (multiReduction .maximumf [0] S1 (wlog br lic bc) 0xFF800000#32 reduces_S128x1_S1 (.inl rfl) rfl)
    shapeCasts_S1_S1x1)

/-- The weights of the sources in the next state. -/
def wOut : FVec Ideal S128x1 .f32 :=
  exp (subf (wlog br lic bc) (broadcastTo S128x1 (mNew br lic bc m) broadcasts_S1x1_S128x1))

/-- The weight of the state in the next state. -/
def decay : FVec Ideal S1x1 .f32 := exp (subf (addf m (bl br)) (mNew br lic bc m))

/-- The next matrix memory. -/
def cNew : FVec Ideal S256x256 .f32 :=
  addf (mulf (broadcastTo S256x256 (decay br lic bc m) broadcasts_S1x1_S256x256) C)
    (matmul dot_S128x256_S128x256_S256x256_0_0_1_1_n_n none
      (truncf .bf16 (mulf v (broadcastTo S128x256 (wOut br lic bc m) broadcasts_S128x1_S128x256)) bitsLt_bf16_f32)
      (truncf .bf16 k bitsLt_bf16_f32) (constant S256x256 .f32 0x00000000#32))

/-- The next normaliser. -/
def nNew : FVec Ideal S1x256 .f32 :=
  addf (mulf (broadcastTo S1x256 (decay br lic bc m) broadcasts_S1x1_S1x256) n)
    (shapeCast S1x256 (multiReduction .add [0] S256 (mulf (broadcastTo S128x256 (wOut br lic bc m) broadcasts_S128x1_S128x256) k)
      0x00000000#32 reduces_S128x256_S256 (.inl rfl) rfl) shapeCasts_S256_S1x256)

/-! ## At an index -/

/-- A row vector, a column vector and a matrix as plain functions. -/
abbrev row (x : FVec Ideal S1x128 .f32) : Fin 128 → EReal := fun s => x (ix2 0 s)
abbrev col (x : FVec Ideal S128x1 .f32) : Fin 128 → EReal := fun s => x (ix2 s 0)
abbrev mat (x : FVec Ideal S128x256 .f32) : Fin 128 → Fin 256 → EReal := fun s d => x (ix2 s d)
abbrev sq (x : FVec Ideal S256x256 .f32) : Fin 256 → Fin 256 → EReal := fun s d => x (ix2 s d)
abbrev feat (x : FVec Ideal S1x256 .f32) : Fin 256 → EReal := fun d => x (ix2 0 d)

/-- The word of `-∞`. -/
theorem neg_inf : Ideal.ofBits .f32 0xFF800000#32 = ⊥ := by
  simp [Ideal.ofBits, Ideal.ieee]

theorem dlog_apply (hb : row br = col bc) (t s : Fin 128) :
    dlog lir br bc (ix2 t s) = MLSTM.dlog (col bc) (row lir) t s := by
  have hb' : ∀ s, br (ix2 0 s) = bc (ix2 s 0) := fun s => congrFun hb s
  pointwise [dlog, MLSTM.dlog, k0_pay13]
  rw [neg_inf, hb']
  word_cmp
  rfl

theorem stab_apply (hb : row br = col bc) (t : Fin 128) :
    stab lir br bc m (ix2 t 0) = MLSTM.stab (m (ix2 0 0)) (col bc) (row lir) t := by
  pointwise [stab, MLSTM.stab]
  rw [neg_inf, show (fun x => dlog lir br bc (ix2 t x)) = MLSTM.dlog (col bc) (row lir) t from
    funext fun s => dlog_apply lir br bc hb t s]
  rfl

theorem wIn_apply (hb : row br = col bc) (t : Fin 128) :
    wIn lir br bc m (ix2 t 0) = MLSTM.wIn (m (ix2 0 0)) (col bc) (row lir) t := by
  pointwise [wIn, MLSTM.wIn, stab_apply lir br bc m hb]

theorem score_apply (hb : row br = col bc) (t s : Fin 128) :
    score q k lir br bc m (ix2 t s) = MLSTM.score (mat q) (mat k) (m (ix2 0 0)) (col bc) (row lir) t s := by
  pointwise [score, MLSTM.score, stab_apply lir br bc m hb, dlog_apply lir br bc hb]

theorem num_apply (hb : row br = col bc) (t : Fin 128) (e : Fin 256) :
    num q k v lir br bc m C (ix2 t e)
      = MLSTM.num (mat q) (mat k) (mat v) (sq C) (m (ix2 0 0)) (col bc) (row lir) t e := by
  pointwise [num, MLSTM.num, wIn_apply lir br bc m hb, score_apply q k lir br bc m hb]

theorem den_apply (hb : row br = col bc) (t : Fin 128) :
    den q k lir br bc m n (ix2 t 0)
      = MLSTM.den (mat q) (mat k) (feat n) (m (ix2 0 0)) (col bc) (row lir) t := by
  pointwise [den, MLSTM.den, wIn_apply lir br bc m hb, score_apply q k lir br bc m hb]

theorem hid_apply (hb : row br = col bc) (t : Fin 128) (e : Fin 256) :
    hid q k v lir br bc m C n (ix2 t e)
      = MLSTM.hid (mat q) (mat k) (mat v) (sq C) (feat n) (m (ix2 0 0)) (col bc) (row lir) t e := by
  pointwise [hid, MLSTM.hid, num_apply q k v lir br bc m C hb, den_apply q k lir br bc m n hb, stab_apply lir br bc m hb]
  rfl

theorem mean_apply (h : FVec Ideal S128x256 .f32) (t : Fin 128) : mean h (ix2 t 0) = MLSTM.mean (mat h t) := by
  pointwise [mean, MLSTM.mean]

theorem gated_apply (h : FVec Ideal S128x256 .f32) (t : Fin 128) (e : Fin 256) :
    gated w o h (ix2 t e) = MLSTM.gated (mat h t) (feat w) (mat o t) e := by
  have hsq : mat (mulf (subf h (broadcastTo S128x256 (mean h) broadcasts_S128x1_S128x256))
        (subf h (broadcastTo S128x256 (mean h) broadcasts_S128x1_S128x256))) t
      = fun j => (mat h t j - MLSTM.mean (mat h t)) * (mat h t j - MLSTM.mean (mat h t)) := by
    funext j
    show mulf _ _ (ix2 t j) = _
    pointwise [mean_apply]
  pointwise [gated, MLSTM.gated, mean_apply]
  rw [hsq]

theorem mNew_apply : mNew br lic bc m (ix2 0 0) = MLSTM.mNew (m (ix2 0 0)) (br (ix2 0 127)) (col bc) (col lic) := by
  pointwise [mNew, MLSTM.mNew, wlog, bl]
  rw [neg_inf]
  rfl

theorem wOut_apply (s : Fin 128) :
    wOut br lic bc m (ix2 s 0) = MLSTM.wOut (m (ix2 0 0)) (br (ix2 0 127)) (col bc) (col lic) s := by
  pointwise [wOut, MLSTM.wOut, wlog, bl, mNew_apply]

theorem decay_apply :
    decay br lic bc m (ix2 0 0) = MLSTM.decay (m (ix2 0 0)) (br (ix2 0 127)) (col bc) (col lic) := by
  pointwise [decay, MLSTM.decay, bl, mNew_apply]

theorem cNew_apply (e d : Fin 256) :
    cNew k v br lic bc m C (ix2 e d)
      = MLSTM.cNew (mat k) (mat v) (sq C) (m (ix2 0 0)) (br (ix2 0 127)) (col bc) (col lic) e d := by
  pointwise [cNew, MLSTM.cNew, decay_apply, wOut_apply]

theorem nNew_apply (d : Fin 256) :
    nNew k br lic bc m n (ix2 0 d)
      = MLSTM.nNew (mat k) (feat n) (m (ix2 0 0)) (br (ix2 0 127)) (col bc) (col lic) d := by
  pointwise [nNew, MLSTM.nNew, decay_apply, wOut_apply]

end Cert.KernelSIdeal.Head
-- ==== Proof.SliceS.lean ====
/-
  One head of the kernel's block, sample call, from the block's padded arrays: the head's slices, and what the head
  stores of the hidden rows, of the memory, of the normaliser and of the stabiliser, at an index.
-/
module

public import proofs.«01_k».proof.Proof.HeadS
public import Idealize.ShloMosaic.Lib.Pipeline.ValueKit

@[expose] public section

set_option maxRecDepth 16384

noncomputable section

namespace Cert.KernelSIdeal.Head

open Cert.KernelSIdeal Cert.KernelSIdeal.Gen Idealize.ShloMosaic Idealize.SL.Sem

/-- The feature `e` of head `h` among all heads' features. -/
abbrev at256 (h : Fin 4) (e : Fin 256) : Fin 1024 := ⟨256 * h.val + e.val, by omega⟩

theorem slF : ∀ h : Fin 4, S128x1024.Slices ![0, 256 * h.val] S128x256 := by decide
theorem slW : ∀ h : Fin 4, S1x1024.Slices ![0, 256 * h.val] S1x256 := by decide
theorem slR : ∀ h : Fin 8, S8x128.Slices ![h.val, 0] S1x128 := by decide
theorem slC : ∀ h : Fin 8, S128x128.Slices ![0, h.val] S128x1 := by decide

/-- A head's features. -/
def feats (h : Fin 4) (X : FVec Ideal S128x1024 .f32) : FVec Ideal S128x256 .f32 :=
  extractStridedSlice S128x256 ![0, 256 * h.val] X (slF h)
/-- A head's normalisation weights. -/
def wts (h : Fin 4) (X : FVec Ideal S1x1024 .f32) : FVec Ideal S1x256 .f32 :=
  extractStridedSlice S1x256 ![0, 256 * h.val] X (slW h)
/-- One gate row. -/
def grow (h : Fin 8) (X : FVec Ideal S8x128 .f32) : FVec Ideal S1x128 .f32 :=
  extractStridedSlice S1x128 ![h.val, 0] X (slR h)
/-- One gate column. -/
def gcol (h : Fin 8) (X : FVec Ideal S128x128 .f32) : FVec Ideal S128x1 .f32 :=
  extractStridedSlice S128x1 ![0, h.val] X (slC h)
/-- A head's keys, scaled. -/
def keys (h : Fin 4) (X : FVec Ideal S128x1024 .f32) : FVec Ideal S128x256 .f32 :=
  mulf (feats h X) (broadcast S128x256 (Scalar.ofBits .f32 0x3D800000#32))

theorem feats_apply (h : Fin 4) (X : FVec Ideal S128x1024 .f32) (s : Fin 128) (e : Fin 256) :
    feats h X (ix2 s e) = X (ix2 s (at256 h e)) := by
  pointwise [feats]
  try blk_ext []

theorem wts_apply (h : Fin 4) (X : FVec Ideal S1x1024 .f32) (e : Fin 256) :
    wts h X (ix2 0 e) = X (ix2 0 (at256 h e)) := by
  pointwise [wts]
  try blk_ext []

theorem grow_apply (h : Fin 8) (X : FVec Ideal S8x128 .f32) (s : Fin 128) :
    grow h X (ix2 0 s) = X (ix2 h s) := by
  pointwise [grow]
  try blk_ext []

theorem gcol_apply (h : Fin 8) (X : FVec Ideal S128x128 .f32) (s : Fin 128) :
    gcol h X (ix2 s 0) = X (ix2 s ⟨h.val, by omega⟩) := by
  pointwise [gcol]
  try blk_ext []

theorem keys_apply (h : Fin 4) (X : FVec Ideal S128x1024 .f32) (s : Fin 128) (e : Fin 256) :
    keys h X (ix2 s e) = X (ix2 s (at256 h e)) * Ideal.ofBits .f32 0x3D800000#32 := by
  pointwise [keys, feats_apply]

variable (h : Fin 4) (Q K V O : FVec Ideal S128x1024 .f32) (W : FVec Ideal S1x1024 .f32) (LI BC : FVec Ideal S128x128 .f32)
  (LR BR : FVec Ideal S8x128 .f32) (M : FVec Ideal S1x1x1x1 .f32) (C : FVec Ideal S1x1x256x256 .f32)
  (N : FVec Ideal S1x1x1x256 .f32)

/-- A gate's row or column for head `h`: input gates first, then forget gates. -/
abbrev gi (h : Fin 4) : Fin 8 := ⟨h.val, by omega⟩
abbrev gf (h : Fin 4) : Fin 8 := ⟨4 + h.val, by omega⟩

/-- The hidden rows that a head stores. -/
def outH : FVec Ideal S1x8x256 .f32 :=
  shapeCast S1x8x256 (extractStridedSlice S8x256 ![0, 0] (gated (wts h W) (feats h O)
      (hid (feats h Q) (keys h K) (feats h V) (grow (gi h) LR) (grow (gf h) BR) (gcol (gf h) BC)
        (shapeCast S1x1 M shapeCasts_S1x1x1x1_S1x1) (shapeCast S256x256 C shapeCasts_S1x1x256x256_S256x256)
        (shapeCast S1x256 N shapeCasts_S1x1x1x256_S1x256)))
    slices_S128x256_o0_0_S8x256) shapeCasts_S8x256_S1x8x256

/-- The memory that a head stores. -/
def outC : FVec Ideal S1x1x256x256 .f32 :=
  shapeCast S1x1x256x256 (cNew (keys h K) (feats h V) (grow (gf h) BR) (gcol (gi h) LI) (gcol (gf h) BC)
    (shapeCast S1x1 M shapeCasts_S1x1x1x1_S1x1) (shapeCast S256x256 C shapeCasts_S1x1x256x256_S256x256))
    shapeCasts_S256x256_S1x1x256x256

/-- The normaliser that a head stores. -/
def outN : FVec Ideal S1x1x1x256 .f32 :=
  shapeCast S1x1x1x256 (nNew (keys h K) (grow (gf h) BR) (gcol (gi h) LI) (gcol (gf h) BC)
    (shapeCast S1x1 M shapeCasts_S1x1x1x1_S1x1) (shapeCast S1x256 N shapeCasts_S1x1x1x256_S1x256))
    shapeCasts_S1x256_S1x1x1x256

/-- The stabiliser that a head stores. -/
def outM : FVec Ideal S1x1x1x1 .f32 :=
  shapeCast S1x1x1x1 (mNew (grow (gf h) BR) (gcol (gi h) LI) (gcol (gf h) BC)
    (shapeCast S1x1 M shapeCasts_S1x1x1x1_S1x1)) shapeCasts_S1x1_S1x1x1x1

/-- A head's features of a padded array, as plain functions. -/
abbrev fF (X : FVec Ideal S128x1024 .f32) : Fin 128 → Fin 256 → EReal := fun s e => X (ix2 s (at256 h e))
abbrev fK (X : FVec Ideal S128x1024 .f32) : Fin 128 → Fin 256 → EReal :=
  fun s e => X (ix2 s (at256 h e)) * Ideal.ofBits .f32 0x3D800000#32
abbrev fC (C : FVec Ideal S1x1x256x256 .f32) : Fin 256 → Fin 256 → EReal := fun e d => C (ix4 0 0 e d)
abbrev fN (N : FVec Ideal S1x1x1x256 .f32) : Fin 256 → EReal := fun d => N (ix4 0 0 0 d)
abbrev fcol (g : Fin 8) (X : FVec Ideal S128x128 .f32) : Fin 128 → EReal := fun s => X (ix2 s ⟨g.val, by omega⟩)
abbrev frow (g : Fin 8) (X : FVec Ideal S8x128 .f32) : Fin 128 → EReal := fun s => X (ix2 g s)

theorem mat_feats (X : FVec Ideal S128x1024 .f32) : mat (feats h X) = fF h X :=
  funext fun s => funext fun e => feats_apply h X s e
theorem mat_keys (X : FVec Ideal S128x1024 .f32) : mat (keys h X) = fK h X :=
  funext fun s => funext fun e => keys_apply h X s e
theorem row_grow (g : Fin 8) (X : FVec Ideal S8x128 .f32) : row (grow g X) = frow g X :=
  funext fun s => grow_apply g X s
theorem col_gcol (g : Fin 8) (X : FVec Ideal S128x128 .f32) : col (gcol g X) = fcol g X :=
  funext fun s => gcol_apply g X s
theorem feat_wts : feat (wts h W) = fun e => W (ix2 0 (at256 h e)) := funext fun e => wts_apply h W e
theorem sq_cast : sq (shapeCast S256x256 C shapeCasts_S1x1x256x256_S256x256) = fC C := by
  funext e d; pointwise
theorem feat_cast : feat (shapeCast S1x256 N shapeCasts_S1x1x1x256_S1x256) = fN N := by
  funext d; pointwise
theorem one_cast : (shapeCast S1x1 M shapeCasts_S1x1x1x1_S1x1 : FVec Ideal S1x1 .f32) (ix2 0 0) = M (ix4 0 0 0 0) := by
  pointwise

theorem outH_apply (hb : frow (gf h) BR = fcol (gf h) BC) (r : Fin 8) (e : Fin 256) :
    outH h Q K V O W BC LR BR M C N (ix3 0 r e)
      = MLSTM.gated (MLSTM.hid (fF h Q) (fK h K) (fF h V) (fC C) (fN N) (M (ix4 0 0 0 0)) (fcol (gf h) BC)
          (frow (gi h) LR) ⟨r.val, by omega⟩) (fun e => W (ix2 0 (at256 h e))) (fF h O ⟨r.val, by omega⟩) e := by
  have hb' : row (grow (gf h) BR) = col (gcol (gf h) BC) := by rw [row_grow, col_gcol, hb]
  have hm := fun (t : Fin 128) => show mat (hid (feats h Q) (keys h K) (feats h V) (grow (gi h) LR) (grow (gf h) BR) (gcol (gf h) BC)
        (shapeCast S1x1 M shapeCasts_S1x1x1x1_S1x1) (shapeCast S256x256 C shapeCasts_S1x1x256x256_S256x256)
        (shapeCast S1x256 N shapeCasts_S1x1x1x256_S1x256)) t = MLSTM.hid _ _ _ _ _ _ _ _ t from
    funext fun j => hid_apply _ _ _ _ _ _ _ _ _ hb' t j
  pointwise [outH]
  rw [gated_apply, hm, mat_feats, mat_feats, mat_feats, mat_keys, feat_wts, sq_cast, feat_cast, one_cast, row_grow, col_gcol]

theorem outC_apply (e d : Fin 256) :
    outC h K V LI BC BR M C (ix4 0 0 e d)
      = MLSTM.cNew (fK h K) (fF h V) (fC C) (M (ix4 0 0 0 0)) (BR (ix2 (gf h) 127)) (fcol (gf h) BC) (fcol (gi h) LI) e d := by
  pointwise [outC]
  rw [cNew_apply, mat_feats, mat_keys, sq_cast, one_cast, grow_apply, col_gcol, col_gcol]

theorem outN_apply (d : Fin 256) :
    outN h K LI BC BR M N (ix4 0 0 0 d)
      = MLSTM.nNew (fK h K) (fN N) (M (ix4 0 0 0 0)) (BR (ix2 (gf h) 127)) (fcol (gf h) BC) (fcol (gi h) LI) d := by
  pointwise [outN]
  rw [nNew_apply, mat_keys, feat_cast, one_cast, grow_apply, col_gcol, col_gcol]

theorem outM_apply :
    outM h LI BC BR M (ix4 0 0 0 0)
      = MLSTM.mNew (M (ix4 0 0 0 0)) (BR (ix2 (gf h) 127)) (fcol (gf h) BC) (fcol (gi h) LI) := by
  pointwise [outM]
  rw [mNew_apply, one_cast, grow_apply, col_gcol, col_gcol]

end Cert.KernelSIdeal.Head
-- ==== Proof.GateS.lean ====
/-
  The gates of the kernel's block, sample call: the log input gates and the running sums of the log forget gates, by rows and
  by columns, at an index.
-/
module

public import proofs.«01_k».proof.Proof.SliceS

@[expose] public section

set_option maxRecDepth 16384

noncomputable section

namespace Cert.KernelSIdeal.Head

open Cert.KernelSIdeal Cert.KernelSIdeal.Gen Idealize.ShloMosaic Idealize.SL.Sem

variable (x : FVec Ideal S1x8x128 .f32)

theorem pad_apply (s : Fin 128) (g : Fin 128) :
    k0_pay6 (F := Ideal) x (ix2 s g) = if h : s.val < 8 then x (ix3 0 ⟨s.val, h⟩ g) else 0 := by
  pointwise [k0_pay6]

theorem liC_apply (s : Fin 128) (g : Fin 128) :
    k0_pay8 (F := Ideal) x (ix2 s g) = if s.val < 4 then k0_pay6 (F := Ideal) x (ix2 s g) else ⊥ := by
  pointwise [k0_pay8]
  rw [neg_inf]
  word_cmp

theorem liR_apply (s : Fin 128) (g : Fin 8) :
    k0_pay11 (k0_pay7 (F := Ideal) x) k0_pay10 (ix2 g s) = if s.val < 4 then k0_pay6 (F := Ideal) x (ix2 s ⟨g.val, by omega⟩) else ⊥ := by
  pointwise [k0_pay11, k0_pay7, k0_pay10]
  rw [neg_inf]
  word_cmp

theorem lfC_apply (s : Fin 128) (g : Fin 128) :
    k0_pay9 (F := Ideal) x (ix2 s g) = if s.val < 4 then MLSTM.logSig (k0_pay6 (F := Ideal) x (ix2 s g)) else 0 := by
  pointwise [k0_pay9, MLSTM.logSig]
  rw [if_neg (fun h => h rfl)]
  word_cmp
  rfl

theorem lfR_apply (s : Fin 128) (g : Fin 8) :
    k0_pay12 (k0_pay7 (F := Ideal) x) (iota .tc S1x128 32 [1] iota_S1x128_d1_w32) (ix2 g s)
      = if s.val < 4 then MLSTM.logSig (k0_pay6 (F := Ideal) x (ix2 s ⟨g.val, by omega⟩)) else 0 := by
  pointwise [k0_pay12, k0_pay7, MLSTM.logSig]
  rw [if_neg (fun h => h rfl)]
  word_cmp
  rfl

theorem bC_apply (A : FVec Ideal S128x128 .f32) (s : Fin 128) (g : Fin 128)
    (hA : ∀ s, A (ix2 s g) ≠ ⊤) :
    k0_pay20 k0_pay14 (k0_pay16 A) (k0_pay18 A) (k0_pay19 A) (ix2 s g) = MLSTM.cum (fun s => A (ix2 s g)) s := by
  rw [← MLSTM.cum_split _ hA]
  pointwise [k0_pay20, k0_pay14, k0_pay13, k0_pay16, k0_pay18, k0_pay19, k0_pay17]
  word_cmp
  rfl

theorem bR_apply (A : FVec Ideal S8x128 .f32) (s : Fin 128) (g : Fin 8)
    (hA : ∀ s, A (ix2 g s) ≠ ⊤) :
    k0_pay21 A k0_pay15 (ix2 g s) = MLSTM.cum (fun s => A (ix2 g s)) s := by
  rw [← MLSTM.cum_split _ hA]
  pointwise [k0_pay21, k0_pay15]
  word_cmp
  rfl

/-! ## The gates as plain functions of the block -/

/-- The gate `g` at position `s` of the padded block. -/
def gate (g : Fin 8) (s : Fin 128) : EReal := if h : s.val < 8 then x (ix3 0 ⟨s.val, h⟩ ⟨g.val, by omega⟩) else 0

/-- The log input gate of head `h`: `-∞` past the fourth position. -/
def li (h : Fin 4) (s : Fin 128) : EReal := if s.val < 4 then gate x (gi h) s else ⊥

/-- The log forget gate of head `h`: `0` past the fourth position. -/
def lf (h : Fin 4) (s : Fin 128) : EReal := if s.val < 4 then MLSTM.logSig (gate x (gf h) s) else 0

theorem lf_ne_top (h : Fin 4) (s : Fin 128) : lf x h s ≠ ⊤ := by
  unfold lf
  split
  · exact MLSTM.logSig_ne_top _
  · exact EReal.coe_ne_top 0

/-- The block's log input gates by columns and by rows, its running sums by columns and by rows. -/
abbrev LI : FVec Ideal S128x128 .f32 := k0_pay8 x
abbrev LR : FVec Ideal S8x128 .f32 := k0_pay11 (k0_pay7 x) k0_pay10
abbrev BC : FVec Ideal S128x128 .f32 :=
  k0_pay20 k0_pay14 (k0_pay16 (k0_pay9 x)) (k0_pay18 (k0_pay9 x)) (k0_pay19 (k0_pay9 x))
abbrev BR : FVec Ideal S8x128 .f32 :=
  k0_pay21 (k0_pay12 (k0_pay7 x) (iota .tc S1x128 32 [1] iota_S1x128_d1_w32)) k0_pay15

theorem LI_eq (h : Fin 4) : fcol (gi h) (LI x) = li x h := by
  funext s
  exact (liC_apply x s _).trans (by rw [pad_apply]; rfl)

theorem LR_eq (h : Fin 4) : frow (gi h) (LR x) = li x h := by
  funext s
  exact (liR_apply x s _).trans (by rw [pad_apply]; rfl)

theorem lfC_eq (h : Fin 4) :
    (fun s => (k0_pay9 (F := Ideal) x : FVec Ideal S128x128 .f32) (ix2 s ⟨(gf h).val, by omega⟩)) = lf x h := by
  funext s
  exact (lfC_apply x s _).trans (by rw [pad_apply]; rfl)

theorem lfR_eq (h : Fin 4) :
    (fun s => (k0_pay12 (k0_pay7 (F := Ideal) x) (iota .tc S1x128 32 [1] iota_S1x128_d1_w32) : FVec Ideal S8x128 .f32)
      (ix2 (gf h) s)) = lf x h := by
  funext s
  exact (lfR_apply x s _).trans (by rw [pad_apply]; rfl)

theorem BC_eq (h : Fin 4) : fcol (gf h) (BC x) = MLSTM.cum (lf x h) := by
  funext s
  refine (bC_apply _ s _ fun u => ?_).trans (congrArg (MLSTM.cum · s) (lfC_eq x h))
  exact (congrFun (lfC_eq x h) u).trans_ne (lf_ne_top x h u)

theorem BR_eq (h : Fin 4) : frow (gf h) (BR x) = MLSTM.cum (lf x h) := by
  funext s
  refine (bR_apply _ s _ fun u => ?_).trans (congrArg (MLSTM.cum · s) (lfR_eq x h))
  exact (congrFun (lfR_eq x h) u).trans_ne (lf_ne_top x h u)

end Cert.KernelSIdeal.Head
-- ==== Proof.BlockS.lean ====
/-
  What a grid point of the sample call leaves in its four output blocks: the arithmetic of one chunk of 128 positions, on the
  blocks of the projections (8 positions, padded by zeros) and of the states.
-/
module

public import proofs.«01_k».proof.Proof.GateS
public import proofs.«01_k».proof.Proof.Gen.KernelSIdeal.Value
public import Idealize.ShloMosaic.Lib.Pipeline.ReadBack

@[expose] public section

set_option maxRecDepth 16384

noncomputable section

namespace Cert.KernelSIdeal.Block

open Cert.KernelSIdeal Cert.KernelSIdeal.Gen Cert.KernelSIdeal.Head
open Idealize.ShloMosaic Idealize.ShloMosaic.TcCoe Idealize.SL.Sem

variable (x0 x1 x2 x3 : FVec Ideal S1x8x1024 .f32) (x4 : FVec Ideal S1x8x128 .f32) (x5 : FVec Ideal S1x1024 .f32)
  (x6 : FVec Ideal S1x4x256x256 .f32) (x7 : FVec Ideal S1x4x1x256 .f32) (x8 : FVec Ideal S1x4x1x1 .f32)

/-- A head's features of a block of 8 positions, padded by zeros. -/
def padF (X : FVec Ideal S1x8x1024 .f32) (h : Fin 4) (s : Fin 128) (e : Fin 256) : EReal :=
  if hs : s.val < 8 then X (ix3 0 ⟨s.val, hs⟩ (at256 h e)) else 0

/-- The same, scaled as the keys are. -/
def padK (X : FVec Ideal S1x8x1024 .f32) (h : Fin 4) (s : Fin 128) (e : Fin 256) : EReal :=
  padF X h s e * Ideal.ofBits .f32 0x3D800000#32

/-- The hidden row `r` of head `h`. -/
def blkH (h : Fin 4) (r : Fin 8) (e : Fin 256) : EReal :=
  MLSTM.gated (MLSTM.hid (padF x0 h) (padK x1 h) (padF x2 h) (fun e d => x6 (ix4 0 h e d)) (fun d => x7 (ix4 0 h 0 d))
      (x8 (ix4 0 h 0 0)) (MLSTM.cum (lf x4 h)) (li x4 h) ⟨r.val, by omega⟩)
    (fun e => x5 (ix2 0 (at256 h e))) (padF x3 h ⟨r.val, by omega⟩) e

/-- The next memory of head `h`. -/
def blkC (h : Fin 4) (e d : Fin 256) : EReal :=
  MLSTM.cNew (padK x1 h) (padF x2 h) (fun e d => x6 (ix4 0 h e d)) (x8 (ix4 0 h 0 0)) (MLSTM.cum (lf x4 h) 127)
    (MLSTM.cum (lf x4 h)) (li x4 h) e d

/-- The next normaliser of head `h`. -/
def blkN (h : Fin 4) (d : Fin 256) : EReal :=
  MLSTM.nNew (padK x1 h) (fun d => x7 (ix4 0 h 0 d)) (x8 (ix4 0 h 0 0)) (MLSTM.cum (lf x4 h) 127)
    (MLSTM.cum (lf x4 h)) (li x4 h) d

/-- The next stabiliser of head `h`. -/
def blkM (h : Fin 4) : EReal :=
  MLSTM.mNew (x8 (ix4 0 h 0 0)) (MLSTM.cum (lf x4 h) 127) (MLSTM.cum (lf x4 h)) (li x4 h)

variable {x0 x1 x2 x3 x4 x5 x6 x7 x8}

theorem padQ_eq (h : Fin 4) : fF h (k0_pay22 x0) = padF x0 h := by
  funext s e; unfold padF; pointwise [k0_pay22]
theorem padV_eq (h : Fin 4) : fF h (k0_pay24 x0) = padF x0 h := by
  funext s e; unfold padF; pointwise [k0_pay24]
theorem padO_eq (h : Fin 4) : fF h (k0_pay27 (k0_pay25 x0) k0_pay26) = padF x0 h := by
  funext s e; unfold padF; pointwise [k0_pay27, k0_pay25, k0_pay26]
theorem padK_eq (h : Fin 4) : fK h (k0_pay23 x0) = padK x0 h := by
  funext s e
  refine (congrArg (· * _) ?_ : (k0_pay23 (F := Ideal) x0 : FVec Ideal S128x1024 .f32) (ix2 s (at256 h e)) * _ = _)
  unfold padF; pointwise [k0_pay23]
theorem wts_eq (h : Fin 4) : (fun e => (k0_pay28 x5 : FVec Ideal S1x1024 .f32) (ix2 0 (at256 h e))) = fun e => x5 (ix2 0 (at256 h e)) := by
  funext e; pointwise [k0_pay28]

/-- A head's hidden rows from the slices it reads of the states. -/
theorem hidden_piece (h : Fin 4) (M : FVec Ideal S1x1x1x1 .f32) (C : FVec Ideal S1x1x256x256 .f32) (N : FVec Ideal S1x1x1x256 .f32)
    (hM : M (ix4 0 0 0 0) = x8 (ix4 0 h 0 0)) (hC : ∀ e d, C (ix4 0 0 e d) = x6 (ix4 0 h e d))
    (hN : ∀ d, N (ix4 0 0 0 d) = x7 (ix4 0 h 0 d)) (r : Fin 8) (e : Fin 256) :
    outH h (k0_pay22 x0) (k0_pay23 x1) (k0_pay24 x2) (k0_pay27 (k0_pay25 x3) k0_pay26) (k0_pay28 x5) (BC x4) (LR x4) (BR x4) M C N
      (ix3 0 r e) = blkH x0 x1 x2 x3 x4 x5 x6 x7 x8 h r e := by
  rw [outH_apply _ _ _ _ _ _ _ _ _ _ _ _ ((BR_eq x4 h).trans (BC_eq x4 h).symm), padQ_eq, padK_eq, padV_eq, padO_eq, wts_eq,
    BC_eq, LR_eq, hM, show fC C = _ from funext fun e => funext fun d => hC e d, show fN N = _ from funext fun d => hN d]
  rfl

theorem memory_piece (h : Fin 4) (M : FVec Ideal S1x1x1x1 .f32) (C : FVec Ideal S1x1x256x256 .f32)
    (hM : M (ix4 0 0 0 0) = x8 (ix4 0 h 0 0)) (hC : ∀ e d, C (ix4 0 0 e d) = x6 (ix4 0 h e d)) (e d : Fin 256) :
    outC h (k0_pay23 x1) (k0_pay24 x2) (LI x4) (BC x4) (BR x4) M C (ix4 0 0 e d) = blkC x1 x2 x4 x6 x8 h e d := by
  rw [outC_apply, padK_eq, padV_eq, BC_eq, LI_eq, hM, show fC C = _ from funext fun e => funext fun d => hC e d,
    show (BR x4) (ix2 (gf h) 127) = _ from congrFun (BR_eq x4 h) 127]
  rfl

theorem normaliser_piece (h : Fin 4) (M : FVec Ideal S1x1x1x1 .f32) (N : FVec Ideal S1x1x1x256 .f32)
    (hM : M (ix4 0 0 0 0) = x8 (ix4 0 h 0 0)) (hN : ∀ d, N (ix4 0 0 0 d) = x7 (ix4 0 h 0 d)) (d : Fin 256) :
    outN h (k0_pay23 x1) (LI x4) (BC x4) (BR x4) M N (ix4 0 0 0 d) = blkN x1 x4 x7 x8 h d := by
  rw [outN_apply, padK_eq, BC_eq, LI_eq, hM, show fN N = _ from funext fun d => hN d,
    show (BR x4) (ix2 (gf h) 127) = _ from congrFun (BR_eq x4 h) 127]
  rfl

theorem stabiliser_piece (h : Fin 4) (M : FVec Ideal S1x1x1x1 .f32) (hM : M (ix4 0 0 0 0) = x8 (ix4 0 h 0 0)) :
    outM h (LI x4) (BC x4) (BR x4) M (ix4 0 0 0 0) = blkM x4 x8 h := by
  rw [outM_apply, BC_eq, LI_eq, hM, show (BR x4) (ix2 (gf h) 127) = _ from congrFun (BR_eq x4 h) 127]
  rfl

/-! ## Head 0, whose stored term is printed in parts -/

section
variable (Q K V O : FVec Ideal S128x1024 .f32) (W : FVec Ideal S1x1024 .f32) (BC : FVec Ideal S128x128 .f32)
  (LR BR : FVec Ideal S8x128 .f32) (M : FVec Ideal S1x1x1x1 .f32) (C : FVec Ideal S1x1x256x256 .f32)
  (N : FVec Ideal S1x1x1x256 .f32)

abbrev M2 : FVec Ideal S1x1 .f32 := shapeCast S1x1 M shapeCasts_S1x1x1x1_S1x1

theorem stab_zero : k0_pay40 LR k0_pay13 BC BR M = Head.stab (grow (gi 0) LR) (grow (gf 0) BR) (gcol (gf 0) BC) (M2 M) := rfl
theorem wIn_zero : k0_pay41 LR k0_pay13 BC BR M = Head.wIn (grow (gi 0) LR) (grow (gf 0) BR) (gcol (gf 0) BC) (M2 M) := rfl
theorem score_zero : k0_pay42 LR k0_pay13 BC BR Q K M
    = Head.score (feats 0 Q) (keys 0 K) (grow (gi 0) LR) (grow (gf 0) BR) (gcol (gf 0) BC) (M2 M) := rfl

theorem hidden_zero : k0_pay46 (k0_pay45 O W (k0_pay29 Q) (k0_pay31 V) (k0_pay37 N) (k0_pay40 LR k0_pay13 BC BR M)
    (k0_pay41 LR k0_pay13 BC BR M) (k0_pay42 LR k0_pay13 BC BR Q K M) (k0_pay43 Q) (k0_pay44 C) (constant S128x256 .f32 0#32))
    = outH 0 Q K V O W BC LR BR M C N := by
  rw [stab_zero, wIn_zero, score_zero]
  unfold k0_pay45 outH Head.hid Head.num Head.den
  generalize Head.stab _ _ _ _ = S1
  generalize Head.wIn _ _ _ _ = S2
  generalize Head.score _ _ _ _ _ _ = S3
  rfl
end

variable (m : (ℓ : Loc nD τ sig) → Buf (Elt Ideal) ℓ)

/-- Pieces stored below pieces that already cover an index do not matter there. -/
theorem canon_append {S : Shape} {e : EltTy} {Val : EltTy → Type} [∀ e, Nonempty (Val e)] (y : S.Idx) :
    ∀ L L' : List (View.Piece Val S e), (∃ p ∈ L, y ∈ p.1.set) → View.canon (L ++ L') y = View.canon L y
  | [], _, h => by obtain ⟨p, hp, _⟩ := h; exact absurd hp List.not_mem_nil
  | p :: L, L', h => by
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_append y L L' ?_
      obtain ⟨q, hq, hyq⟩ := h
      rcases List.mem_cons.mp hq with rfl | hq'
      · exact absurd hyq hm
      · exact ⟨q, hq', hyq⟩

theorem ix3_of {a b c : Nat} (x : (⟨3, ![a, b, c]⟩ : Shape).Idx) (i : Fin a) (j : Fin b) (k : Fin c) (hi : i.val = (x 0).val)
    (hj : j.val = (x 1).val) (hk : k.val = (x 2).val) : x = ix3 i j k := by
  funext q; match q with | 0 => exact Fin.ext hi.symm | 1 => exact Fin.ext hj.symm | 2 => exact Fin.ext hk.symm

theorem ix4_of {a b c d : Nat} (x : (⟨4, ![a, b, c, d]⟩ : Shape).Idx) (i : Fin a) (j : Fin b) (k : Fin c) (l : Fin d)
    (hi : i.val = (x 0).val) (hj : j.val = (x 1).val) (hk : k.val = (x 2).val) (hl : l.val = (x 3).val) : x = ix4 i j k l := by
  funext q
  match q with
  | 0 => exact Fin.ext hi.symm | 1 => exact Fin.ext hj.symm | 2 => exact Fin.ext hk.symm | 3 => exact Fin.ext hl.symm

/-- The head a piece belongs to, from the piece's equation on the heads' axis (of length one). -/
theorem head_of {n : Nat} (h k : Fin 4) (y : Nat) (e : h.val = n + y) (l : y < 1) (hn : k.val = n) : h = k := Fin.ext (by omega)

/-- The stabilisers a grid point leaves. -/
theorem stabiliser_block (c : Dev nD) (t : Fin cfg0.N) (h : Fin 4) :
    (outsAt0 m c t).2.2.2 (ix4 0 h 0 0) = blkM (iblk m c 4 t) (iblk m c 8 t) h := by
  unfold outsAt0; dsimp only; frame_open
  simp (disch := decide) only [↓ View.readCov_skip, ↓ View.readCov_cons_toLoadRect, ↓ View.readCov_fill]
  frame_out
  refine (canon_append _ [_, _, _, _] [_] ?_).trans ?_
  · exact View.cover_of_tiled_head _ _ _ rfl _
  canon_tiles x hx
  · obtain rfl := head_of h 3 _ hx1 (by omega) rfl
    obtain rfl := ix4_of x 0 0 0 0 hx0 (by simp) hx2 hx3
    refine Eq.trans (b := outM 3 _ _ _ _ (ix4 0 0 0 0)) rfl (stabiliser_piece 3 _ ?_)
    · pointwise [k0_pay5]
  · obtain rfl := head_of h 2 _ hx1 (by omega) rfl
    obtain rfl := ix4_of x 0 0 0 0 hx0 (by simp) hx2 hx3
    refine Eq.trans (b := outM 2 _ _ _ _ (ix4 0 0 0 0)) rfl (stabiliser_piece 2 _ ?_)
    · pointwise [k0_pay5]
  · obtain rfl := head_of h 1 _ hx1 (by omega) rfl
    obtain rfl := ix4_of x 0 0 0 0 hx0 (by simp) hx2 hx3
    refine Eq.trans (b := outM 1 _ _ _ _ (ix4 0 0 0 0)) rfl (stabiliser_piece 1 _ ?_)
    · pointwise [k0_pay5]
  · obtain rfl := head_of (n := 0) h 0 _ (hx1.trans (Nat.zero_add _).symm) (by omega) rfl
    obtain rfl := ix4_of x 0 0 0 0 hx0 (by simp) hx2 hx3
    refine Eq.trans (b := outM 0 _ _ _ _ (ix4 0 0 0 0)) rfl (stabiliser_piece 0 _ ?_)
    · pointwise [k0_pay5]

/-- The memories a grid point leaves. -/
theorem memory_block (c : Dev nD) (t : Fin cfg0.N) (h : Fin 4) (e d : Fin 256) :
    (outsAt0 m c t).2.1 (ix4 0 h e d) = blkC (iblk m c 1 t) (iblk m c 2 t) (iblk m c 4 t) (iblk m c 6 t) (iblk m c 8 t) h e d := by
  unfold outsAt0; dsimp only; frame_open
  simp (disch := decide) only [↓ View.readCov_skip, ↓ View.readCov_cons_toLoadRect, ↓ View.readCov_fill]
  frame_out
  refine (canon_append _ [_, _, _, _] [_] ?_).trans ?_
  · exact View.cover_of_tiled_head _ _ _ rfl _
  canon_tiles x hx
  · obtain rfl := head_of h 3 _ hx1 (by omega) rfl
    obtain rfl := ix4_of x 0 0 e d hx0 (by simp) hx2 hx3
    refine Eq.trans (b := outC 3 _ _ _ _ _ _ _ (ix4 0 0 e d)) rfl (memory_piece 3 _ _ ?_ (fun e d => ?_) e d)
    · pointwise [k0_pay5]
    · pointwise
  · obtain rfl := head_of h 2 _ hx1 (by omega) rfl
    obtain rfl := ix4_of x 0 0 e d hx0 (by simp) hx2 hx3
    refine Eq.trans (b := outC 2 _ _ _ _ _ _ _ (ix4 0 0 e d)) rfl (memory_piece 2 _ _ ?_ (fun e d => ?_) e d)
    · pointwise [k0_pay5]
    · pointwise
  · obtain rfl := head_of h 1 _ hx1 (by omega) rfl
    obtain rfl := ix4_of x 0 0 e d hx0 (by simp) hx2 hx3
    refine Eq.trans (b := outC 1 _ _ _ _ _ _ _ (ix4 0 0 e d)) rfl (memory_piece 1 _ _ ?_ (fun e d => ?_) e d)
    · pointwise [k0_pay5]
    · pointwise
  · obtain rfl := head_of (n := 0) h 0 _ (hx1.trans (Nat.zero_add _).symm) (by omega) rfl
    obtain rfl := ix4_of x 0 0 e d hx0 (by simp) hx2 hx3
    refine Eq.trans (b := outC 0 _ _ _ _ _ _ _ (ix4 0 0 e d)) rfl (memory_piece 0 _ _ ?_ (fun e d => ?_) e d)
    · pointwise [k0_pay5]
    · pointwise

/-- The normalisers a grid point leaves. -/
theorem normaliser_block (c : Dev nD) (t : Fin cfg0.N) (h : Fin 4) (d : Fin 256) :
    (outsAt0 m c t).2.2.1 (ix4 0 h 0 d) = blkN (iblk m c 1 t) (iblk m c 4 t) (iblk m c 7 t) (iblk m c 8 t) h d := by
  unfold outsAt0; dsimp only; frame_open
  simp (disch := decide) only [↓ View.readCov_skip, ↓ View.readCov_cons_toLoadRect, ↓ View.readCov_fill]
  frame_out
  refine (canon_append _ [_, _, _, _] [_] ?_).trans ?_
  · exact View.cover_of_tiled_head _ _ _ rfl _
  canon_tiles x hx
  · obtain rfl := head_of h 3 _ hx1 (by omega) rfl
    obtain rfl := ix4_of x 0 0 0 d hx0 (by simp) hx2 hx3
    refine Eq.trans (b := outN 3 _ _ _ _ _ _ (ix4 0 0 0 d)) rfl (normaliser_piece 3 _ _ ?_ (fun d => ?_) d)
    · pointwise [k0_pay5]
    · pointwise [k0_pay4]
  · obtain rfl := head_of h 2 _ hx1 (by omega) rfl
    obtain rfl := ix4_of x 0 0 0 d hx0 (by simp) hx2 hx3
    refine Eq.trans (b := outN 2 _ _ _ _ _ _ (ix4 0 0 0 d)) rfl (normaliser_piece 2 _ _ ?_ (fun d => ?_) d)
    · pointwise [k0_pay5]
    · pointwise [k0_pay4]
  · obtain rfl := head_of h 1 _ hx1 (by omega) rfl
    obtain rfl := ix4_of x 0 0 0 d hx0 (by simp) hx2 hx3
    refine Eq.trans (b := outN 1 _ _ _ _ _ _ (ix4 0 0 0 d)) rfl (normaliser_piece 1 _ _ ?_ (fun d => ?_) d)
    · pointwise [k0_pay5]
    · pointwise [k0_pay4]
  · obtain rfl := head_of (n := 0) h 0 _ (hx1.trans (Nat.zero_add _).symm) (by omega) rfl
    obtain rfl := ix4_of x 0 0 0 d hx0 (by simp) hx2 hx3
    refine Eq.trans (b := outN 0 _ _ _ _ _ _ (ix4 0 0 0 d)) rfl (normaliser_piece 0 _ _ ?_ (fun d => ?_) d)
    · pointwise [k0_pay5]
    · pointwise [k0_pay4]

set_option maxHeartbeats 1000000 in
/-- The hidden rows a grid point leaves. -/
theorem hidden_block (c : Dev nD) (t : Fin cfg0.N) (h : Fin 4) (r : Fin 8) (e : Fin 256) :
    (outsAt0 m c t).1 (ix3 0 r (at256 h e)) = blkH (iblk m c 0 t) (iblk m c 1 t) (iblk m c 2 t) (iblk m c 3 t) (iblk m c 4 t) (iblk m c 5 t)
      (iblk m c 6 t) (iblk m c 7 t) (iblk m c 8 t) h r e := by
  unfold outsAt0; dsimp only; frame_open
  simp (disch := decide) only [↓ View.readCov_skip, ↓ View.readCov_cons_toLoadRect, ↓ View.readCov_fill]
  frame_out
  canon_tiles x hx
  · obtain rfl : h = 3 := Fin.ext (by have : 256 * h.val + e.val = 768 + (x 2).val := hx2; simp; omega)
    obtain rfl := ix3_of x 0 r e hx0 hx1 (by have : 256 * 3 + e.val = 768 + (x 2).val := hx2; omega)
    refine Eq.trans (b := outH 3 (k0_pay22 (iblk m c 0 t)) (k0_pay23 (iblk m c 1 t)) (k0_pay24 (iblk m c 2 t)) (k0_pay27 (k0_pay25 (iblk m c 3 t)) k0_pay26)
        (k0_pay28 (iblk m c 5 t)) (BC (iblk m c 4 t)) (LR (iblk m c 4 t)) (BR (iblk m c 4 t)) _ _ _ (ix3 0 r e)) rfl (hidden_piece 3 _ _ _ ?_ (fun e d => ?_) (fun d => ?_) r e)
    · pointwise [k0_pay5]
    · pointwise
    · pointwise [k0_pay4]
  · obtain rfl : h = 2 := Fin.ext (by have : 256 * h.val + e.val = 512 + (x 2).val := hx2; simp; omega)
    obtain rfl := ix3_of x 0 r e hx0 hx1 (by have : 256 * 2 + e.val = 512 + (x 2).val := hx2; omega)
    refine Eq.trans (b := outH 2 (k0_pay22 (iblk m c 0 t)) (k0_pay23 (iblk m c 1 t)) (k0_pay24 (iblk m c 2 t)) (k0_pay27 (k0_pay25 (iblk m c 3 t)) k0_pay26)
        (k0_pay28 (iblk m c 5 t)) (BC (iblk m c 4 t)) (LR (iblk m c 4 t)) (BR (iblk m c 4 t)) _ _ _ (ix3 0 r e)) rfl (hidden_piece 2 _ _ _ ?_ (fun e d => ?_) (fun d => ?_) r e)
    · pointwise [k0_pay5]
    · pointwise
    · pointwise [k0_pay4]
  · obtain rfl : h = 1 := Fin.ext (by have : 256 * h.val + e.val = 256 + (x 2).val := hx2; simp; omega)
    obtain rfl := ix3_of x 0 r e hx0 hx1 (by have : 256 * 1 + e.val = 256 + (x 2).val := hx2; omega)
    refine Eq.trans (b := outH 1 (k0_pay22 (iblk m c 0 t)) (k0_pay23 (iblk m c 1 t)) (k0_pay24 (iblk m c 2 t)) (k0_pay27 (k0_pay25 (iblk m c 3 t)) k0_pay26)
        (k0_pay28 (iblk m c 5 t)) (BC (iblk m c 4 t)) (LR (iblk m c 4 t)) (BR (iblk m c 4 t)) _ _ _ (ix3 0 r e)) rfl (hidden_piece 1 _ _ _ ?_ (fun e d => ?_) (fun d => ?_) r e)
    · pointwise [k0_pay5]
    · pointwise
    · pointwise [k0_pay4]
  · obtain rfl : h = 0 := Fin.ext (by have : 256 * h.val + e.val = 0 + (x 2).val := hx2.trans (Nat.zero_add _).symm; simp; omega)
    obtain rfl := ix3_of x 0 r e hx0 hx1 (by have : 256 * 0 + e.val = 0 + (x 2).val := hx2.trans (Nat.zero_add _).symm; omega)
    refine Eq.trans (congrFun (hidden_zero _ _ _ _ _ _ _ _ _ _ _) _) (hidden_piece 0 _ _ _ ?_ (fun e d => ?_) (fun d => ?_) r e)
    · pointwise [k0_pay5]
    · pointwise
    · pointwise [k0_pay4]

end Cert.KernelSIdeal.Block
-- ==== Proof.Cumsum.lean ====
/-
  The reference's running sum along the last axis of a `[B, H, L]` array, as the host prints it (a window of the whole
  length, padded low by one less), read at an index.
-/
module

public import proofs.«01_k».proof.Proof.Chunk

@[expose] public section

noncomputable section

namespace MLSTM

open Idealize.ShloMosaic Idealize.SL.Sem

theorem foldl_add {α : Type} (g : α → EReal) : ∀ (l : List α) (v : EReal), l.foldl (fun r n => r + g n) v = v + (l.map g).sum
  | [], v => by simp
  | a :: l, v => by rw [List.foldl_cons, foldl_add g l, List.map_cons, List.sum_cons, add_assoc]

/-- The indices of a window one by one by `L` are its positions along the last axis. -/
def windowEquiv (L : ℕ) : (⟨3, ![1, 1, L]⟩ : Shape).Idx ≃ Fin L where
  toFun w := w 2
  invFun l := ix3 0 0 l
  left_inv w := by
    funext a
    match a with
    | 0 => exact Subsingleton.elim (α := Fin 1) _ _
    | 1 => exact Subsingleton.elim (α := Fin 1) _ _
    | 2 => rfl
  right_inv _ := rfl

theorem window_sum {L Lm : ℕ} (hL : Lm + 1 = L) (f : Fin L → EReal) (t : Fin L) :
    (∑ l : Fin L, if h : Lm ≤ t.val + l.val then f ⟨t.val + l.val - Lm, by have := t.isLt; have := l.isLt; omega⟩ else 0) = cum f t := by
  subst hL
  have ht := t.isLt
  unfold cum
  have e : ∀ l : Fin (Lm + 1), (if h : Lm ≤ t.val + l.val then f ⟨t.val + l.val - Lm, by have := l.isLt; omega⟩ else 0)
      = if Lm ≤ t.val + l.val then f ⟨t.val + l.val - Lm, by have := l.isLt; omega⟩ else 0 := fun l => by split <;> rfl
  rw [Finset.sum_congr rfl fun l _ => e l, ← Finset.sum_filter, ← Finset.sum_filter]
  refine Finset.sum_bij' (fun l _ => ⟨t.val + l.val - Lm, by have := l.isLt; omega⟩) (fun s hs => ⟨s.val + Lm - t.val, ?_⟩) ?_ ?_ ?_ ?_ ?_
  · have := Fin.le_def.mp (Finset.mem_filter.mp hs).2; omega
  · intro l hl
    have := (Finset.mem_filter.mp hl).2
    exact Finset.mem_filter.mpr ⟨Finset.mem_univ _, Fin.le_def.mpr (by have := l.isLt; show t.val + l.val - Lm ≤ t.val; omega)⟩
  · intro s hs
    have := Fin.le_def.mp (Finset.mem_filter.mp hs).2
    exact Finset.mem_filter.mpr ⟨Finset.mem_univ _, by show Lm ≤ t.val + (s.val + Lm - t.val); omega⟩
  · intro l hl
    have := (Finset.mem_filter.mp hl).2
    exact Fin.ext (by show t.val + l.val - Lm + Lm - t.val = l.val; omega)
  · intro s hs
    have := Fin.le_def.mp (Finset.mem_filter.mp hs).2
    exact Fin.ext (by show t.val + (s.val + Lm - t.val) - Lm = s.val; omega)
  · intro l _; rfl

/-- The running sum at an index. -/
theorem cumsum_apply {B H L Lm : ℕ} (hL : Lm + 1 = L) (x : FVec Ideal ⟨3, ![B, H, L]⟩ .f32) (init : FVec Ideal ⟨0, ![]⟩ .f32)
    (h : (⟨3, ![B, H, L]⟩ : Shape).ReduceWindows (![1, 1, L] : Fin 3 → Nat) ![1, 1, 1] ![0, 0, Lm] ![0, 0, 0] ⟨3, ![B, H, L]⟩)
    (hu : 0 < (⟨0, ![]⟩ : Shape).numel) (hinit : init (Shape.Idx.first hu) = 0) (b : Fin B) (g : Fin H) (t : Fin L) :
    Host.reduceWindowAdd ![1, 1, L] ![1, 1, 1] ![0, 0, Lm] ![0, 0, 0] x init h hu (ix3 b g t) = cum (fun s => x (ix3 b g s)) t := by
  have hb := b.isLt
  have hg := g.isLt
  have ht := t.isLt
  rw [← window_sum hL]
  show Host.reduceWindow (· + ·) ![1, 1, L] ![1, 1, 1] ![0, 0, Lm] ![0, 0, 0] x
    (fun _ : (⟨0, ![]⟩ : Shape).Idx => init (Shape.Idx.first hu)) h (by decide) (ix3 b g t) = _
  unfold Host.reduceWindow
  dsimp only
  rw [hinit]
  refine (foldl_add _ _ _).trans ?_
  rw [zero_add, ← Fin.sum_univ_def]
  refine Eq.trans ?_ (Equiv.sum_comp ((⟨3, ![1, 1, L]⟩ : Shape).rowMajor.symm.trans (windowEquiv L)) (fun l : Fin L =>
    if h : Lm ≤ t.val + l.val then x (ix3 b g ⟨t.val + l.val - Lm, by have := l.isLt; omega⟩) else 0))
  refine Finset.sum_congr rfl fun n _ => ?_
  have e0 : ((⟨3, ![1, 1, L]⟩ : Shape).rowMajor.symm n 0).val = 0 := Nat.lt_one_iff.mp ((⟨3, ![1, 1, L]⟩ : Shape).rowMajor.symm n 0).isLt
  have e1 : ((⟨3, ![1, 1, L]⟩ : Shape).rowMajor.symm n 1).val = 0 := Nat.lt_one_iff.mp ((⟨3, ![1, 1, L]⟩ : Shape).rowMajor.symm n 1).isLt
  have e2 : ((⟨3, ![1, 1, L]⟩ : Shape).rowMajor.symm n 2).val
    = (((⟨3, ![1, 1, L]⟩ : Shape).rowMajor.symm.trans (windowEquiv L)) n).val := rfl
  have hl := (((⟨3, ![1, 1, L]⟩ : Shape).rowMajor.symm.trans (windowEquiv L)) n).isLt
  generalize ((⟨3, ![1, 1, L]⟩ : Shape).rowMajor.symm.trans (windowEquiv L)) n = l at e2 hl ⊢
  by_cases hc : Lm ≤ t.val + l.val
  · rw [dif_pos hc, dif_pos]
    · refine congrArg x (funext fun a => Fin.ext ?_)
      match a with
      | 0 => show b.val * 1 + ((⟨3, ![1, 1, L]⟩ : Shape).rowMajor.symm n 0).val - 0 = b.val; omega
      | 1 => show g.val * 1 + ((⟨3, ![1, 1, L]⟩ : Shape).rowMajor.symm n 1).val - 0 = g.val; omega
      | 2 => show t.val * 1 + ((⟨3, ![1, 1, L]⟩ : Shape).rowMajor.symm n 2).val - Lm = t.val + l.val - Lm; omega
    · intro a
      match a with
      | 0 =>
        show 0 ≤ b.val * 1 + ((⟨3, ![1, 1, L]⟩ : Shape).rowMajor.symm n 0).val
          ∧ b.val * 1 + ((⟨3, ![1, 1, L]⟩ : Shape).rowMajor.symm n 0).val - 0 < B
        omega
      | 1 =>
        show 0 ≤ g.val * 1 + ((⟨3, ![1, 1, L]⟩ : Shape).rowMajor.symm n 1).val
          ∧ g.val * 1 + ((⟨3, ![1, 1, L]⟩ : Shape).rowMajor.symm n 1).val - 0 < H
        omega
      | 2 =>
        show Lm ≤ t.val * 1 + ((⟨3, ![1, 1, L]⟩ : Shape).rowMajor.symm n 2).val
          ∧ t.val * 1 + ((⟨3, ![1, 1, L]⟩ : Shape).rowMajor.symm n 2).val - Lm < L
        omega
  · rw [dif_neg hc, dif_neg]
    intro hin
    have h2 : Lm ≤ t.val * 1 + ((⟨3, ![1, 1, L]⟩ : Shape).rowMajor.symm n 2).val := (hin 2).1
    omega

end MLSTM
-- ==== Proof.RefS.lean ====
/-
  What the reference computes, sample call: its stages read at an index as the arithmetic of one chunk of 4 positions.
-/
module

public import proofs.«01_k».proof.Proof.Chunk
public import proofs.«01_k».proof.Proof.Cumsum
public import proofs.«01_k».proof.Proof.Gen.RefSIdeal.Read
public import Idealize.ShloMosaic.Lib.Pipeline.ValueKit

@[expose] public section

set_option maxRecDepth 16384

noncomputable section

namespace Cert.RefSIdeal.Stage

open Cert.RefSIdeal Cert.RefSIdeal.Gen Cert.RefSIdeal.Read Idealize.ShloMosaic Idealize.ShloMosaic.TcCoe Idealize.SL.Sem

variable (z : FVec Ideal S32x8x9216 .f32) (w : FVec Ideal S1024 .f32) (C : FVec Ideal S32x4x256x256 .f32)
  (N : FVec Ideal S32x4x256 .f32) (M : FVec Ideal S32x4 .f32)

/-- A head's features: `lo` is the first column of the projection. -/
def feat (lo : ℕ) (hlo : lo + 1024 ≤ 9216) (b : Fin 32) (h : Fin 4) (s : Fin 4) (e : Fin 256) : EReal :=
  z (ix3 b ⟨s.val, by omega⟩ ⟨lo + (256 * h.val + e.val), by omega⟩)
def q := feat z 0 (by omega)
def k (b : Fin 32) (h : Fin 4) (s : Fin 4) (e : Fin 256) : EReal := feat z 1024 (by omega) b h s e * Ideal.ofBits .f32 0x3D800000#32
def v := feat z 2048 (by omega)
def o := feat z 3072 (by omega)
/-- A head's log gates. -/
def li (b : Fin 32) (h : Fin 4) (s : Fin 4) : EReal := z (ix3 b ⟨s.val, by omega⟩ ⟨8704 + h.val, by omega⟩)
def lf (b : Fin 32) (h : Fin 4) (s : Fin 4) : EReal := MLSTM.logSig (z (ix3 b ⟨s.val, by omega⟩ ⟨8708 + h.val, by omega⟩))
def cum (b : Fin 32) (h : Fin 4) := MLSTM.cum (lf z b h)

theorem q_at (b : Fin 32) (h s : Fin 4) (e : Fin 256) : val_main_v7 (F := Ideal) z (ix4 b h s e) = q z b h s e := by
  unfold q feat
  pointwise [val_main_v7, val_main_v6, val_main_v0]
  blk_ext []
theorem k_at (b : Fin 32) (h s : Fin 4) (e : Fin 256) : val_main_v11 (F := Ideal) z (ix4 b h s e) = k z b h s e := by
  refine (congrArg (· * _) ?_ : val_main_v9 (F := Ideal) z (ix4 b h s e) * _ = _)
  unfold feat
  pointwise [val_main_v9, val_main_v8, val_main_v1]
  try blk_ext []
theorem v_at (b : Fin 32) (h s : Fin 4) (e : Fin 256) : val_main_v13 (F := Ideal) z (ix4 b h s e) = v z b h s e := by
  unfold v feat
  pointwise [val_main_v13, val_main_v12, val_main_v2]
  try blk_ext []
theorem li_at (b : Fin 32) (h s : Fin 4) : val_main_v14 (F := Ideal) z (ix3 b h s) = li z b h s := by
  unfold li
  pointwise [val_main_v14, val_main_v3]
theorem neg_eq (x : EReal) : -x = 0 - x := by rw [sub_eq_add_neg, zero_add]
theorem sel_self (x y w : EReal) : Scalar.select (FloatOps.cmpf (F := Ideal) (φ := .f32) .une x x) y w = w := by
  pointwise
  try simp
theorem neg_inf : Ideal.ofBits .f32 0xFF800000#32 = ⊥ := by simp [Ideal.ofBits, Ideal.ieee]
theorem lf_at (b : Fin 32) (h s : Fin 4) : val_main_v16 (F := Ideal) z (ix3 b h s) = lf z b h s := by
  have hx : val_main_v4 (F := Ideal) z (ix3 b s h) = z (ix3 b ⟨s.val, by omega⟩ ⟨8708 + h.val, by omega⟩) := by
    pointwise [val_main_v4]
  unfold lf MLSTM.logSig
  rw [← hx]
  pointwise [val_main_v16, val_main_v15, val_main_call0_v1, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst, val_main_call0_v0]
  rw [if_neg (fun h => h rfl)]
  simp only [← neg_eq]
  rfl
theorem cum_at (b : Fin 32) (h s : Fin 4) : val_main_v19 (F := Ideal) z (ix3 b h s) = cum z b h s := by
  unfold val_main_v19
  refine (MLSTM.cumsum_apply rfl _ _ _ _ ?_ b h s).trans ?_
  · pointwise [val_main_call2_call0_v0, val_main_call2_call0_cst]
  · exact congrArg (MLSTM.cum · s) (funext fun u => lf_at z b h u)
theorem tril_at (t s : Fin 4) : val_main_v18 (F := Ideal) (ix2 t s) = if s ≤ t then 1#1 else 0#1 := by
  revert t s
  decide +kernel

/-! ## The recurrence's stages -/

def dlog (b : Fin 32) (h : Fin 4) := MLSTM.dlog (cum z b h) (li z b h)
def stab (b : Fin 32) (h : Fin 4) := MLSTM.stab (M (ix2 b h)) (cum z b h) (li z b h)
def wIn (b : Fin 32) (h : Fin 4) := MLSTM.wIn (M (ix2 b h)) (cum z b h) (li z b h)
def score (b : Fin 32) (h : Fin 4) := MLSTM.score (q z b h) (k z b h) (M (ix2 b h)) (cum z b h) (li z b h)
def num (b : Fin 32) (h : Fin 4) := MLSTM.num (q z b h) (k z b h) (v z b h) (fun e d => C (ix4 b h e d)) (M (ix2 b h)) (cum z b h) (li z b h)
def den (b : Fin 32) (h : Fin 4) := MLSTM.den (q z b h) (k z b h) (fun d => N (ix3 b h d)) (M (ix2 b h)) (cum z b h) (li z b h)
def hid (b : Fin 32) (h : Fin 4) := MLSTM.hid (q z b h) (k z b h) (v z b h) (fun e d => C (ix4 b h e d)) (fun d => N (ix3 b h d))
  (M (ix2 b h)) (cum z b h) (li z b h)
def mNew (b : Fin 32) (h : Fin 4) := MLSTM.mNew (M (ix2 b h)) (cum z b h 3) (cum z b h) (li z b h)
def wOut (b : Fin 32) (h : Fin 4) := MLSTM.wOut (M (ix2 b h)) (cum z b h 3) (cum z b h) (li z b h)
def decay (b : Fin 32) (h : Fin 4) := MLSTM.decay (M (ix2 b h)) (cum z b h 3) (cum z b h) (li z b h)
def cNew (b : Fin 32) (h : Fin 4) := MLSTM.cNew (k z b h) (v z b h) (fun e d => C (ix4 b h e d)) (M (ix2 b h)) (cum z b h 3) (cum z b h) (li z b h)
def nNew (b : Fin 32) (h : Fin 4) := MLSTM.nNew (k z b h) (fun d => N (ix3 b h d)) (M (ix2 b h)) (cum z b h 3) (cum z b h) (li z b h)

theorem dlog_at (b : Fin 32) (h t s : Fin 4) : val_main_v28 (F := Ideal) z (ix4 b h t s) = dlog z b h t s := by
  unfold dlog MLSTM.dlog
  pointwise [val_main_v28, val_main_call3_v0, val_main_call3_v1, val_main_call3_v2, val_main_cst_0, val_main_v27, val_main_v26, val_main_v25,
    val_main_v24, val_main_v23, val_main_v22, val_main_v21, val_main_v20, tril_at, cum_at, li_at]
  by_cases hst : s ≤ t
  · rw [if_pos hst, if_pos hst]; rfl
  · rw [if_neg hst, if_neg hst]; exact neg_inf
theorem stab_at (b : Fin 32) (h t : Fin 4) : val_main_v33 (F := Ideal) z M (ix3 b h t) = stab z M b h t := by
  unfold stab MLSTM.stab
  pointwise [val_main_v33, val_main_v32, val_main_v31, val_main_v30, val_main_v29, val_main_cst_1, dlog_at, cum_at]
  rw [neg_inf]
  rfl
theorem wIn_at (b : Fin 32) (h t : Fin 4) : val_main_v35 (F := Ideal) z M (ix3 b h t) = wIn z M b h t := by
  unfold wIn MLSTM.wIn
  pointwise [val_main_v35, val_main_v34, val_main_v31, val_main_v30, val_main_v29, stab_at, cum_at]
  try rfl
theorem score_at (b : Fin 32) (h t s : Fin 4) : val_main_v41 (F := Ideal) z M (ix4 b h t s) = score z M b h t s := by
  unfold score MLSTM.score
  pointwise [val_main_v41, val_main_v36, val_main_v40, val_main_v39, val_main_v38, val_main_v37, dlog_at, stab_at, q_at, k_at]
  try rfl
theorem num_at (b : Fin 32) (h t : Fin 4) (e : Fin 256) : val_main_v47 (F := Ideal) z C M (ix4 b h t e) = num z C M b h t e := by
  unfold num MLSTM.num
  pointwise [val_main_v47, val_main_v46, val_main_v45, val_main_v44, val_main_v43, val_main_v42, wIn_at, score_at, q_at, v_at]
  try rfl
theorem den_at (b : Fin 32) (h t : Fin 4) : val_main_v51 (F := Ideal) z N M (ix3 b h t) = den z N M b h t := by
  unfold den MLSTM.den
  pointwise [val_main_v51, val_main_v50, val_main_v49, val_main_v48, val_main_cst_2, wIn_at, score_at, q_at]
  simp only [mul_comm (N _)]
  try rfl
theorem hid_at (b : Fin 32) (h t : Fin 4) (e : Fin 256) : val_main_v58 (F := Ideal) z C N M (ix4 b h t e) = hid z C N M b h t e := by
  unfold hid MLSTM.hid
  pointwise [val_main_v58, val_main_v57, val_main_v56, val_main_v55, val_main_v54, val_main_v53, val_main_v52, num_at, den_at, stab_at]
  simp only [← neg_eq]
  try rfl
theorem last_at (b : Fin 32) (h : Fin 4) : val_main_v60 (F := Ideal) z (ix2 b h) = cum z b h 3 := by
  pointwise [val_main_v60, val_main_v59, cum_at]
  try rfl
theorem wlog_at (b : Fin 32) (h s : Fin 4) : val_main_v64 (F := Ideal) z (ix3 b h s) = cum z b h 3 - cum z b h s + li z b h s := by
  pointwise [val_main_v64, val_main_v63, val_main_v62, val_main_v61, last_at, cum_at, li_at]
theorem mNew_at (b : Fin 32) (h : Fin 4) : val_main_v67 (F := Ideal) z M (ix2 b h) = mNew z M b h := by
  unfold mNew MLSTM.mNew
  pointwise [val_main_v67, val_main_v66, val_main_v65, val_main_cst_3, last_at, wlog_at]
  rw [neg_inf]
  rfl
theorem wOut_at (b : Fin 32) (h s : Fin 4) : val_main_v71 (F := Ideal) z M (ix3 b h s) = wOut z M b h s := by
  unfold wOut MLSTM.wOut
  pointwise [val_main_v71, val_main_v70, val_main_v69, val_main_v68, mNew_at, wlog_at]
  try rfl
theorem decay_at (b : Fin 32) (h : Fin 4) : val_main_v74 (F := Ideal) z M (ix2 b h) = decay z M b h := by
  unfold decay MLSTM.decay
  pointwise [val_main_v74, val_main_v73, val_main_v72, mNew_at, last_at]
  try rfl
theorem cNew_at (b : Fin 32) (h : Fin 4) (e d : Fin 256) : val_main_v82 (F := Ideal) z C M (ix4 b h e d) = cNew z C M b h e d := by
  unfold cNew MLSTM.cNew
  pointwise [val_main_v82, val_main_v81, val_main_v80, val_main_v79, val_main_v78, val_main_v77, val_main_v76, val_main_v75,
    decay_at, wOut_at, v_at, k_at]
  try rfl
theorem nNew_at (b : Fin 32) (h : Fin 4) (d : Fin 256) : val_main_v87 (F := Ideal) z N M (ix3 b h d) = nNew z N M b h d := by
  unfold nNew MLSTM.nNew
  pointwise [val_main_v87, val_main_v86, val_main_v85, val_main_v84, val_main_v83, decay_at, wOut_at, k_at]
  try rfl

/-! ## The normalised, gated rows -/

def meanH (b : Fin 32) (h s : Fin 4) := MLSTM.mean (hid z C N M b h s)
theorem mean_at (b : Fin 32) (s h : Fin 4) : val_main_v92 (F := Ideal) z C N M (ix4 b s h 0) = meanH z C N M b h s := by
  unfold meanH MLSTM.mean
  pointwise [val_main_v92, val_main_v91, val_main_v90, val_main_v89, val_main_v88, val_main_cst_4, val_main_cst_5, hid_at]
  try rfl
theorem var_at (b : Fin 32) (s h : Fin 4) : val_main_v99 (F := Ideal) z C N M (ix4 b s h 0)
    = MLSTM.mean (fun j => (hid z C N M b h s j - meanH z C N M b h s) * (hid z C N M b h s j - meanH z C N M b h s)) := by
  unfold MLSTM.mean
  pointwise [val_main_v99, val_main_v98, val_main_v97, val_main_v96, val_main_v95, val_main_v94, val_main_v93, val_main_v88,
    val_main_cst_6, val_main_cst_7, hid_at, mean_at]
  try rfl
theorem normed_at (b : Fin 32) (s h : Fin 4) (e : Fin 256) : val_main_v106 (F := Ideal) z C N M (ix4 b s h e)
    = (hid z C N M b h s e - meanH z C N M b h s) * Ideal.rsqrt (MLSTM.mean (fun j => (hid z C N M b h s j - meanH z C N M b h s)
      * (hid z C N M b h s j - meanH z C N M b h s)) + Ideal.ofBits .f32 0x358637BD#32) := by
  pointwise [val_main_v106, val_main_v105, val_main_v104, val_main_v103, val_main_v102, val_main_v101, val_main_v100, val_main_v88,
    val_main_cst_8, hid_at, mean_at, var_at]
  try rfl
/-- A row of the reference's first result. -/
def gated (b : Fin 32) (h s : Fin 4) (e : Fin 256) : EReal :=
  MLSTM.gated (hid z C N M b h s) (fun e => w (ix1 ⟨256 * h.val + e.val, by omega⟩)) (o z b h s) e
theorem norm_flat_at (b : Fin 32) (s h : Fin 4) (e : Fin 256) : val_main_v107 (F := Ideal) z C N M (ix3 b s ⟨256 * h.val + e.val, by omega⟩)
    = val_main_v106 (F := Ideal) z C N M (ix4 b s h e) := by
  pointwise [val_main_v107]
theorem gate_at (b : Fin 32) (s h : Fin 4) (e : Fin 256) : val_main_v116 (F := Ideal) z (ix3 b s ⟨256 * h.val + e.val, by omega⟩)
    = Ideal.logistic (o z b h s e) := by
  unfold o feat
  pointwise [val_main_v116, val_main_v115, val_main_v114, val_main_v113, val_main_v112, val_main_v111, val_main_v5, val_main_cst_9, val_main_cst_10]
  rfl
theorem gated_at (b : Fin 32) (s h : Fin 4) (e : Fin 256) :
    val_main_v119 (F := Ideal) z w C N M (ix3 b ⟨s.val, by omega⟩ ⟨256 * h.val + e.val, by omega⟩) = gated z w C N M b h s e := by
  unfold gated MLSTM.gated
  have hs := s.isLt
  pointwise [val_main_v119, val_main_v117, val_main_v110, val_main_v109, val_main_v108, val_main_v118, norm_flat_at, normed_at, gate_at]
  rfl
theorem nOut_at (b : Fin 32) (h : Fin 4) (d : Fin 256) : val_main_v120 (F := Ideal) z N M (ix4 b h 0 d) = nNew z N M b h d := by
  pointwise [val_main_v120, nNew_at]
theorem mOut_at (b : Fin 32) (h : Fin 4) : val_main_v121 (F := Ideal) z M (ix4 b h 0 0) = mNew z M b h := by
  pointwise [val_main_v121, mNew_at]

end Cert.RefSIdeal.Stage
-- ==== Proof.Pad.lean ====
/-
  A chunk padded with positions that do nothing (log input gate `-∞`, log forget gate `0`) computes, on the real positions
  and on the states, what the chunk of the real positions alone computes.
-/
module

public import proofs.«01_k».proof.Proof.Chunk

@[expose] public section

noncomputable section

namespace MLSTM

open Idealize.ShloMosaic

variable {L n D : ℕ} (hn : n ≤ L)

/-- A function on all positions, at the real ones. -/
abbrev real {α : Type} (hn : n ≤ L) (f : Fin L → α) : Fin n → α := fun t => f (Fin.castLE hn t)

include hn in
/-- A sum whose terms past the real positions are zero. -/
theorem sum_real (f : Fin L → EReal) (h : ∀ s : Fin L, n ≤ s.val → f s = 0) : ∑ s, f s = ∑ t : Fin n, f (Fin.castLE hn t) := by
  obtain ⟨k, rfl⟩ := Nat.exists_eq_add_of_le hn
  rw [Fin.sum_univ_add, Finset.sum_eq_zero (s := Finset.univ) (f := fun i => f (Fin.natAdd n i)) fun i _ => h _ (by simp), add_zero]
  rfl

include hn in
/-- A supremum whose terms past the real positions are `-∞`. -/
theorem sup_real (f : Fin L → EReal) (h : ∀ s : Fin L, n ≤ s.val → f s = ⊥) :
    Finset.univ.sup f = Finset.univ.sup (fun t : Fin n => f (Fin.castLE hn t)) := by
  refine le_antisymm (Finset.sup_le fun s _ => ?_) (Finset.sup_le fun t _ => Finset.le_sup (f := f) (Finset.mem_univ _))
  by_cases hs : s.val < n
  · exact Finset.le_sup (f := fun t : Fin n => f (Fin.castLE hn t)) (Finset.mem_univ ⟨s.val, hs⟩)
  · rw [h s (not_lt.mp hs)]; exact bot_le

theorem bot_sub (x : EReal) : ⊥ - x = ⊥ := by rw [sub_eq_add_neg]; exact EReal.bot_add _

variable (lf : Fin L → EReal) (hlf : ∀ s : Fin L, n ≤ s.val → lf s = 0)

include hlf in
theorem cum_real (t : Fin n) : cum lf (Fin.castLE hn t) = cum (real hn lf) t := by
  unfold cum
  rw [sum_real hn _ fun s hs => by rw [hlf s hs, ite_self]]
  rfl

include hlf in
theorem cum_last (l : Fin L) (hl : n ≤ l.val + 1) (t : Fin n) (ht : t.val + 1 = n) : cum lf l = cum (real hn lf) t := by
  unfold cum
  rw [sum_real hn _ fun s hs => by rw [hlf s hs, ite_self]]
  refine Finset.sum_congr rfl fun s _ => ?_
  rw [if_pos (show Fin.castLE hn s ≤ l from Fin.le_def.mpr (by have := s.isLt; show s.val ≤ l.val; omega)), if_pos (Fin.le_def.mpr (by have := s.isLt; omega))]

variable (q k v : Fin L → Fin D → EReal) (C : Fin D → Fin D → EReal) (N : Fin D → EReal) (m bl : EReal) (b li : Fin L → EReal)
  (hli : ∀ s : Fin L, n ≤ s.val → li s = ⊥)

theorem dlog_past (t : Fin n) (s : Fin L) (hs : n ≤ s.val) : dlog b li (Fin.castLE hn t) s = ⊥ :=
  if_neg fun h => absurd (Fin.le_def.mp h) (by have := t.isLt; show ¬ s.val ≤ t.val; omega)

theorem stab_real (t : Fin n) : stab m b li (Fin.castLE hn t) = stab m (real hn b) (real hn li) t := by
  unfold stab
  rw [sup_real hn _ (dlog_past hn b li t)]
  rfl

theorem wIn_real (t : Fin n) : wIn m b li (Fin.castLE hn t) = wIn m (real hn b) (real hn li) t := by
  unfold wIn; rw [stab_real]

theorem score_real (t s : Fin n) : score q k m b li (Fin.castLE hn t) (Fin.castLE hn s)
    = score (real hn q) (real hn k) m (real hn b) (real hn li) t s := by
  unfold score; rw [stab_real]; rfl

theorem score_past (t : Fin n) (s : Fin L) (hs : n ≤ s.val) : score q k m b li (Fin.castLE hn t) s = 0 := by
  unfold score; rw [dlog_past hn b li t s hs, bot_sub, exp_bot, mul_zero]

theorem num_real (t : Fin n) (e : Fin D) : num q k v C m b li (Fin.castLE hn t) e
    = num (real hn q) (real hn k) (real hn v) C m (real hn b) (real hn li) t e := by
  unfold num
  rw [sum_real hn _ fun s hs => by rw [score_past hn q k m b li t s hs, zero_mul], wIn_real]
  simp only [score_real]

theorem den_real (t : Fin n) : den q k N m b li (Fin.castLE hn t) = den (real hn q) (real hn k) N m (real hn b) (real hn li) t := by
  unfold den
  rw [sum_real hn _ fun s hs => score_past hn q k m b li t s hs, wIn_real]
  simp only [score_real]

/-- The read-out of the real positions. -/
theorem hid_real (t : Fin n) : hid q k v C N m b li (Fin.castLE hn t) = hid (real hn q) (real hn k) (real hn v) C N m (real hn b) (real hn li) t := by
  funext e
  unfold hid
  rw [num_real, den_real, stab_real]

include hli

theorem wlog_past (s : Fin L) (hs : n ≤ s.val) : bl - b s + li s = ⊥ := by rw [hli s hs, EReal.add_bot]

theorem mNew_real : mNew m bl b li = mNew m bl (real hn b) (real hn li) := by
  unfold mNew
  rw [sup_real hn _ (wlog_past bl b li hli)]

theorem wOut_real (s : Fin n) : wOut m bl b li (Fin.castLE hn s) = wOut m bl (real hn b) (real hn li) s := by
  unfold wOut; rw [mNew_real hn m bl b li hli]

theorem wOut_past (s : Fin L) (hs : n ≤ s.val) : wOut m bl b li s = 0 := by
  unfold wOut; rw [wlog_past bl b li hli s hs, bot_sub, exp_bot]

theorem decay_real : decay m bl b li = decay m bl (real hn b) (real hn li) := by
  unfold decay; rw [mNew_real hn m bl b li hli]

/-- The memory after the chunk. -/
theorem cNew_real : cNew k v C m bl b li = cNew (real hn k) (real hn v) C m bl (real hn b) (real hn li) := by
  funext e d
  unfold cNew
  rw [sum_real hn _ fun s hs => by rw [wOut_past m bl b li hli s hs, mul_zero, zero_mul], decay_real hn m bl b li hli]
  simp only [wOut_real hn m bl b li hli]

/-- The normaliser after the chunk. -/
theorem nNew_real : nNew k N m bl b li = nNew (real hn k) N m bl (real hn b) (real hn li) := by
  funext d
  unfold nNew
  rw [sum_real hn _ fun s hs => by rw [wOut_past m bl b li hli s hs, zero_mul], decay_real hn m bl b li hli]
  simp only [wOut_real hn m bl b li hli]

end MLSTM
-- ==== Proof.MathS.lean ====
/-
  The sample call's equation: on blocks that hold a batch's columns of the projection and its states, what a grid point leaves
  is what the reference's stages say for that batch.
-/
module

public import proofs.«01_k».proof.Proof.BlockS
public import proofs.«01_k».proof.Proof.RefS
public import proofs.«01_k».proof.Proof.Pad

@[expose] public section

noncomputable section

namespace Cert.KernelSIdeal.Block

open Cert.KernelSIdeal Cert.KernelSIdeal.Gen Cert.KernelSIdeal.Head Cert.RefSIdeal
open Idealize.ShloMosaic Idealize.ShloMosaic.TcCoe Idealize.SL.Sem

variable {x0 x1 x2 x3 : FVec Ideal S1x8x1024 .f32} {x4 : FVec Ideal S1x8x128 .f32} {x5 : FVec Ideal S1x1024 .f32}
  {x6 : FVec Ideal S1x4x256x256 .f32} {x7 : FVec Ideal S1x4x1x256 .f32} {x8 : FVec Ideal S1x4x1x1 .f32}
variable {z : FVec Ideal S32x8x9216 .f32} {w : FVec Ideal S1024 .f32} {C : FVec Ideal S32x4x256x256 .f32}
  {N : FVec Ideal S32x4x256 .f32} {M : FVec Ideal S32x4 .f32} {b : Fin 32}

theorem le0 : 0 + 1024 ≤ 9216 := by omega
theorem le1 : 1024 + 1024 ≤ 9216 := by omega
theorem le2 : 2048 + 1024 ≤ 9216 := by omega
theorem le3 : 3072 + 1024 ≤ 9216 := by omega

/-- A block holds the batch's columns of gates. -/
def Gates (X : FVec Ideal S1x8x128 .f32) (z : FVec Ideal S32x8x9216 .f32) (b : Fin 32) : Prop :=
  ∀ (s : Fin 8) (g : Fin 128), X (ix3 0 s g) = z (ix3 b s ⟨8704 + g.val, by omega⟩)

/-- A block holds the columns of the batch's projection from `lo` on. -/
def Cols (X : FVec Ideal S1x8x1024 .f32) (z : FVec Ideal S32x8x9216 .f32) (b : Fin 32) (lo : ℕ) (hlo : lo + 1024 ≤ 9216) : Prop :=
  ∀ (s : Fin 8) (f : Fin 1024), X (ix3 0 s f) = z (ix3 b s ⟨lo + f.val, by omega⟩)

theorem n4 : 4 ≤ 128 := by omega

theorem padF_real {X : FVec Ideal S1x8x1024 .f32} {lo : ℕ} {hlo : lo + 1024 ≤ 9216} (hX : Cols X z b lo hlo) (h : Fin 4) :
    MLSTM.real n4 (padF X h) = Stage.feat z lo hlo b h := by
  funext s e
  have := s.isLt
  exact (dif_pos (show (Fin.castLE n4 s).val < 8 by show s.val < 8; omega)).trans (hX _ _)

theorem padK_real {X : FVec Ideal S1x8x1024 .f32} (hX : Cols X z b 1024 le1) (h : Fin 4) :
    MLSTM.real n4 (padK X h) = Stage.k z b h := by
  funext s e
  exact congrArg (· * _) (congrFun (congrFun (padF_real hX h) s) e)

variable (h0 : Cols x0 z b 0 le0) (h1 : Cols x1 z b 1024 le1) (h2 : Cols x2 z b 2048 le2) (h3 : Cols x3 z b 3072 le3) (h4 : Gates x4 z b)
  (h5 : ∀ f : Fin 1024, x5 (ix2 0 f) = w (ix1 f))
  (h6 : ∀ (h : Fin 4) (e d : Fin 256), x6 (ix4 0 h e d) = C (ix4 b h e d))
  (h7 : ∀ (h : Fin 4) (d : Fin 256), x7 (ix4 0 h 0 d) = N (ix3 b h d))
  (h8 : ∀ h : Fin 4, x8 (ix4 0 h 0 0) = M (ix2 b h))

theorem li_past (h : Fin 4) (s : Fin 128) (hs : 4 ≤ s.val) : li x4 h s = ⊥ := if_neg (not_lt.mpr hs)
theorem lf_past (h : Fin 4) (s : Fin 128) (hs : 4 ≤ s.val) : lf x4 h s = 0 := if_neg (not_lt.mpr hs)

include h4 in
theorem gate_real (g : Fin 8) (s : Fin 4) : gate x4 g (Fin.castLE n4 s) = z (ix3 b ⟨s.val, by omega⟩ ⟨8704 + g.val, by omega⟩) := by
  have := s.isLt
  exact (dif_pos (show (Fin.castLE n4 s).val < 8 by show s.val < 8; omega)).trans (h4 _ _)

include h4 in
theorem li_real (h : Fin 4) : MLSTM.real n4 (li x4 h) = Stage.li z b h := by
  funext s
  exact (if_pos s.isLt).trans ((gate_real h4 (gi h) s).trans rfl)

include h4 in
theorem lf_real (h : Fin 4) : MLSTM.real n4 (lf x4 h) = Stage.lf z b h := by
  funext s
  refine (if_pos s.isLt).trans (congrArg MLSTM.logSig ((gate_real h4 (gf h) s).trans ?_))
  blk_ext [gf]

include h4 in
theorem cum_real (h : Fin 4) : MLSTM.real n4 (MLSTM.cum (lf x4 h)) = Stage.cum z b h := by
  funext s
  exact (MLSTM.cum_real n4 (lf x4 h) (lf_past h) s).trans (by rw [lf_real h4]; rfl)

include h4 in
theorem cum_last (h : Fin 4) : MLSTM.cum (lf x4 h) 127 = Stage.cum z b h 3 :=
  (MLSTM.cum_last n4 (lf x4 h) (lf_past h) 127 (by decide) 3 rfl).trans (by rw [lf_real h4]; rfl)

include h0 h1 h2 h3 h4 h5 h6 h7 h8 in
theorem blkH_eq (h s : Fin 4) (e : Fin 256) :
    blkH x0 x1 x2 x3 x4 x5 x6 x7 x8 h ⟨s.val, by omega⟩ e = Stage.gated z w C N M b h s e := by
  have hh := MLSTM.hid_real n4 (padF x0 h) (padK x1 h) (padF x2 h) (fun e d => x6 (ix4 0 h e d)) (fun d => x7 (ix4 0 h 0 d))
    (x8 (ix4 0 h 0 0)) (MLSTM.cum (lf x4 h)) (li x4 h) s
  rw [padF_real h0, padK_real h1, padF_real h2, li_real h4, cum_real h4, h8] at hh
  simp only [h6, h7] at hh
  have ho := congrFun (padF_real h3 h) s
  unfold blkH Stage.gated Stage.hid Stage.o
  rw [show (⟨s.val, by omega⟩ : Fin 128) = Fin.castLE n4 s from rfl, ← ho]
  simp only [h5, h6, h7, h8]
  exact congrArg (fun f => MLSTM.gated f _ _ e) hh

include h1 h2 h4 h6 h8 in
theorem blkC_eq (h : Fin 4) (e d : Fin 256) : blkC x1 x2 x4 x6 x8 h e d = Stage.cNew z C M b h e d := by
  unfold blkC
  rw [MLSTM.cNew_real n4 _ _ _ _ _ _ _ (li_past h), padK_real h1, padF_real h2, li_real h4, cum_real h4, cum_last h4, h8]
  simp only [h6]
  rfl

include h1 h4 h7 h8 in
theorem blkN_eq (h : Fin 4) (d : Fin 256) : blkN x1 x4 x7 x8 h d = Stage.nNew z N M b h d := by
  unfold blkN
  rw [MLSTM.nNew_real n4 _ _ _ _ _ _ (li_past h), padK_real h1, li_real h4, cum_real h4, cum_last h4, h8]
  simp only [h7]
  rfl

include h4 h8 in
theorem blkM_eq (h : Fin 4) : blkM x4 x8 h = Stage.mNew z M b h := by
  unfold blkM
  rw [MLSTM.mNew_real n4 _ _ _ _ (li_past h), li_real h4, cum_real h4, cum_last h4, h8]
  rfl

end Cert.KernelSIdeal.Block
-- ==== Proof.FinalS.lean ====
/-
  What the sample call's four result arrays hold after the run: the reference's stages (the hidden rows on the four real
  positions of every batch, the states everywhere).
-/
module

public import proofs.«01_k».proof.Proof.MathS

@[expose] public section

set_option maxRecDepth 16384

noncomputable section

namespace Cert.KernelSIdeal.Final

open Cert.KernelSIdeal Cert.KernelSIdeal.Gen Cert.KernelSIdeal.Block Cert.RefSIdeal
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, t.val < 32 ∧ win0_0.index t = ![t.val, 0, 0] ∧ win0_1.index t = ![t.val, 0, 1]
    ∧ win0_2.index t = ![t.val, 0, 2] ∧ win0_3.index t = ![t.val, 0, 3] ∧ win0_4.index t = ![t.val, 0, 68]
    ∧ win0_5.index t = ![0, 0] ∧ win0_6.index t = ![t.val, 0, 0, 0] ∧ win0_7.index t = ![t.val, 0, 0, 0]
    ∧ win0_8.index t = ![t.val, 0, 0, 0] ∧ win0_9.index t = ![t.val, 0, 0] ∧ win0_10.index t = ![t.val, 0, 0, 0]
    ∧ win0_11.index t = ![t.val, 0, 0, 0] ∧ win0_12.index t = ![t.val, 0, 0, 0] :=
  (by decide +kernel : ∀ t : Fin grid0.N, _)

/-- The batch of a grid point. -/
def bt (t : Fin cfg0.N) : Fin 32 := ⟨t.val, (idx t).1⟩

/-- The call's arguments on device `c`. -/
abbrev Z (c : Dev nD) : FVec Ideal S32x8x9216 .f32 := m ((c : Thread nD τ).loc main_arg0)
abbrev W (c : Dev nD) : FVec Ideal S1024 .f32 := m ((c : Thread nD τ).loc main_arg1)
abbrev C0 (c : Dev nD) : FVec Ideal S32x4x256x256 .f32 := m ((c : Thread nD τ).loc main_arg2)
abbrev N0 (c : Dev nD) : FVec Ideal S32x4x256 .f32 := m ((c : Thread nD τ).loc main_arg3)
abbrev M0 (c : Dev nD) : FVec Ideal S32x4 .f32 := m ((c : Thread nD τ).loc main_arg4)

variable (c : Dev nD) (t : Fin cfg0.N)

theorem read0 : Cols (iblk m c 0 t) (Z m c) (bt t) 0 le0 := fun s f => by blk_ext [iblk, V, idx t, bt]
theorem read1 : Cols (iblk m c 1 t) (Z m c) (bt t) 1024 le1 := fun s f => by blk_ext [iblk, V, idx t, bt]
theorem read2 : Cols (iblk m c 2 t) (Z m c) (bt t) 2048 le2 := fun s f => by blk_ext [iblk, V, idx t, bt]
theorem read3 : Cols (iblk m c 3 t) (Z m c) (bt t) 3072 le3 := fun s f => by blk_ext [iblk, V, idx t, bt]
theorem read4 : Gates (iblk m c 4 t) (Z m c) (bt t) := fun s g => by
  blk_ext [iblk, V, idx t, bt]
theorem read5 (f : Fin 1024) : (iblk m c 5 t : FVec Ideal S1x1024 .f32) (ix2 0 f) = W m c (ix1 f) := by
  blk_simp [iblk]; entry_read; pointwise; blk_ext [idx t]
theorem read6 (h : Fin 4) (e d : Fin 256) : (iblk m c 6 t : FVec Ideal S1x4x256x256 .f32) (ix4 0 h e d) = C0 m c (ix4 (bt t) h e d) := by
  blk_ext [iblk, V, idx t, bt]
theorem read7 (h : Fin 4) (d : Fin 256) : (iblk m c 7 t : FVec Ideal S1x4x1x256 .f32) (ix4 0 h 0 d) = N0 m c (ix3 (bt t) h d) := by
  blk_simp [iblk]; entry_read; pointwise; blk_ext [idx t, bt]
theorem read8 (h : Fin 4) : (iblk m c 8 t : FVec Ideal S1x4x1x1 .f32) (ix4 0 h 0 0) = M0 m c (ix2 (bt t) h) := by
  blk_simp [iblk]; entry_read; pointwise; blk_ext [idx t, bt]

/-- The reference's hidden rows at the array's index of a batch, a head, a position and a feature. -/
theorem hidden_point (h s : Fin 4) (e : Fin 256) : (outsAt0 m c t).1 (ix3 0 ⟨s.val, by omega⟩ (Head.at256 h e))
    = Read.val_main_v119 (F := Ideal) (Z m c) (W m c) (C0 m c) (N0 m c) (M0 m c)
        (ix3 (bt t) ⟨s.val, by omega⟩ (Head.at256 h e)) :=
  (hidden_block m c t h _ e).trans ((blkH_eq (read0 m c t) (read1 m c t) (read2 m c t) (read3 m c t) (read4 m c t) (read5 m c t)
    (read6 m c t) (read7 m c t) (read8 m c t) h s e).trans (Stage.gated_at _ _ _ _ _ _ _ _ _).symm)

theorem memory_point (h : Fin 4) (e d : Fin 256) : (outsAt0 m c t).2.1 (ix4 0 h e d)
    = Read.val_main_v82 (F := Ideal) (Z m c) (C0 m c) (M0 m c) (ix4 (bt t) h e d) :=
  (memory_block m c t h e d).trans ((blkC_eq (read1 m c t) (read2 m c t) (read4 m c t) (read6 m c t) (read8 m c t) h e d).trans
    (Stage.cNew_at _ _ _ _ _ _ _).symm)

theorem normaliser_point (h : Fin 4) (d : Fin 256) : (outsAt0 m c t).2.2.1 (ix4 0 h 0 d)
    = Read.val_main_v120 (F := Ideal) (Z m c) (N0 m c) (M0 m c) (ix4 (bt t) h 0 d) :=
  (normaliser_block m c t h d).trans ((blkN_eq (read1 m c t) (read4 m c t) (read7 m c t) (read8 m c t) h d).trans
    (Stage.nOut_at _ _ _ _ _ _).symm)

theorem stabiliser_point (h : Fin 4) : (outsAt0 m c t).2.2.2 (ix4 0 h 0 0)
    = Read.val_main_v121 (F := Ideal) (Z m c) (M0 m c) (ix4 (bt t) h 0 0) :=
  (stabiliser_block m c t h).trans ((blkM_eq (read4 m c t) (read8 m c t) h).trans (Stage.mOut_at _ _ _ _).symm)

theorem memory : (dats m 0 c).arrAt 10 (cfgs 0).N = Read.val_main_v82 (F := Ideal) (Z m c) (C0 m c) (M0 m c) := by
  refine (dats m 0 c).arrAt_eq_of_covers 10 _ (by decide +kernel) fun t _ y => ?_
  blk_simp
  rw [after0_10]
  obtain ⟨a, h, e, d, rfl⟩ : ∃ (a : Fin 1) (h : Fin 4) (e d : Fin 256), y = ix4 a h e d := ⟨y 0, y 1, y 2, y 3, ix4_of y _ _ _ _ rfl rfl rfl rfl⟩
  obtain rfl : a = 0 := Subsingleton.elim _ _
  refine (memory_point m c t h e d).trans (congrArg _ ?_)
  blk_ext [idx t, bt]

theorem normaliser : (dats m 0 c).arrAt 11 (cfgs 0).N = Read.val_main_v120 (F := Ideal) (Z m c) (N0 m c) (M0 m c) := by
  refine (dats m 0 c).arrAt_eq_of_covers 11 _ (by decide +kernel) fun t _ y => ?_
  blk_simp
  rw [after0_11]
  obtain ⟨a, h, e, d, rfl⟩ : ∃ (a : Fin 1) (h : Fin 4) (e : Fin 1) (d : Fin 256), y = ix4 a h e d := ⟨y 0, y 1, y 2, y 3, ix4_of y _ _ _ _ rfl rfl rfl rfl⟩
  obtain rfl : a = 0 := Subsingleton.elim _ _
  obtain rfl : e = 0 := Subsingleton.elim _ _
  refine (normaliser_point m c t h d).trans (congrArg _ ?_)
  blk_ext [idx t, bt]

theorem stabiliser : (dats m 0 c).arrAt 12 (cfgs 0).N = Read.val_main_v121 (F := Ideal) (Z m c) (M0 m c) := by
  refine (dats m 0 c).arrAt_eq_of_covers 12 _ (by decide +kernel) fun t _ y => ?_
  blk_simp
  rw [after0_12]
  obtain ⟨a, h, e, d, rfl⟩ : ∃ (a : Fin 1) (h : Fin 4) (e d : Fin 1), y = ix4 a h e d := ⟨y 0, y 1, y 2, y 3, ix4_of y _ _ _ _ rfl rfl rfl rfl⟩
  obtain rfl : a = 0 := Subsingleton.elim _ _
  obtain rfl : e = 0 := Subsingleton.elim _ _
  obtain rfl : d = 0 := Subsingleton.elim _ _
  refine (stabiliser_point m c t h).trans (congrArg _ ?_)
  blk_ext [idx t, bt]

/-- The hidden rows of the four real positions. -/
theorem hidden (i : S32x8x1024.Idx) (hi : (i 1).val < 4) : ((dats m 0 c).arrAt 9 (cfgs 0).N : FVec Ideal S32x8x1024 .f32) i
    = Read.val_main_v119 (F := Ideal) (Z m c) (W m c) (C0 m c) (N0 m c) (M0 m c) i := by
  revert hi
  refine (dats m 0 c).arrAt_forall_of_covers 9 (fun i v => (i 1).val < 4 → v = Read.val_main_v119 (F := Ideal) (Z m c) (W m c) (C0 m c) (N0 m c) (M0 m c) i)
    (by decide +kernel) (fun t _ y => ?_) i
  blk_simp
  rw [after0_9]
  obtain ⟨a, s, f, rfl⟩ : ∃ (a : Fin 1) (s : Fin 8) (f : Fin 1024), y = ix3 a s f := ⟨y 0, y 1, y 2, ix3_of y _ _ _ rfl rfl rfl⟩
  obtain rfl : a = 0 := Subsingleton.elim _ _
  intro hs
  have hs4 : s.val < 4 := by
    have h1 := (idx t).2.2.2.2.2.2.2.2.2.2.1
    rw [h1] at hs
    have hz : (![t.val, 0, 0] : Fin 3 → ℕ) 1 * 8 = 0 := rfl
    rw [hz] at hs
    exact lt_of_le_of_lt (Nat.le_add_left _ _) hs
  have hf := f.isLt
  refine (congrArg (outsAt0 m c t).1 ?_).trans ((hidden_point m c t ⟨f.val / 256, by omega⟩ ⟨s.val, hs4⟩ ⟨f.val % 256, by omega⟩).trans (congrArg _ ?_))
  · blk_ext []
  · blk_ext [idx t, bt]

end Cert.KernelSIdeal.Final
-- ==== Proof.AlgS.lean ====
/-
  The sample call's value claim: on the rows of the four real positions and on the whole of the three states, the call and the
  reference end with equal results.
-/
module

public import proofs.«01_k».proof.Defs
public import proofs.«01_k».proof.Proof.FinalS
public import Idealize.ShloMosaic.Lib.Claim
public import Idealize.ShloMosaic.Lib.Quiescent

@[expose] public section

set_option maxRecDepth 16384

noncomputable section

namespace Cert.AlgS

open Idealize.ShloMosaic Idealize.ShloMosaic.TcCoe Idealize.SL.Sem
open Cert.KernelSIdeal Cert.KernelSIdeal.Final Cert.RefSIdeal.Read

instance onRealRows : Cert.On_real_rows.Facts := ⟨by decide, by decide, by decide, by decide⟩

/-- The mask of the hidden rows is true on the four real positions only. -/
theorem mask_lt (a0 : FVec Ideal S32x8x9216 .f32) (a1 : FVec Ideal S1024 .f32) (a2 : FVec Ideal S32x4x256x256 .f32)
    (a3 : FVec Ideal S32x4x256 .f32) (a4 : FVec Ideal S32x4 .f32) (i : S32x8x1024.Idx)
    (h : (Cert.On_real_rows.fn a0 a1 a2 a3 a4).1 i = 1#1) : (i 1).val < 4 := by
  have hi : (i 1).val < 8 := (i 1).isLt
  have h' : Scalar.cmpi .slt (BitVec.ofNat 32 (i 1).val) 4#32 = 1#1 := h
  generalize (i 1).val = n at *
  interval_cases n <;> first | omega | exact absurd h' (by decide)

theorem reference_frame : Cert.quiescent_RefSIdeal (hRefSIdeal := Cert.RefSIdeal.Gen.facts) := by
  intro m g _
  exact (θ_run _ _ _).mono (fun r h => ⟨fun c => (h c).2.2.2.2, sem_eq_zero_of_no_sems rfl _⟩) (Cert.RefSIdeal.Value.run m g)

theorem algebraic : Cert.algebraic_KernelSIdeal_RefSIdeal_on_real_rows (hKernelSIdeal := Cert.KernelSIdeal.Gen.facts)
    (hRefSIdeal := Cert.RefSIdeal.Gen.facts) := by
  intro m g m' g' _ hagree
  refine ⟨fun c => val_main_v119 (F := Ideal) (Z m c) (Final.W m c) (C0 m c) (N0 m c) (M0 m c),
    fun c => val_main_v82 (F := Ideal) (Z m c) (C0 m c) (M0 m c), fun c => val_main_v120 (F := Ideal) (Z m c) (N0 m c) (M0 m c),
    fun c => val_main_v121 (F := Ideal) (Z m c) (M0 m c), ?_, ?_⟩
  · refine (θ_run _ _ _).mono (fun r h c => ?_) (Cert.KernelSIdeal.Value.run_blocks m g)
    obtain ⟨h9, h10, h11, h12, hargs⟩ := h c
    exact ⟨fun i hi => (congrFun h9 i).trans (Final.hidden m c i (mask_lt _ _ _ _ _ i hi)), fun i _ => congrFun (h10.trans (memory m c)) i,
      fun i _ => congrFun (h11.trans (normaliser m c)) i, fun i _ => congrFun (h12.trans (stabiliser m c)) i, hargs⟩
  · refine (θ_run _ _ _).mono (fun r h c => ?_) (Cert.RefSIdeal.Value.run m' g')
    obtain ⟨h0, h1, h2, h3, hargs⟩ := h c
    obtain ⟨e0, e1, e2, e3, e4⟩ := hagree c
    have k0 := h0.trans (val_main_v119_eq (F := Ideal) (StableHlo.launchContents m' c))
    have k1 := h1.trans (val_main_v82_eq (F := Ideal) (StableHlo.launchContents m' c))
    have k2 := h2.trans (val_main_v120_eq (F := Ideal) (StableHlo.launchContents m' c))
    have k3 := h3.trans (val_main_v121_eq (F := Ideal) (StableHlo.launchContents m' c))
    exact ⟨fun i _ => congrFun (k0.trans (congr (congr (congr (congr (congrArg (val_main_v119 (F := Ideal)) e0) e1) e2) e3) e4)) i,
      fun i _ => congrFun (k1.trans (congr (congr (congrArg (val_main_v82 (F := Ideal)) e0) e2) e4)) i,
      fun i _ => congrFun (k2.trans (congr (congr (congrArg (val_main_v120 (F := Ideal)) e0) e3) e4)) i,
      fun i _ => congrFun (k3.trans (congr (congrArg (val_main_v121 (F := Ideal)) e0) e4)) i, hargs⟩

end Cert.AlgS
-- ==== Proof.InHost.lean ====
/-
  The input projection's weights and bias in the order in which the call lays out its columns.
-/
module

public import proofs.«01_k».proof.Proof.Gen.KernelInIdeal.Value
public import proofs.«01_k».proof.Proof.Gen.RefInIdeal.Read
public import Idealize.ShloMosaic.Lib.Claim
public import Idealize.ShloMosaic.Lib.Pipeline.ValueKit

@[expose] public section

set_option maxRecDepth 16384

noncomputable section

namespace Cert.KernelInIdeal.Final

open Cert.KernelInIdeal Cert.KernelInIdeal.Gen Cert.RefInIdeal.Read
open Idealize.ShloMosaic Idealize.ShloMosaic.TcCoe Idealize.SL.Sem
open Idealize.ShloMosaic.Pipeline (Dat)

variable (m : (ℓ : Loc nD τ sig) → Buf (Elt Ideal) ℓ)

/-- The weights and the bias with their columns regrouped, as the host prepares them. -/
def weights (w : FVec Ideal S1024x8760 .f32) : FVec Ideal S1024x9216 .f32 :=
  (concatenate S1024x9216 1 [⟨S1024x4096, extractStridedSlice S1024x4096 ![0, 0] w slices_S1024x8760_S1024x4096_0_0⟩, ⟨S1024x1024, extractStridedSlice S1024x1024 ![0, 4104] w slices_S1024x8760_S1024x1024_0_4104⟩, ⟨S1024x1024, extractStridedSlice S1024x1024 ![0, 6712] w slices_S1024x8760_S1024x1024_0_6712⟩, ⟨S1024x1024, extractStridedSlice S1024x1024 ![0, 7736] w slices_S1024x8760_S1024x1024_0_7736⟩, ⟨S1024x1536, extractStridedSlice S1024x1536 ![0, 5128] w slices_S1024x8760_S1024x1536_0_5128⟩, ⟨S1024x8, extractStridedSlice S1024x8 ![0, 4096] w slices_S1024x8760_S1024x8_0_4096⟩, ⟨S1024x48, extractStridedSlice S1024x48 ![0, 6664] w slices_S1024x8760_S1024x48_0_6664⟩, ⟨S1024x72, broadcastInDim S1024x72 ![] bcast_S_S1024x72 (constant (F := Ideal) S_ .f32 0x00000000#32)⟩, ⟨S1024x384, broadcastInDim S1024x384 ![] bcast_S_S1024x384 (constant (F := Ideal) S_ .f32 0x00000000#32)⟩] concatenates_S1024x4096_S1024x1024_S1024x1024_S1024x1024_S1024x1536_S1024x8_S1024x48_S1024x72_S1024x384_S1024x9216_d1 : (⟨S1024x9216, .f32⟩ : BufTy).Contents (Elt Ideal))
def bias (b : FVec Ideal S8760 .f32) : FVec Ideal S9216 .f32 :=
  (concatenate S9216 0 [⟨S4096, extractStridedSlice S4096 ![0] b slices_S8760_S4096_0⟩, ⟨S1024, extractStridedSlice S1024 ![4104] b slices_S8760_S1024_4104⟩, ⟨S1024, extractStridedSlice S1024 ![6712] b slices_S8760_S1024_6712⟩, ⟨S1024, extractStridedSlice S1024 ![7736] b slices_S8760_S1024_7736⟩, ⟨S1536, extractStridedSlice S1536 ![5128] b slices_S8760_S1536_5128⟩, ⟨S8, extractStridedSlice S8 ![4096] b slices_S8760_S8_4096⟩, ⟨S48, extractStridedSlice S48 ![6664] b slices_S8760_S48_6664⟩, ⟨S72, broadcastInDim S72 ![] bcast_S_S72 (constant (F := Ideal) S_ .f32 0x00000000#32)⟩, ⟨S384, broadcastInDim S384 ![] bcast_S_S384 (constant (F := Ideal) S_ .f32 0x00000000#32)⟩] concatenates_S4096_S1024_S1024_S1024_S1536_S8_S48_S72_S384_S9216_d0 : (⟨S9216, .f32⟩ : BufTy).Contents (Elt Ideal))

theorem weights_eq (c : Dev nD) : V m c main_v10 = truncf .bf16 (weights (m ((c : Thread nD τ).loc main_arg4))) bitsLt_bf16_f32 := by
  rfl

theorem bias_eq (c : Dev nD) : V m c main_v22 = shapeCast S1x9216 (bias (m ((c : Thread nD τ).loc main_arg5))) shapeCasts_S9216_S1x9216 := by
  rfl
/-- A row of 8760 columns laid out in the order of the projected array, zero beyond them. -/
def place (row : Fin 8760 → EReal) (j : Fin 9216) : EReal :=
  if h0 : j.val < 4096 then row ⟨j.val, by omega⟩
  else if h1 : j.val < 5120 then row ⟨4104 + (j.val - 4096), by omega⟩
  else if h2 : j.val < 6144 then row ⟨6712 + (j.val - 5120), by omega⟩
  else if h3 : j.val < 7168 then row ⟨7736 + (j.val - 6144), by omega⟩
  else if h4 : j.val < 8704 then row ⟨5128 + (j.val - 7168), by omega⟩
  else if h5 : j.val < 8712 then row ⟨4096 + (j.val - 8704), by omega⟩
  else if h6 : j.val < 8760 then row ⟨6664 + (j.val - 8712), by omega⟩
  else 0

/-- Placing commutes with the product and the bias. -/
theorem place_dot (h : Fin 1024 → EReal) (w : Fin 1024 → Fin 8760 → EReal) (b : Fin 8760 → EReal) (j : Fin 9216) :
    (∑ l : Fin 1024, h l * place (w l) j) + place b j = place (fun k => (∑ l : Fin 1024, h l * w l k) + b k) j := by
  unfold place
  split_ifs <;> simp

theorem weights_at (w : FVec Ideal S1024x8760 .f32) (l : Fin 1024) (j : Fin 9216) :
    weights w (ix2 l j) = place (fun k => w (ix2 l k)) j := by
  pointwise [weights]
  unfold place
  have hj : j.val < 9216 := j.isLt
  by_cases h0 : j.val < 4096
  · refine Eq.trans ?_ (dif_pos h0).symm
    (repeat' first | refine (dif_pos (by omega)).trans ?_ | refine (dif_neg (by omega)).trans ?_); first | (refine congrArg w (congrArg (ix2 l) (Fin.ext ?_)); dsimp only; omega) | rfl
  refine Eq.trans ?_ (dif_neg h0).symm
  by_cases h1 : j.val < 5120
  · refine Eq.trans ?_ (dif_pos h1).symm
    (repeat' first | refine (dif_pos (by omega)).trans ?_ | refine (dif_neg (by omega)).trans ?_); first | (refine congrArg w (congrArg (ix2 l) (Fin.ext ?_)); dsimp only; omega) | rfl
  refine Eq.trans ?_ (dif_neg h1).symm
  by_cases h2 : j.val < 6144
  · refine Eq.trans ?_ (dif_pos h2).symm
    (repeat' first | refine (dif_pos (by omega)).trans ?_ | refine (dif_neg (by omega)).trans ?_); first | (refine congrArg w (congrArg (ix2 l) (Fin.ext ?_)); dsimp only; omega) | rfl
  refine Eq.trans ?_ (dif_neg h2).symm
  by_cases h3 : j.val < 7168
  · refine Eq.trans ?_ (dif_pos h3).symm
    (repeat' first | refine (dif_pos (by omega)).trans ?_ | refine (dif_neg (by omega)).trans ?_); first | (refine congrArg w (congrArg (ix2 l) (Fin.ext ?_)); dsimp only; omega) | rfl
  refine Eq.trans ?_ (dif_neg h3).symm
  by_cases h4 : j.val < 8704
  · refine Eq.trans ?_ (dif_pos h4).symm
    (repeat' first | refine (dif_pos (by omega)).trans ?_ | refine (dif_neg (by omega)).trans ?_); first | (refine congrArg w (congrArg (ix2 l) (Fin.ext ?_)); dsimp only; omega) | rfl
  refine Eq.trans ?_ (dif_neg h4).symm
  by_cases h5 : j.val < 8712
  · refine Eq.trans ?_ (dif_pos h5).symm
    (repeat' first | refine (dif_pos (by omega)).trans ?_ | refine (dif_neg (by omega)).trans ?_); first | (refine congrArg w (congrArg (ix2 l) (Fin.ext ?_)); dsimp only; omega) | rfl
  refine Eq.trans ?_ (dif_neg h5).symm
  by_cases h6 : j.val < 8760
  · refine Eq.trans ?_ (dif_pos h6).symm
    (repeat' first | refine (dif_pos (by omega)).trans ?_ | refine (dif_neg (by omega)).trans ?_); first | (refine congrArg w (congrArg (ix2 l) (Fin.ext ?_)); dsimp only; omega) | rfl
  refine Eq.trans ?_ (dif_neg h6).symm
  by_cases h7 : j.val < 8832
  · (repeat' first | refine (dif_pos (by omega)).trans ?_ | refine (dif_neg (by omega)).trans ?_); first | (refine congrArg w (congrArg (ix2 l) (Fin.ext ?_)); dsimp only; omega) | rfl
  (repeat' first | refine (dif_pos (by omega)).trans ?_ | refine (dif_neg (by omega)).trans ?_); first | (refine congrArg w (congrArg (ix2 l) (Fin.ext ?_)); dsimp only; omega) | rfl

theorem bias_at (b : FVec Ideal S8760 .f32) (j : Fin 9216) : bias b (ix1 j) = place (fun k => b (ix1 k)) j := by
  pointwise [bias]
  unfold place
  have hj : j.val < 9216 := j.isLt
  by_cases h0 : j.val < 4096
  · refine Eq.trans ?_ (dif_pos h0).symm
    (repeat' first | refine (dif_pos (by omega)).trans ?_ | refine (dif_neg (by omega)).trans ?_); first | (refine congrArg b (congrArg ix1 (Fin.ext ?_)); dsimp only; omega) | rfl
  refine Eq.trans ?_ (dif_neg h0).symm
  by_cases h1 : j.val < 5120
  · refine Eq.trans ?_ (dif_pos h1).symm
    (repeat' first | refine (dif_pos (by omega)).trans ?_ | refine (dif_neg (by omega)).trans ?_); first | (refine congrArg b (congrArg ix1 (Fin.ext ?_)); dsimp only; omega) | rfl
  refine Eq.trans ?_ (dif_neg h1).symm
  by_cases h2 : j.val < 6144
  · refine Eq.trans ?_ (dif_pos h2).symm
    (repeat' first | refine (dif_pos (by omega)).trans ?_ | refine (dif_neg (by omega)).trans ?_); first | (refine congrArg b (congrArg ix1 (Fin.ext ?_)); dsimp only; omega) | rfl
  refine Eq.trans ?_ (dif_neg h2).symm
  by_cases h3 : j.val < 7168
  · refine Eq.trans ?_ (dif_pos h3).symm
    (repeat' first | refine (dif_pos (by omega)).trans ?_ | refine (dif_neg (by omega)).trans ?_); first | (refine congrArg b (congrArg ix1 (Fin.ext ?_)); dsimp only; omega) | rfl
  refine Eq.trans ?_ (dif_neg h3).symm
  by_cases h4 : j.val < 8704
  · refine Eq.trans ?_ (dif_pos h4).symm
    (repeat' first | refine (dif_pos (by omega)).trans ?_ | refine (dif_neg (by omega)).trans ?_); first | (refine congrArg b (congrArg ix1 (Fin.ext ?_)); dsimp only; omega) | rfl
  refine Eq.trans ?_ (dif_neg h4).symm
  by_cases h5 : j.val < 8712
  · refine Eq.trans ?_ (dif_pos h5).symm
    (repeat' first | refine (dif_pos (by omega)).trans ?_ | refine (dif_neg (by omega)).trans ?_); first | (refine congrArg b (congrArg ix1 (Fin.ext ?_)); dsimp only; omega) | rfl
  refine Eq.trans ?_ (dif_neg h5).symm
  by_cases h6 : j.val < 8760
  · refine Eq.trans ?_ (dif_pos h6).symm
    (repeat' first | refine (dif_pos (by omega)).trans ?_ | refine (dif_neg (by omega)).trans ?_); first | (refine congrArg b (congrArg ix1 (Fin.ext ?_)); dsimp only; omega) | rfl
  refine Eq.trans ?_ (dif_neg h6).symm
  by_cases h7 : j.val < 8832
  · (repeat' first | refine (dif_pos (by omega)).trans ?_ | refine (dif_neg (by omega)).trans ?_); first | (refine congrArg b (congrArg ix1 (Fin.ext ?_)); dsimp only; omega) | rfl
  (repeat' first | refine (dif_pos (by omega)).trans ?_ | refine (dif_neg (by omega)).trans ?_); first | (refine congrArg b (congrArg ix1 (Fin.ext ?_)); dsimp only; omega) | rfl

end Cert.KernelInIdeal.Final
-- ==== Proof.InValue.lean ====
/-
  The input projection: its result array is the reference's result.
-/
module

public import proofs.«01_k».proof.Proof.InHost
public import proofs.«01_k».proof.Proof.Gen.RefInIdeal.Read
public import Idealize.ShloMosaic.Lib.Claim
public import Idealize.ShloMosaic.Lib.Pipeline.ValueKit
public import Idealize.ShloMosaic.Lib.Pipeline.ReadBack

@[expose] public section

set_option maxRecDepth 16384

noncomputable section

namespace Cert.KernelInIdeal.Final

open Cert.KernelInIdeal Cert.KernelInIdeal.Gen Cert.RefInIdeal.Read
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 36, t.val / 9 % 4, 0] ∧ win0_1.index t = ![0, 0]
    ∧ win0_2.index t = ![t.val / 36, 0, 0] ∧ win0_3.index t = ![t.val / 36, 0, 0]
    ∧ win0_4.index t = ![0, t.val % 9] ∧ win0_5.index t = ![0, t.val % 9]
    ∧ win0_6.index t = ![t.val / 36, t.val / 9 % 4, t.val % 9] ∧ t.val < 144 :=
  (by decide +kernel : ∀ t : Fin grid0.N, _)

/-- The call's arguments on device `c`. -/
abbrev X (c : Dev nD) : FVec Ideal S4x4096x1024 .f32 := m ((c : Thread nD τ).loc main_arg0)
abbrev G (c : Dev nD) : FVec Ideal S1024 .f32 := m ((c : Thread nD τ).loc main_arg1)
abbrev Sc (c : Dev nD) : FVec Ideal S4x1x1024 .f32 := m ((c : Thread nD τ).loc main_arg2)
abbrev Sh (c : Dev nD) : FVec Ideal S4x1x1024 .f32 := m ((c : Thread nD τ).loc main_arg3)
abbrev W (c : Dev nD) : FVec Ideal S1024x8760 .f32 := m ((c : Thread nD τ).loc main_arg4)
abbrev B (c : Dev nD) : FVec Ideal S8760 .f32 := m ((c : Thread nD τ).loc main_arg5)

variable (c : Dev nD) (t : Fin cfg0.N)

/-- The batch of a grid point, the position its block's row stands for and the column its block's column stands for. -/
def bt : Fin 4 := ⟨t.val / 36, by have := (idx t).2.2.2.2.2.2.2; omega⟩
def pos (r : Fin 1024) : Fin 4096 := ⟨t.val / 9 % 4 * 1024 + r.val, by omega⟩
def colOf (f : Fin 1024) : Fin 9216 := ⟨t.val % 9 * 1024 + f.val, by omega⟩

/-- The normalised and modulated row. -/
def normed (x : Fin 1024 → EReal) (g sc sh : Fin 1024 → EReal) (f : Fin 1024) : EReal :=
  x f * Ideal.rsqrt (Ideal.div (∑ k : Fin 1024, x k * x k) (Ideal.ofBits .f32 0x44800000#32) + Ideal.ofBits .f32 0x358637BD#32) * g f
    * (1 + sc f) + sh f

theorem pay1_at (x : FVec Ideal S1x1024x1024 .f32) (g : FVec Ideal S1x1024 .f32) (sc sh : FVec Ideal S1x1x1024 .f32) (r f : Fin 1024) :
    k0_pay1 (F := Ideal) x g sc sh (ix2 r f) = normed (fun k => x (ix3 0 r k)) (fun k => g (ix2 0 k)) (fun k => sc (ix3 0 0 k)) (fun k => sh (ix3 0 0 k)) f := by
  pointwise [k0_pay1]
  rfl

theorem pay2_at (h w : FVec Ideal S1024x1024 .bf16) (b : FVec Ideal S1x1024 .f32) (r f : Fin 1024) :
    k0_pay2 (F := Ideal) h w b (ix3 0 r f) = (∑ l : Fin 1024, h (ix2 r l) * w (ix2 l f)) + b (ix2 0 f) := by
  pointwise [k0_pay2]

theorem v22_at (x0 : FVec Ideal S4x4096x1024 .f32) (x1 : FVec Ideal S1024 .f32) (x2 x3 : FVec Ideal S4x1x1024 .f32) (x4 : FVec Ideal S1024x8760 .f32)
    (x5 : FVec Ideal S8760 .f32) (b : Fin 4) (s : Fin 4096) (k : Fin 8760) : val_main_v22 (F := Ideal) x0 x1 x2 x3 x4 x5 (ix3 b s k)
      = (∑ l : Fin 1024, normed (fun k => x0 (ix3 b s k)) (fun k => x1 (ix1 k)) (fun k => x2 (ix3 b 0 k)) (fun k => x3 (ix3 b 0 k)) l * x4 (ix2 l k)) + x5 (ix1 k) := by
  pointwise [val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2]
  rfl

theorem v35_at (x0 : FVec Ideal S4x4096x1024 .f32) (x1 : FVec Ideal S1024 .f32) (x2 x3 : FVec Ideal S4x1x1024 .f32) (x4 : FVec Ideal S1024x8760 .f32)
    (x5 : FVec Ideal S8760 .f32) (b : Fin 4) (s : Fin 4096) (j : Fin 9216) : val_main_v35 (F := Ideal) x0 x1 x2 x3 x4 x5 (ix3 b s j)
      = place (fun k => val_main_v22 (F := Ideal) x0 x1 x2 x3 x4 x5 (ix3 b s k)) j := by
  pointwise [val_main_v35, val_main_v34, val_main_v33, val_main_v32, val_main_v31, val_main_v30, val_main_v29, val_main_v28, val_main_v27, val_main_v26,
    val_main_v25, val_main_v24, val_main_v23, val_main_cst_3]
  unfold place
  have hj : j.val < 9216 := j.isLt
  by_cases h0 : j.val < 4096
  · refine Eq.trans ?_ (dif_pos h0).symm
    by_cases g0 : j.val < 1024
    · (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
    by_cases g1 : j.val < 2048
    · (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
    by_cases g2 : j.val < 3072
    · (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
    (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
  refine Eq.trans ?_ (dif_neg h0).symm
  by_cases h1 : j.val < 5120
  · refine Eq.trans ?_ (dif_pos h1).symm
    (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
  refine Eq.trans ?_ (dif_neg h1).symm
  by_cases h2 : j.val < 6144
  · refine Eq.trans ?_ (dif_pos h2).symm
    (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
  refine Eq.trans ?_ (dif_neg h2).symm
  by_cases h3 : j.val < 7168
  · refine Eq.trans ?_ (dif_pos h3).symm
    (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
  refine Eq.trans ?_ (dif_neg h3).symm
  by_cases h4 : j.val < 8704
  · refine Eq.trans ?_ (dif_pos h4).symm
    (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
  refine Eq.trans ?_ (dif_neg h4).symm
  by_cases h5 : j.val < 8712
  · refine Eq.trans ?_ (dif_pos h5).symm
    by_cases g0 : j.val < 8708
    · (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
    (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
  refine Eq.trans ?_ (dif_neg h5).symm
  by_cases h6 : j.val < 8760
  · refine Eq.trans ?_ (dif_pos h6).symm
    (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl
  refine Eq.trans ?_ (dif_neg h6).symm
  (repeat' first | refine (dif_pos (by omega)).trans ?_ | refine (dif_neg (by omega)).trans ?_); first | (refine congrArg (val_main_v22 (F := Ideal) x0 x1 x2 x3 x4 x5) (congrArg (ix3 b s) (Fin.ext ?_)); dsimp only; omega) | rfl

theorem read0 (r f : Fin 1024) : (iblk m c 0 t : FVec Ideal S1x1024x1024 .f32) (ix3 0 r f) = X m c (ix3 (bt t) (pos t r) f) := by
  blk_ext [iblk, V, idx t, bt, pos]
theorem read1 (f : Fin 1024) : (iblk m c 1 t : FVec Ideal S1x1024 .f32) (ix2 0 f) = G m c (ix1 f) := by
  blk_simp [iblk]; entry_read; pointwise; blk_ext [idx t]
theorem read2 (f : Fin 1024) : (iblk m c 2 t : FVec Ideal S1x1x1024 .f32) (ix3 0 0 f) = Sc m c (ix3 (bt t) 0 f) := by
  blk_ext [iblk, V, idx t, bt]
theorem read3 (f : Fin 1024) : (iblk m c 3 t : FVec Ideal S1x1x1024 .f32) (ix3 0 0 f) = Sh m c (ix3 (bt t) 0 f) := by
  blk_ext [iblk, V, idx t, bt]
theorem read4 (l f : Fin 1024) : (iblk m c 4 t : FVec Ideal S1024x1024 .bf16) (ix2 l f) = place (fun k => W m c (ix2 l k)) (colOf t f) := by
  refine Eq.trans ?_ (weights_at (W m c) l (colOf t f))
  blk_simp [iblk]
  rw [weights_eq]
  blk_ext [idx t, colOf]
theorem read5 (f : Fin 1024) : (iblk m c 5 t : FVec Ideal S1x1024 .f32) (ix2 0 f) = place (fun k => B m c (ix1 k)) (colOf t f) := by
  refine Eq.trans ?_ (bias_at (B m c) (colOf t f))
  blk_simp [iblk]
  rw [bias_eq]
  pointwise
  blk_ext [idx t, colOf]

/-- The normalised and modulated row of a position. -/
def hrow (b : Fin 4) (s : Fin 4096) : Fin 1024 → EReal :=
  normed (fun k => X m c (ix3 b s k)) (fun k => G m c (ix1 k)) (fun k => Sc m c (ix3 b 0 k)) (fun k => Sh m c (ix3 b 0 k))

/-- The kept rows: computed at the first column block of a row block, unchanged at the others. -/
theorem kept : ∀ (n : ℕ) (hn : n < cfg0.N) (r f : Fin 1024),
    (outsAt0 m c n hn).2 (ix2 r f) = hrow m c (bt ⟨n, hn⟩) (pos ⟨n, hn⟩ r) f := by
  intro n
  induction n with
  | zero =>
    intro hn r f
    rw [outsAt0_A m c ⟨0, hn⟩ (Nat.zero_mod _)]
    frame_out
    rw [pay1_at]
    simp only [read0, read1, read2, read3]
    rfl
  | succ k ih =>
    intro hn r f
    by_cases h : (k + 1) % 9 = 0
    · rw [outsAt0_A m c ⟨k + 1, hn⟩ h]
      frame_out
      rw [pay1_at]
      simp only [read0, read1, read2, read3]
      rfl
    · rw [outsAt0_B m c ⟨k + 1, hn⟩ h]
      simp only [sout0_B_0, Nat.add_sub_cancel, ih]
      have hb : bt ⟨k, Nat.lt_of_succ_lt hn⟩ = bt ⟨k + 1, hn⟩ := Fin.ext (by show k / 36 = (k + 1) / 36; omega)
      have hp : pos ⟨k, Nat.lt_of_succ_lt hn⟩ r = pos ⟨k + 1, hn⟩ r := Fin.ext (by show k / 9 % 4 * 1024 + r.val = (k + 1) / 9 % 4 * 1024 + r.val; omega)
      exact congr (congr (congrArg (hrow m c) hb) hp) rfl

/-- What a grid point leaves in its block. -/
theorem point (r f : Fin 1024) : (outsAt0 m c t.val t.isLt).1 (ix3 0 r f)
    = val_main_v35 (F := Ideal) (X m c) (G m c) (Sc m c) (Sh m c) (W m c) (B m c) (ix3 (bt t) (pos t r) (colOf t f)) := by
  have e : (outsAt0 m c t.val t.isLt).1 (ix3 0 r f)
      = (∑ l : Fin 1024, (outsAt0 m c t.val t.isLt).2 (ix2 r l) * (iblk m c 4 t : FVec Ideal S1024x1024 .bf16) (ix2 l f)) + (iblk m c 5 t : FVec Ideal S1x1024 .f32) (ix2 0 f) := by
    by_cases h : t.val % 9 = 0
    · rw [outsAt0_A m c t h]
      frame_out
      rw [pay2_at]
    · rw [outsAt0_B m c t h]
      frame_out
      rw [pay2_at]
      simp only [sout0_B_0, read_unread_whole]
  rw [e, v35_at]
  simp only [kept, read4, read5, v22_at]
  exact place_dot _ _ _ _

theorem ix3_of {a b c : ℕ} (y : (⟨3, ![a, b, c]⟩ : Shape).Idx) : y = ix3 (y 0) (y 1) (y 2) := by
  funext i
  match i with
  | ⟨0, _⟩ => rfl
  | ⟨1, _⟩ => rfl
  | ⟨2, _⟩ => rfl

/-- The result array after the run. -/
theorem final : (dats m 0 c).arrAt 6 (cfgs 0).N
    = val_main_v35 (F := Ideal) (X m c) (G m c) (Sc m c) (Sh m c) (W m c) (B m c) := by
  refine (dats m 0 c).arrAt_eq_of_covers 6 _ (by decide +kernel) fun t _ y => ?_
  blk_simp
  rw [after0_6]
  obtain ⟨a, r, f, rfl⟩ : ∃ (a : Fin 1) (r : Fin 1024) (f : Fin 1024), y = ix3 a r f := ⟨y 0, y 1, y 2, ix3_of y⟩
  obtain rfl : a = 0 := Subsingleton.elim _ _
  refine (point m c t r f).trans (congrArg _ ?_)
  blk_ext [idx t, bt, pos, colOf]

end Cert.KernelInIdeal.Final
-- ==== Proof.AlgIn.lean ====
/-
  The input projection's value claim: the call and the reference end with equal results.
-/
module

public import proofs.«01_k».proof.Defs
public import proofs.«01_k».proof.Proof.InValue
public import proofs.«01_k».proof.Proof.Gen.RefInIdeal.Run
public import Idealize.ShloMosaic.Lib.Claim
public import Idealize.ShloMosaic.Lib.Quiescent

@[expose] public section

set_option maxRecDepth 16384

noncomputable section

namespace Cert.AlgIn

open Idealize.ShloMosaic Idealize.ShloMosaic.TcCoe Idealize.SL.Sem
open Cert.KernelInIdeal Cert.KernelInIdeal.Final Cert.RefInIdeal.Read

theorem reference_frame : Cert.quiescent_RefInIdeal (hRefInIdeal := Cert.RefInIdeal.Gen.facts) := by
  intro m g _
  exact (θ_run _ _ _).mono (fun r h => ⟨fun c => (h c).2, sem_eq_zero_of_no_sems rfl _⟩) (Cert.RefInIdeal.Value.run m g)

theorem algebraic : Cert.algebraic_KernelInIdeal_RefInIdeal (hKernelInIdeal := Cert.KernelInIdeal.Gen.facts)
    (hRefInIdeal := Cert.RefInIdeal.Gen.facts) := by
  intro m g m' g' _ hagree
  refine ⟨fun c => val_main_v35 (F := Ideal) (X m c) (G m c) (Sc m c) (Sh m c) (W m c) (B m c), ?_, ?_⟩
  · refine (θ_run _ _ _).mono (fun r h c => ?_) (Cert.KernelInIdeal.Value.run_blocks m g)
    obtain ⟨h0, hargs⟩ := h c
    exact ⟨h0.trans (Final.final m c), hargs⟩
  · refine (θ_run _ _ _).mono (fun r h c => ?_) (Cert.RefInIdeal.Value.run m' g')
    obtain ⟨h0, hargs⟩ := h c
    obtain ⟨e0, e1, e2, e3, e4, e5⟩ := hagree c
    have k0 := h0.trans (val_main_v35_eq (F := Ideal) m' c)
    exact ⟨k0.trans (congr (congr (congr (congr (congr (congrArg (val_main_v35 (F := Ideal)) e0) e1) e2) e3) e4) e5), hargs⟩

end Cert.AlgIn
-- ==== Proof.MixValue.lean ====
/-
  The call that merges the two branches by their gates, projects, normalises and adds the residual: its result array is
  the reference's result.
-/
module

public import proofs.«01_k».proof.Proof.Gen.KernelMixIdeal.Value
public import proofs.«01_k».proof.Proof.Gen.RefMixIdeal.Read
public import Idealize.ShloMosaic.Lib.Claim
public import Idealize.ShloMosaic.Lib.Pipeline.ValueKit

@[expose] public section

set_option maxRecDepth 16384

noncomputable section

namespace Cert.KernelMixIdeal.Final

open Cert.KernelMixIdeal Cert.KernelMixIdeal.Gen Cert.RefMixIdeal.Read
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 5]
    ∧ win0_4.index t = ![t.val / 8, t.val % 8, 6] ∧ win0_5.index t = ![t.val / 8, 0, 0] ∧ win0_6.index t = ![0, 0]
    ∧ win0_7.index t = ![0, 0] ∧ win0_8.index t = ![0, 0] ∧ win0_9.index t = ![0, 0]
    ∧ win0_10.index t = ![t.val / 8, t.val % 8, 0] ∧ t.val < 32 :=
  (by decide +kernel : ∀ t : Fin grid0.N, _)

/-- The call's arguments on device `c`. -/
abbrev X (c : Dev nD) : FVec Ideal S4x4096x1024 .f32 := m ((c : Thread nD τ).loc main_arg0)
abbrev Hm (c : Dev nD) : FVec Ideal S4x4096x1024 .f32 := m ((c : Thread nD τ).loc main_arg1)
abbrev Ha (c : Dev nD) : FVec Ideal S4x4096x1024 .f32 := m ((c : Thread nD τ).loc main_arg2)
abbrev Z (c : Dev nD) : FVec Ideal S4x4096x9216 .f32 := m ((c : Thread nD τ).loc main_arg3)
abbrev Gt (c : Dev nD) : FVec Ideal S4x1x1024 .f32 := m ((c : Thread nD τ).loc main_arg4)
abbrev G (c : Dev nD) : FVec Ideal S1024 .f32 := m ((c : Thread nD τ).loc main_arg5)
abbrev Wm (c : Dev nD) : FVec Ideal S1024x1024 .f32 := m ((c : Thread nD τ).loc main_arg6)
abbrev Wa (c : Dev nD) : FVec Ideal S1024x1024 .f32 := m ((c : Thread nD τ).loc main_arg7)
abbrev Wo (c : Dev nD) : FVec Ideal S1024x1024 .f32 := m ((c : Thread nD τ).loc main_arg8)

variable (c : Dev nD) (t : Fin cfg0.N)

/-- The batch of a grid point and the position its block's row stands for. -/
def bt : Fin 4 := ⟨t.val / 8, by have := (idx t).2.2.2.2.2.2.2.2.2.2.2; omega⟩
def pos (r : Fin 512) : Fin 4096 := ⟨t.val % 8 * 512 + r.val, by omega⟩

/-- The two gated branches' sum, projected. -/
def mixed (hm ha za zb : Fin 1024 → EReal) (wm wa wo : Fin 1024 → Fin 1024 → EReal) (f : Fin 1024) : EReal :=
  ∑ k : Fin 1024, (Ideal.div 1 (1 + Ideal.exp (-za k)) * (∑ l : Fin 1024, hm l * wm l k)
    + Ideal.div 1 (1 + Ideal.exp (-zb k)) * (∑ l : Fin 1024, ha l * wa l k)) * wo k f

/-- The normalised row, scaled, gated and added to the residual. -/
def merged (x gt : EReal) (y : Fin 1024 → EReal) (g : EReal) (f : Fin 1024) : EReal :=
  x + gt * (y f * Ideal.rsqrt (Ideal.div (∑ k : Fin 1024, y k * y k) (Ideal.ofBits .f32 0x44800000#32) + Ideal.ofBits .f32 0x358637BD#32) * g)

theorem pay4_at (x0 x1 x3 x4 : FVec Ideal S1x512x1024 .f32) (x2 x5 x6 : FVec Ideal S1024x1024 .bf16) (r : Fin 512) (f : Fin 1024) :
    k0_pay4 (F := Ideal) x0 x1 x2 x3 x4 x5 x6 (ix2 r f) = mixed (fun l => x1 (ix3 0 r l)) (fun l => x4 (ix3 0 r l)) (fun k => x0 (ix3 0 r k))
      (fun k => x3 (ix3 0 r k)) (fun l k => x2 (ix2 l k)) (fun l k => x5 (ix2 l k)) (fun l k => x6 (ix2 l k)) f := by
  pointwise [k0_pay4]
  rfl

theorem v19_at (x1 x2 : FVec Ideal S4x4096x1024 .f32) (x3 : FVec Ideal S4x4096x9216 .f32) (x6 x7 x8 : FVec Ideal S1024x1024 .f32)
    (b : Fin 4) (s : Fin 4096) (f : Fin 1024) : val_main_v19 (F := Ideal) x1 x2 x3 x6 x7 x8 (ix3 b s f)
      = mixed (fun l => x1 (ix3 b s l)) (fun l => x2 (ix3 b s l)) (fun k => x3 (ix3 b s ⟨5120 + k.val, by omega⟩))
        (fun k => x3 (ix3 b s ⟨6144 + k.val, by omega⟩)) (fun l k => x6 (ix2 l k)) (fun l k => x7 (ix2 l k)) (fun l k => x8 (ix2 l k)) f := by
  pointwise [val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  rfl

theorem pay1_at (x0 y : FVec Ideal S512x1024 .f32) (gt g : FVec Ideal S1x1024 .f32) (r : Fin 512) (f : Fin 1024) :
    k0_pay1 (F := Ideal) x0 gt y g (ix3 0 r f) = merged (x0 (ix2 r f)) (gt (ix2 0 f)) (fun k => y (ix2 r k)) (g (ix2 0 f)) f := by
  pointwise [k0_pay1]
  rfl

theorem pay2_at (x : FVec Ideal S1x512x1024 .f32) (r : Fin 512) (f : Fin 1024) : k0_pay2 (F := Ideal) x (ix2 r f) = x (ix3 0 r f) := by
  pointwise [k0_pay2]

theorem pay3_at (x : FVec Ideal S1x1x1024 .f32) (f : Fin 1024) : k0_pay3 (F := Ideal) x (ix2 0 f) = x (ix3 0 0 f) := by
  pointwise [k0_pay3]

theorem v35_at (x0 x1 x2 : FVec Ideal S4x4096x1024 .f32) (x3 : FVec Ideal S4x4096x9216 .f32) (x4 : FVec Ideal S4x1x1024 .f32)
    (x5 : FVec Ideal S1024 .f32) (x6 x7 x8 : FVec Ideal S1024x1024 .f32)
    (b : Fin 4) (s : Fin 4096) (f : Fin 1024) : val_main_v35 (F := Ideal) x0 x1 x2 x3 x4 x5 x6 x7 x8 (ix3 b s f)
      = merged (x0 (ix3 b s f)) (x4 (ix3 b 0 f)) (fun k => val_main_v19 (F := Ideal) x1 x2 x3 x6 x7 x8 (ix3 b s k)) (x5 (ix1 f)) f := by
  pointwise [val_main_v35, val_main_v34, val_main_v33, val_main_v32, val_main_v31, val_main_v30, val_main_v29, val_main_v28, val_main_v27, val_main_v26,
    val_main_v25, val_main_v24, val_main_v23, val_main_v22, val_main_v21, val_main_v20, val_main_cst_3, val_main_cst_4, val_main_cst_5]
  rfl

theorem read0 (r : Fin 512) (f : Fin 1024) : (iblk m c 0 t : FVec Ideal S1x512x1024 .f32) (ix3 0 r f) = X m c (ix3 (bt t) (pos t r) f) := by
  blk_ext [iblk, V, idx t, bt, pos]
theorem read1 (r : Fin 512) (f : Fin 1024) : (iblk m c 1 t : FVec Ideal S1x512x1024 .f32) (ix3 0 r f) = Hm m c (ix3 (bt t) (pos t r) f) := by
  blk_ext [iblk, V, idx t, bt, pos]
theorem read2 (r : Fin 512) (f : Fin 1024) : (iblk m c 2 t : FVec Ideal S1x512x1024 .f32) (ix3 0 r f) = Ha m c (ix3 (bt t) (pos t r) f) := by
  blk_ext [iblk, V, idx t, bt, pos]
theorem read3 (r : Fin 512) (f : Fin 1024) : (iblk m c 3 t : FVec Ideal S1x512x1024 .f32) (ix3 0 r f)
    = Z m c (ix3 (bt t) (pos t r) ⟨5120 + f.val, by omega⟩) := by
  blk_ext [iblk, V, idx t, bt, pos]
theorem read4 (r : Fin 512) (f : Fin 1024) : (iblk m c 4 t : FVec Ideal S1x512x1024 .f32) (ix3 0 r f)
    = Z m c (ix3 (bt t) (pos t r) ⟨6144 + f.val, by omega⟩) := by
  blk_ext [iblk, V, idx t, bt, pos]
theorem read5 (f : Fin 1024) : (iblk m c 5 t : FVec Ideal S1x1x1024 .f32) (ix3 0 0 f) = Gt m c (ix3 (bt t) 0 f) := by
  blk_ext [iblk, V, idx t, bt]
theorem read6 (f : Fin 1024) : (iblk m c 6 t : FVec Ideal S1x1024 .f32) (ix2 0 f) = G m c (ix1 f) := by
  blk_simp [iblk]; entry_read; pointwise; blk_ext [idx t]
theorem read7 (l k : Fin 1024) : (iblk m c 7 t : FVec Ideal S1024x1024 .bf16) (ix2 l k) = Wm m c (ix2 l k) := by
  blk_simp [iblk]; entry_read; pointwise; blk_ext [idx t]
theorem read8 (l k : Fin 1024) : (iblk m c 8 t : FVec Ideal S1024x1024 .bf16) (ix2 l k) = Wa m c (ix2 l k) := by
  blk_simp [iblk]; entry_read; pointwise; blk_ext [idx t]
theorem read9 (l k : Fin 1024) : (iblk m c 9 t : FVec Ideal S1024x1024 .bf16) (ix2 l k) = Wo m c (ix2 l k) := by
  blk_simp [iblk]; entry_read; pointwise; blk_ext [idx t]

/-- What a grid point leaves in its block. -/
theorem point (r : Fin 512) (f : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r f)
      = val_main_v35 (F := Ideal) (X m c) (Hm m c) (Ha m c) (Z m c) (Gt m c) (G m c) (Wm m c) (Wa m c) (Wo m c) (ix3 (bt t) (pos t r) f) := by
  frame_out
  rw [pay1_at, v35_at]
  simp only [pay2_at, pay3_at, pay4_at, v19_at, read0, read1, read2, read3, read4, read5, read6, read7, read8, read9]

theorem ix3_of {a b c : ℕ} (y : (⟨3, ![a, b, c]⟩ : Shape).Idx) : y = ix3 (y 0) (y 1) (y 2) := by
  funext i
  match i with
  | ⟨0, _⟩ => rfl
  | ⟨1, _⟩ => rfl
  | ⟨2, _⟩ => rfl

/-- The result array after the run. -/
theorem final : (dats m 0 c).arrAt 10 (cfgs 0).N
    = val_main_v35 (F := Ideal) (X m c) (Hm m c) (Ha m c) (Z m c) (Gt m c) (G m c) (Wm m c) (Wa m c) (Wo m c) := by
  refine (dats m 0 c).arrAt_eq_of_covers 10 _ (by decide +kernel) fun t _ y => ?_
  blk_simp
  rw [after0_10]
  obtain ⟨a, r, f, rfl⟩ : ∃ (a : Fin 1) (r : Fin 512) (f : Fin 1024), y = ix3 a r f := ⟨y 0, y 1, y 2, ix3_of y⟩
  obtain rfl : a = 0 := Subsingleton.elim _ _
  refine (point m c t r f).trans (congrArg _ ?_)
  blk_ext [idx t, bt, pos]

end Cert.KernelMixIdeal.Final
-- ==== Proof.AlgMix.lean ====
/-
  The merging call's value claim: the call and the reference end with equal results.
-/
module

public import proofs.«01_k».proof.Defs
public import proofs.«01_k».proof.Proof.MixValue
public import proofs.«01_k».proof.Proof.Gen.RefMixIdeal.Run
public import Idealize.ShloMosaic.Lib.Claim
public import Idealize.ShloMosaic.Lib.Quiescent

@[expose] public section

set_option maxRecDepth 16384

noncomputable section

namespace Cert.AlgMix

open Idealize.ShloMosaic Idealize.ShloMosaic.TcCoe Idealize.SL.Sem
open Cert.KernelMixIdeal Cert.KernelMixIdeal.Final Cert.RefMixIdeal.Read

theorem reference_frame : Cert.quiescent_RefMixIdeal (hRefMixIdeal := Cert.RefMixIdeal.Gen.facts) := by
  intro m g _
  exact (θ_run _ _ _).mono (fun r h => ⟨fun c => (h c).2, sem_eq_zero_of_no_sems rfl _⟩) (Cert.RefMixIdeal.Value.run m g)

theorem algebraic : Cert.algebraic_KernelMixIdeal_RefMixIdeal (hKernelMixIdeal := Cert.KernelMixIdeal.Gen.facts)
    (hRefMixIdeal := Cert.RefMixIdeal.Gen.facts) := by
  intro m g m' g' _ hagree
  refine ⟨fun c => val_main_v35 (F := Ideal) (X m c) (Hm m c) (Ha m c) (Z m c) (Gt m c) (G m c) (Wm m c) (Wa m c) (Wo m c), ?_, ?_⟩
  · refine (θ_run _ _ _).mono (fun r h c => ?_) (Cert.KernelMixIdeal.Value.run_blocks m g)
    obtain ⟨h0, hargs⟩ := h c
    exact ⟨h0.trans (Final.final m c), hargs⟩
  · refine (θ_run _ _ _).mono (fun r h c => ?_) (Cert.RefMixIdeal.Value.run m' g')
    obtain ⟨h0, hargs⟩ := h c
    obtain ⟨e0, e1, e2, e3, e4, e5, e6, e7, e8⟩ := hagree c
    have k0 := h0.trans (val_main_v35_eq (F := Ideal) m' c)
    exact ⟨k0.trans (congr (congr (congr (congr (congr (congr (congr (congr (congrArg (val_main_v35 (F := Ideal)) e0) e1) e2) e3) e4) e5) e6) e7) e8), hargs⟩

end Cert.AlgMix
-- ==== Proof.FfnBody.lean ====
/-
  The feed-forward call's body as a fold over its eleven column chunks: what one chunk adds, and the two branches of the body in
  these terms.
-/
module

public import proofs.«01_k».proof.Proof.Gen.KernelFfnIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.KernelFfnIdeal.Final

open Cert.KernelFfnIdeal Cert.KernelFfnIdeal.Gen
open Idealize.ShloMosaic Idealize.ShloMosaic.TcCoe Idealize.SL.Sem

/-- The row numbers of the first eight rows. -/
abbrev top : IVec S8x1 32 := iota Kind.tc S8x1 32 [0] iota_S8x1_d0_w32

/-- The convolution over the rows of one chunk of up-projected columns, `p` being the rows kept from the block before. -/
abbrev conv (h : FVec Ideal S512x1024 .bf16) (w : FVec Ideal S1024x256 .bf16) (p : FVec Ideal S8x256 .f32) (cw : FVec Ideal S3x256 .f32) (cb : FVec Ideal S1x256 .f32) :
    FVec Ideal S512x256 .f32 :=
  k0_pay10 (k0_pay11 h w) (k0_pay6 top (k0_pay11 h w) 1#32 p) (k0_pay7 top (k0_pay11 h w) p) cw cb

/-- A chunk's hidden columns: `a` times the gelu of the other convolution. -/
abbrev hidden (h : FVec Ideal S512x1024 .bf16) (a : FVec Ideal S512x256 .f32) (w : FVec Ideal S1024x256 .bf16) (p : FVec Ideal S8x256 .f32) (cw : FVec Ideal S3x256 .f32)
    (cb : FVec Ideal S1x256 .f32) : FVec Ideal S512x256 .bf16 :=
  k0_pay19 a (k0_pay11 h w) (k0_pay13 h top w p) (k0_pay14 h top w p) (k0_pay15 h w) cw cb

theorem inb1 {n w o : ℕ} (ho : o + 256 ≤ w) : ∀ a : Fin 2, (![0, o] : Fin 2 → ℕ) a + (![n, 256] : Fin 2 → ℕ) a ≤ (![n, w] : Fin 2 → ℕ) a := by
  intro a
  match a with
  | ⟨0, _⟩ => exact (Nat.zero_add n).le
  | ⟨1, _⟩ => exact ho

theorem inb0 {n w o : ℕ} (ho : o + 256 ≤ n) : ∀ a : Fin 2, (![o, 0] : Fin 2 → ℕ) a + (![256, w] : Fin 2 → ℕ) a ≤ (![n, w] : Fin 2 → ℕ) a := by
  intro a
  match a with
  | ⟨0, _⟩ => exact ho
  | ⟨1, _⟩ => exact (Nat.zero_add w).le

/-- 256 columns of an array, from column `o`. -/
abbrev cols {e : EltTy} {n w : ℕ} (x : (⟨2, ![n, w]⟩ : Shape).Idx → Elt Ideal e) (o : ℕ) (ho : o + 256 ≤ w) : (⟨2, ![n, 256]⟩ : Shape).Idx → Elt Ideal e :=
  View.ld (S := ⟨2, ![n, w]⟩) x (Rect.unit ![0, o] ![n, 256] (inb1 ho))

/-- 256 rows of an array, from row `o`. -/
abbrev rows {e : EltTy} {n w : ℕ} (x : (⟨2, ![n, w]⟩ : Shape).Idx → Elt Ideal e) (o : ℕ) (ho : o + 256 ≤ n) : (⟨2, ![256, w]⟩ : Shape).Idx → Elt Ideal e :=
  View.ld (S := ⟨2, ![n, w]⟩) x (Rect.unit ![o, 0] ![256, w] (inb0 ho))

/-- The sum after one more chunk, of columns `o` to `o + 256`. -/
abbrev step (h : FVec Ideal S512x1024 .bf16) (W : FVec Ideal S1024x5632 .bf16) (P : FVec Ideal S8x5632 .f32) (Cw : FVec Ideal S3x5632 .f32) (Cb : FVec Ideal S1x5632 .f32)
    (D : FVec Ideal S2816x1024 .bf16) (o : ℕ) (ho : o + 256 ≤ 2816) (acc : FVec Ideal S512x1024 .f32) : FVec Ideal S512x1024 .f32 :=
  k0_pay20 acc (k0_pay18 (rows (e := .bf16) D o ho))
    (hidden h (conv h (cols (e := .bf16) W o (by omega)) (cols (e := .f32) P o (by omega)) (cols (e := .f32) Cw o (by omega)) (cols (e := .f32) Cb o (by omega)))
      (cols (e := .bf16) W (2816 + o) (by omega)) (cols (e := .f32) P (2816 + o) (by omega)) (cols (e := .f32) Cw (2816 + o) (by omega)) (cols (e := .f32) Cb (2816 + o) (by omega)))

/-- The sum over all the chunks. -/
abbrev total (h : FVec Ideal S512x1024 .bf16) (W : FVec Ideal S1024x5632 .bf16) (P : FVec Ideal S8x5632 .f32) (Cw : FVec Ideal S3x5632 .f32) (Cb : FVec Ideal S1x5632 .f32)
    (D : FVec Ideal S2816x1024 .bf16) : FVec Ideal S512x1024 .f32 :=
  step h W P Cw Cb D 2560 (by omega) (step h W P Cw Cb D 2304 (by omega) (step h W P Cw Cb D 2048 (by omega) (step h W P Cw Cb D 1792 (by omega)
    (step h W P Cw Cb D 1536 (by omega) (step h W P Cw Cb D 1280 (by omega) (step h W P Cw Cb D 1024 (by omega) (step h W P Cw Cb D 768 (by omega)
      (step h W P Cw Cb D 512 (by omega) (step h W P Cw Cb D 256 (by omega) (step h W P Cw Cb D 0 (by omega) k0_pay4))))))))))

/-- The block's result from that sum. -/
abbrev closing (x : FVec Ideal S1x512x1024 .f32) (gt : FVec Ideal S1x1x1024 .f32) (g : FVec Ideal S1x1024 .f32) (s : FVec Ideal S512x1024 .f32) : FVec Ideal S1x512x1024 .f32 :=
  k0_pay1 s (k0_pay194 x) (k0_pay195 gt) (k0_pay196 g)
    (multiReduction .add [1] S512 (mulf s s) 0x00000000#32 reduces_S512x1024_S512 (.inl rfl) rfl)

variable (m : (ℓ : Loc nD τ sig) → Buf (Elt Ideal) ℓ) (c : Dev nD) (t : Fin cfg0.N)

theorem out_B (h : ¬ t.val % 8 = 0) : (outsAt0 m c t.val t.isLt).1
    = closing (iblk m c 0 t) (iblk m c 4 t) (iblk m c 5 t) (total (k0_pay3 (iblk m c 0 t) (iblk m c 1 t) (iblk m c 2 t) (iblk m c 3 t)) (iblk m c 6 t)
        (outsAt0 m c (t.val - 1) (Nat.lt_of_le_of_lt (Nat.sub_le _ _) t.isLt)).2.2 (iblk m c 7 t) (iblk m c 8 t) (iblk m c 9 t)) := by
  rw [outsAt0_B m c t h]
  frame_out
  simp only [read_unread_whole]
  rfl

theorem out_A (h : t.val % 8 = 0) : (outsAt0 m c t.val t.isLt).1
    = closing (iblk m c 0 t) (iblk m c 4 t) (iblk m c 5 t) (total (k0_pay3 (iblk m c 0 t) (iblk m c 1 t) (iblk m c 2 t) (iblk m c 3 t)) (iblk m c 6 t)
        k0_pay2 (iblk m c 7 t) (iblk m c 8 t) (iblk m c 9 t)) := by
  rw [outsAt0_A m c t h]
  frame_open
  simp (disch := decide) only [↓ View.readCov_skip, ↓ View.readCov_cons_toLoadRect, ↓ View.readCov_fill]
  frame_out
  rfl

end Cert.KernelFfnIdeal.Final
end
-- ==== Proof.FfnTail.lean ====
/-
  The feed-forward call's stores of the last two up-projected rows: what the tail block and the first two kept rows hold after a
  grid point.
-/
module

public import proofs.«01_k».proof.Proof.FfnBody

@[expose] public section

set_option maxRecDepth 16384

noncomputable section

namespace Cert.KernelFfnIdeal.Final

open Cert.KernelFfnIdeal Cert.KernelFfnIdeal.Gen
open Idealize.ShloMosaic Idealize.ShloMosaic.TcCoe Idealize.SL.Sem
open Idealize.ShloMosaic.View (canon PiecesOf)

/-- The up-projection at a row and a column. -/
def up (h : FVec Ideal S512x1024 .bf16) (W : FVec Ideal S1024x5632 .bf16) (r : Fin 512) (j : Fin 5632) : EReal :=
  ∑ l : Fin 1024, h (ix2 r l) * W (ix2 l j)

theorem cols_at {e : EltTy} {n w : ℕ} (x : (⟨2, ![n, w]⟩ : Shape).Idx → Elt Ideal e) (o : ℕ) (ho : o + 256 ≤ w) (a : Fin n) (b : Fin 256) :
    cols x o ho (ix2 a b) = x (ix2 a ⟨o + b.val, by omega⟩) := by
  refine congrArg x (funext fun i => Fin.ext ?_)
  match i with
  | ⟨0, _⟩ => show 0 + 1 * a.val = a.val; omega
  | ⟨1, _⟩ => show o + 1 * b.val = o + b.val; omega

theorem rows_at {e : EltTy} {n w : ℕ} (x : (⟨2, ![n, w]⟩ : Shape).Idx → Elt Ideal e) (o : ℕ) (ho : o + 256 ≤ n) (a : Fin 256) (b : Fin w) :
    rows x o ho (ix2 a b) = x (ix2 ⟨o + a.val, by omega⟩ b) := by
  refine congrArg x (funext fun i => Fin.ext ?_)
  match i with
  | ⟨0, _⟩ => show o + 1 * a.val = o + a.val; omega
  | ⟨1, _⟩ => show 0 + 1 * b.val = b.val; omega

theorem pay11_at (h : FVec Ideal S512x1024 .bf16) (w : FVec Ideal S1024x256 .bf16) (r : Fin 512) (j : Fin 256) :
    k0_pay11 h w (ix2 r j) = ∑ l : Fin 1024, h (ix2 r l) * w (ix2 l j) := by
  pointwise [k0_pay11]

theorem up_at (h : FVec Ideal S512x1024 .bf16) (W : FVec Ideal S1024x5632 .bf16) (o : ℕ) (ho : o + 256 ≤ 5632) (r : Fin 512) (j : Fin 256) :
    k0_pay11 h (cols (e := .bf16) W o ho) (ix2 r j) = up h W r ⟨o + j.val, by omega⟩ := by
  rw [pay11_at]
  exact Finset.sum_congr rfl fun l _ => congrArg _ (cols_at (e := .bf16) W o ho l j)

theorem pay8_at (u : FVec Ideal S512x256 .f32) (a : Fin 2) (b : Fin 256) : k0_pay8 u (ix2 a b) = u (ix2 ⟨510 + a.val, by omega⟩ b) := by
  pointwise [k0_pay8]
  try rfl

theorem pay9_at (u : FVec Ideal S512x256 .f32) (a : Fin 2) (b : Fin 256) : k0_pay9 u (ix4 0 0 a b) = u (ix2 ⟨510 + a.val, by omega⟩ b) := by
  pointwise [k0_pay9]
  try rfl

theorem ix2_of {a b : ℕ} (y : (⟨2, ![a, b]⟩ : Shape).Idx) : y = ix2 (y 0) (y 1) := by
  funext i
  match i with
  | ⟨0, _⟩ => rfl
  | ⟨1, _⟩ => rfl

theorem ix3_of {a b c : ℕ} (y : (⟨3, ![a, b, c]⟩ : Shape).Idx) : y = ix3 (y 0) (y 1) (y 2) := by
  funext i
  match i with
  | ⟨0, _⟩ => rfl
  | ⟨1, _⟩ => rfl
  | ⟨2, _⟩ => rfl

theorem ix4_of {a b c d : ℕ} (y : (⟨4, ![a, b, c, d]⟩ : Shape).Idx) : y = ix4 (y 0) (y 1) (y 2) (y 3) := by
  funext i
  match i with
  | ⟨0, _⟩ => rfl
  | ⟨1, _⟩ => rfl
  | ⟨2, _⟩ => rfl
  | ⟨3, _⟩ => rfl

/-- The last two up-projected rows, as the two stores lay them out (the kept rows beyond the second are not stored). -/
def keep (h : FVec Ideal S512x1024 .bf16) (W : FVec Ideal S1024x5632 .bf16) : FVec Ideal S8x5632 .f32 :=
  fun y => if hy : (y 0).val < 2 then up h W ⟨510 + (y 0).val, by omega⟩ (y 1) else 0
def tails (h : FVec Ideal S512x1024 .bf16) (W : FVec Ideal S1024x5632 .bf16) : FVec Ideal S1x1x2x5632 .f32 :=
  fun y => up h W ⟨510 + (y 2).val, Nat.add_lt_add_left (y 2).isLt 510⟩ (y 3)

theorem keep_piece (h : FVec Ideal S512x1024 .bf16) (W : FVec Ideal S1024x5632 .bf16) (o : ℕ) (ho : o + 256 ≤ 5632)
    (inb : ∀ a, (![0, o] : Fin 2 → ℕ) a + (![2, 256] : Fin 2 → ℕ) a ≤ S8x5632.size a) (x : (Rect.unit (s := S8x5632) ![0, o] ![2, 256] inb).shape.Idx) :
    k0_pay8 (k0_pay11 h (cols (e := .bf16) W o ho)) x = keep h W ((Rect.unit (s := S8x5632) ![0, o] ![2, 256] inb).emb x) := by
  obtain ⟨a, b, rfl⟩ : ∃ (a : Fin 2) (b : Fin 256), x = ix2 a b := ⟨x 0, x 1, ix2_of x⟩
  refine ((pay8_at _ a b).trans (up_at h W o ho _ b)).trans ?_
  have ha : ((Rect.unit (s := S8x5632) ![0, o] ![2, 256] inb).emb (ix2 a b) 0).val = a.val := by show 0 + 1 * a.val = a.val; omega
  have hb : ((Rect.unit (s := S8x5632) ![0, o] ![2, 256] inb).emb (ix2 a b) 1).val = o + b.val := by show o + 1 * b.val = o + b.val; omega
  refine Eq.trans ?_ (dif_pos (by rw [ha]; exact a.isLt)).symm
  exact congr (congrArg (up h W) (Fin.ext (congrArg (510 + ·) ha.symm))) (Fin.ext hb.symm)

theorem tail_piece (h : FVec Ideal S512x1024 .bf16) (W : FVec Ideal S1024x5632 .bf16) (o : ℕ) (ho : o + 256 ≤ 5632)
    (inb : ∀ a, (![0, 0, 0, o] : Fin 4 → ℕ) a + (![1, 1, 2, 256] : Fin 4 → ℕ) a ≤ S1x1x2x5632.size a)
    (x : (Rect.unit (s := S1x1x2x5632) ![0, 0, 0, o] ![1, 1, 2, 256] inb).shape.Idx) :
    k0_pay9 (k0_pay11 h (cols (e := .bf16) W o ho)) x = tails h W ((Rect.unit (s := S1x1x2x5632) ![0, 0, 0, o] ![1, 1, 2, 256] inb).emb x) := by
  obtain ⟨a₁, a₂, a, b, rfl⟩ : ∃ (a₁ a₂ : Fin 1) (a : Fin 2) (b : Fin 256), x = ix4 a₁ a₂ a b := ⟨x 0, x 1, x 2, x 3, ix4_of x⟩
  obtain rfl : a₁ = 0 := Subsingleton.elim _ _
  obtain rfl : a₂ = 0 := Subsingleton.elim _ _
  refine ((pay9_at _ a b).trans (up_at h W o ho _ b)).trans ?_
  refine congr (congrArg (up h W) (Fin.ext ?_)) (Fin.ext ?_)
  · show 510 + a.val = 510 + (0 + 1 * a.val); omega
  · show o + b.val = o + 1 * b.val; omega

theorem front_cons {s : Shape} {e : EltTy} {G : s.Idx → Elt Ideal e} {n : ℕ} {r : Rect s} {w : r.shape.Idx → Elt Ideal e}
    {L : List (View.Piece (Elt Ideal) s e)} (h : ∀ x : r.shape.Idx, w x = G (r.emb x)) (hL : PiecesOf G (L.take n)) :
    PiecesOf G (List.take (n + 1) (⟨r, w⟩ :: L)) := ⟨h, hL⟩

/-- The first stores of a list agree with `G` where they cover. -/
theorem canon_front {s : Shape} {e : EltTy} (G : s.Idx → Elt Ideal e) (n : ℕ) (L : List (View.Piece (Elt Ideal) s e)) (hG : PiecesOf G (L.take n)) (y : s.Idx)
    (hc : ∃ p ∈ L.take n, y ∈ p.1.set) : canon L y = G y := by
  rw [← List.take_append_drop n L]
  exact View.canon_append_of_piecesOf G _ _ hG y hc

/-- The stores of 2 rows by 256 columns reach every column of the first two rows. -/
theorem covered (L : List (View.Piece (Elt Ideal) S8x5632 .f32))
    (hL : ((List.range 22).all fun k => L.any fun p => decide (∀ a : Fin 2, p.1.off a = (![0, 256 * k] : Fin 2 → ℕ) a ∧ p.1.size a = (![2, 256] : Fin 2 → ℕ) a ∧ p.1.stride a = 1)) = true)
    (a : Fin 8) (ha : a.val < 2) (j : Fin 5632) : ∃ p ∈ L, (ix2 a j : S8x5632.Idx) ∈ p.1.set := by
  have h := List.all_eq_true.mp hL (j.val / 256) (List.mem_range.mpr (by omega))
  obtain ⟨p, hp, hq⟩ := List.any_eq_true.mp h
  have hq := of_decide_eq_true hq
  refine ⟨p, hp, p.1.mem_set.mpr fun i => ?_⟩
  obtain ⟨h0, h1, h2⟩ := hq i
  rw [h0, h1, h2]
  match i with
  | ⟨0, _⟩ => exact ⟨a.val, ha, by show a.val = 0 + 1 * a.val; omega⟩
  | ⟨1, _⟩ => exact ⟨j.val % 256, Nat.mod_lt _ (by decide), by show j.val = 256 * (j.val / 256) + 1 * (j.val % 256); omega⟩

variable (m : (ℓ : Loc nD τ sig) → Buf (Elt Ideal) ℓ) (c : Dev nD) (t : Fin cfg0.N)

/-- The normalised and modulated rows of a grid point's block. -/
abbrev hb : FVec Ideal S512x1024 .bf16 := k0_pay3 (iblk m c 0 t) (iblk m c 1 t) (iblk m c 2 t) (iblk m c 3 t)

theorem kept_A (h : t.val % 8 = 0) (a : Fin 8) (ha : a.val < 2) (j : Fin 5632) :
    (outsAt0 m c t.val t.isLt).2.2 (ix2 a j) = keep (hb m c t) (iblk m c 6 t) (ix2 a j) := by
  rw [outsAt0_A m c t h]
  frame_out
  refine canon_front (e := .f32) (keep (hb m c t) (iblk m c 6 t)) 22 _ ?_ _ ?_
  · (repeat' refine front_cons (keep_piece _ _ _ (by omega) _) ?_)
    trivial
  · exact covered _ (by rfl) a ha j

theorem kept_B (h : ¬ t.val % 8 = 0) (a : Fin 8) (ha : a.val < 2) (j : Fin 5632) :
    (outsAt0 m c t.val t.isLt).2.2 (ix2 a j) = keep (hb m c t) (iblk m c 6 t) (ix2 a j) := by
  rw [outsAt0_B m c t h]
  frame_out
  refine (View.read_writes_apply_eq_canon _ _ _ _ ?_).trans ?_
  · exact covered _ (by rfl) a ha j
  refine canon_front (e := .f32) (keep (hb m c t) (iblk m c 6 t)) 22 _ ?_ _ ?_
  · (repeat' refine front_cons (keep_piece _ _ _ (by omega) _) ?_)
    trivial
  · exact covered _ (by rfl) a ha j

theorem tail_A (h : t.val % 8 = 0) (y : S1x1x2x5632.Idx) :
    (outsAt0 m c t.val t.isLt).2.1 y = tails (hb m c t) (iblk m c 6 t) y := by
  rw [outsAt0_A m c t h]
  frame_out
  refine canon_front (e := .f32) (tails (hb m c t) (iblk m c 6 t)) 22 _ ?_ _ ?_
  · (repeat' refine front_cons (tail_piece _ _ _ (by omega) _) ?_)
    trivial
  · exact View.cover_of_tiled _ ![1, 1, 2, 256] (by rfl) y

theorem tail_B (h : ¬ t.val % 8 = 0) (y : S1x1x2x5632.Idx) :
    (outsAt0 m c t.val t.isLt).2.1 y = tails (hb m c t) (iblk m c 6 t) y := by
  rw [outsAt0_B m c t h]
  frame_out
  refine canon_front (e := .f32) (tails (hb m c t) (iblk m c 6 t)) 22 _ ?_ _ ?_
  · (repeat' refine front_cons (tail_piece _ _ _ (by omega) _) ?_)
    trivial
  · exact View.cover_of_tiled _ ![1, 1, 2, 256] (by rfl) y

end Cert.KernelFfnIdeal.Final

end
-- ==== Proof.FfnRead.lean ====
/-
  The feed-forward call read at an index: the reference's stages, and what one grid point computes in a row and a column.
-/
module

public import proofs.«01_k».proof.Proof.FfnTail
public import proofs.«01_k».proof.Proof.Gen.RefFfnIdeal.Read

@[expose] public section

set_option maxRecDepth 16384

noncomputable section

namespace Cert.KernelFfnIdeal.Final

open Cert.KernelFfnIdeal Cert.KernelFfnIdeal.Gen Cert.RefFfnIdeal.Read
open Idealize.ShloMosaic Idealize.ShloMosaic.TcCoe Idealize.SL.Sem

/-- The normalised and modulated row. -/
def normed (x : Fin 1024 → EReal) (g sc sh : Fin 1024 → EReal) (f : Fin 1024) : EReal :=
  x f * Ideal.rsqrt (Ideal.div (∑ k : Fin 1024, x k * x k) (Ideal.ofBits .f32 0x44800000#32) + Ideal.ofBits .f32 0x358637BD#32) * g f
    * (1 + sc f) + sh f

/-- The convolution's three taps with the bias. -/
def taps (w0 w1 w2 b u2 u1 u : EReal) : EReal := b + w0 * u2 + w1 * u1 + w2 * u

/-- The gelu, in its form with the hyperbolic tangent. -/
def gelu (g : EReal) : EReal :=
  g * (Ideal.ofBits .f32 0x3F000000#32 * (1 + Ideal.tanh (Ideal.ofBits .f32 0x3F4C422A#32 * (g + Ideal.ofBits .f32 0x3D372713#32 * (g * g * g)))))

theorem gelu_eq (g : EReal) :
    g * (Ideal.ofBits .f32 0x3F000000#32 * (1 + Ideal.tanh (Ideal.ofBits .f32 0x3F4C422A#32 * (g + Ideal.ofBits .f32 0x3D372713#32 * (g * (g * g)))))) = gelu g := by
  rw [gelu, mul_comm g (g * g)]

/-- The normalised row, scaled, gated and added to the residual. -/
def merged (x gt : EReal) (y : Fin 1024 → EReal) (g : EReal) (f : Fin 1024) : EReal :=
  x + gt * (y f * Ideal.rsqrt (Ideal.div (∑ k : Fin 1024, y k * y k) (Ideal.ofBits .f32 0x44800000#32) + Ideal.ofBits .f32 0x358637BD#32) * g)

theorem v18_at (x0 : FVec Ideal S4x4096x1024 .f32) (x1 : FVec Ideal S1024 .f32) (x2 x3 : FVec Ideal S4x1x1024 .f32) (b : Fin 4) (s : Fin 4096) (f : Fin 1024) :
    val_main_v18 (F := Ideal) x0 x1 x2 x3 (ix3 b s f)
      = normed (fun k => x0 (ix3 b s k)) (fun k => x1 (ix1 k)) (fun k => x2 (ix3 b 0 k)) (fun k => x3 (ix3 b 0 k)) f := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2]
  rfl

theorem v20_at (x0 : FVec Ideal S4x4096x1024 .f32) (x1 : FVec Ideal S1024 .f32) (x2 x3 : FVec Ideal S4x1x1024 .f32) (x6 : FVec Ideal S1024x5632 .f32)
    (b : Fin 4) (s : Fin 4096) (j : Fin 5632) :
    val_main_v20 (F := Ideal) x0 x1 x2 x3 x6 (ix3 b s j) = ∑ l : Fin 1024, val_main_v18 (F := Ideal) x0 x1 x2 x3 (ix3 b s l) * x6 (ix2 l j) := by
  pointwise [val_main_v20]

theorem v21_at (x0 : FVec Ideal S4x4096x1024 .f32) (x1 : FVec Ideal S1024 .f32) (x2 x3 : FVec Ideal S4x1x1024 .f32) (x6 : FVec Ideal S1024x5632 .f32)
    (b : Fin 4) (n : Fin 4098) (j : Fin 5632) :
    val_main_v21 (F := Ideal) x0 x1 x2 x3 x6 (ix3 b n j)
      = if h : n.val < 2 then 0 else val_main_v20 (F := Ideal) x0 x1 x2 x3 x6 (ix3 b ⟨n.val - 2, by omega⟩ j) := by
  pointwise [val_main_v21, val_main_v19, val_main_cst_3]

theorem v44_at (x0 : FVec Ideal S4x4096x1024 .f32) (x1 : FVec Ideal S1024 .f32) (x2 x3 : FVec Ideal S4x1x1024 .f32) (x6 : FVec Ideal S1024x5632 .f32)
    (x7 : FVec Ideal S3x5632 .f32) (x8 : FVec Ideal S5632 .f32) (b : Fin 4) (s : Fin 4096) (j : Fin 5632) :
    val_main_v44 (F := Ideal) x0 x1 x2 x3 x6 x7 x8 (ix3 b s j)
      = taps (x7 (ix2 0 j)) (x7 (ix2 1 j)) (x7 (ix2 2 j)) (x8 (ix1 j)) (val_main_v21 (F := Ideal) x0 x1 x2 x3 x6 (ix3 b ⟨s.val, by omega⟩ j))
        (val_main_v21 (F := Ideal) x0 x1 x2 x3 x6 (ix3 b ⟨1 + s.val, by omega⟩ j)) (val_main_v21 (F := Ideal) x0 x1 x2 x3 x6 (ix3 b ⟨2 + s.val, by omega⟩ j)) := by
  pointwise [val_main_v44, val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26, val_main_v25,
    val_main_v24, val_main_v23, val_main_v22]
  rfl

theorem v60_at (x0 : FVec Ideal S4x4096x1024 .f32) (x1 : FVec Ideal S1024 .f32) (x2 x3 : FVec Ideal S4x1x1024 .f32) (x6 : FVec Ideal S1024x5632 .f32)
    (x7 : FVec Ideal S3x5632 .f32) (x8 : FVec Ideal S5632 .f32) (b : Fin 4) (s : Fin 4096) (k : Fin 2816) :
    val_main_v60 (F := Ideal) x0 x1 x2 x3 x6 x7 x8 (ix3 b s k)
      = gelu (val_main_v44 (F := Ideal) x0 x1 x2 x3 x6 x7 x8 (ix3 b s ⟨2816 + k.val, by omega⟩))
        * val_main_v44 (F := Ideal) x0 x1 x2 x3 x6 x7 x8 (ix3 b s ⟨k.val, by omega⟩) := by
  pointwise [val_main_v60, val_main_v59, val_main_v58, val_main_v57, val_main_v56, val_main_v55, val_main_v54, val_main_v53, val_main_v52, val_main_v51,
    val_main_v50, val_main_v49, val_main_v48, val_main_v47, val_main_v46, val_main_v45, val_main_cst_4, val_main_cst_5, val_main_cst_6, val_main_cst_7]
  rfl

theorem v61_at (x0 : FVec Ideal S4x4096x1024 .f32) (x1 : FVec Ideal S1024 .f32) (x2 x3 : FVec Ideal S4x1x1024 .f32) (x6 : FVec Ideal S1024x5632 .f32)
    (x7 : FVec Ideal S3x5632 .f32) (x8 : FVec Ideal S5632 .f32) (x9 : FVec Ideal S2816x1024 .f32) (b : Fin 4) (s : Fin 4096) (f : Fin 1024) :
    val_main_v61 (F := Ideal) x0 x1 x2 x3 x6 x7 x8 x9 (ix3 b s f)
      = ∑ k : Fin 2816, val_main_v60 (F := Ideal) x0 x1 x2 x3 x6 x7 x8 (ix3 b s k) * x9 (ix2 k f) := by
  pointwise [val_main_v61]

theorem v80_at (x0 : FVec Ideal S4x4096x1024 .f32) (x1 : FVec Ideal S1024 .f32) (x2 x3 x4 : FVec Ideal S4x1x1024 .f32) (x5 : FVec Ideal S1024 .f32)
    (x6 : FVec Ideal S1024x5632 .f32) (x7 : FVec Ideal S3x5632 .f32) (x8 : FVec Ideal S5632 .f32) (x9 : FVec Ideal S2816x1024 .f32)
    (b : Fin 4) (s : Fin 4096) (f : Fin 1024) :
    val_main_v80 (F := Ideal) x0 x1 x2 x3 x4 x5 x6 x7 x8 x9 (ix3 b s f)
      = merged (x0 (ix3 b s f)) (x4 (ix3 b 0 f)) (fun k => val_main_v61 (F := Ideal) x0 x1 x2 x3 x6 x7 x8 x9 (ix3 b s k)) (x5 (ix1 f)) f := by
  pointwise [val_main_v80, val_main_v79, val_main_v78, val_main_v77, val_main_v76, val_main_v75, val_main_v74, val_main_v73, val_main_v72, val_main_v71,
    val_main_v70, val_main_v69, val_main_v68, val_main_v67, val_main_v66, val_main_v65, val_main_cst_8, val_main_cst_9, val_main_cst_10]
  rfl

theorem v64_at (x0 : FVec Ideal S4x4096x1024 .f32) (x1 : FVec Ideal S1024 .f32) (x2 x3 : FVec Ideal S4x1x1024 .f32) (x6 : FVec Ideal S1024x5632 .f32)
    (b : Fin 4) (q : Fin 8) (a : Fin 2) (j : Fin 5632) :
    val_main_v64 (F := Ideal) x0 x1 x2 x3 x6 (ix4 b q a j)
      = val_main_v21 (F := Ideal) x0 x1 x2 x3 x6 (ix3 b ⟨2 + (q.val * 512 + (510 + a.val)), by omega⟩ j) := by
  refine (val_main_v64_apply _ _ _ _ _ _).trans ?_
  refine Eq.trans (b := val_main_v62 (F := Ideal) x0 x1 x2 x3 x6 (ix3 b ⟨q.val * 512 + (510 + a.val), by omega⟩ j)) ?_ ?_
  · unfold val_main_v63
    refine shapeCast_apply _ _ _ _ ?_
    rewrite [Shape.rowMajor_val_three, Shape.rowMajor_val_four]
    show (b.val * 4096 + (q.val * 512 + (510 + a.val))) * 5632 + j.val = ((b.val * 8 + q.val) * 512 + (510 + a.val)) * 5632 + j.val
    omega
  · refine (val_main_v62_apply _ _ _ _ _ _).trans (congrArg _ (funext fun i => ?_))
    match i with
    | ⟨0, _⟩ => rfl
    | ⟨1, _⟩ => rfl
    | ⟨2, _⟩ => rfl

/-! ### One grid point -/

theorem pay3_at (x : FVec Ideal S1x512x1024 .f32) (g : FVec Ideal S1x1024 .f32) (sc sh : FVec Ideal S1x1x1024 .f32) (r : Fin 512) (f : Fin 1024) :
    k0_pay3 (F := Ideal) x g sc sh (ix2 r f) = normed (fun k => x (ix3 0 r k)) (fun k => g (ix2 0 k)) (fun k => sc (ix3 0 0 k)) (fun k => sh (ix3 0 0 k)) f := by
  pointwise [k0_pay3]
  rfl

theorem closing_at (x : FVec Ideal S1x512x1024 .f32) (gt : FVec Ideal S1x1x1024 .f32) (g : FVec Ideal S1x1024 .f32) (s : FVec Ideal S512x1024 .f32) (r : Fin 512) (f : Fin 1024) :
    closing x gt g s (ix3 0 r f) = merged (x (ix3 0 r f)) (gt (ix3 0 0 f)) (fun k => s (ix2 r k)) (g (ix2 0 f)) f := by
  pointwise [k0_pay1, k0_pay194, k0_pay195, k0_pay196]
  rfl

/-- The rows one and two before, those before the block being the kept ones. -/
def back1 (p1 : EReal) (u : Fin 512 → EReal) (r : Fin 512) : EReal := if h : r.val < 1 then p1 else u ⟨r.val - 1, by omega⟩
def back2 (p0 p1 : EReal) (u : Fin 512 → EReal) (r : Fin 512) : EReal :=
  if h : r.val < 1 then p0 else if h : r.val < 2 then p1 else u ⟨r.val - 2, by omega⟩

theorem below1 : ∀ n : Fin 8, IntOp.cmpi .slt (BitVec.ofNat 32 n.val) 1#32 = if n.val < 1 then 1#1 else 0#1 := by decide
theorem below2 : ∀ n : Fin 8, IntOp.cmpi .slt (BitVec.ofNat 32 n.val) 2#32 = if n.val < 2 then 1#1 else 0#1 := by decide

theorem pay6_at (u : FVec Ideal S512x256 .f32) (p : FVec Ideal S8x256 .f32) (r : Fin 512) (j : Fin 256) :
    k0_pay6 (F := Ideal) top u 1#32 p (ix2 r j) = back1 (p (ix2 1 j)) (fun r => u (ix2 r j)) r := by
  pointwise [k0_pay6]
  unfold back1
  by_cases h8 : r.val < 8
  · refine (dif_pos h8).trans ?_
    rw [below1 ⟨r.val, h8⟩]
    by_cases h1 : r.val < 1
    · rw [if_pos h1, dif_pos h1]; rfl
    · rw [if_neg h1, dif_neg h1]
      exact congrArg (fun q => u (ix2 q j)) (Fin.ext (by show (r.val + 512 - 1) % 512 = r.val - 1; omega))
  · refine (dif_neg h8).trans (Eq.trans ?_ (dif_neg (by omega)).symm)
    exact congrArg (fun q => u (ix2 q j)) (Fin.ext (by show (8 + (r.val - 8) + 512 - 1) % 512 = r.val - 1; omega))

theorem pay7_at (u : FVec Ideal S512x256 .f32) (p : FVec Ideal S8x256 .f32) (r : Fin 512) (j : Fin 256) :
    k0_pay7 (F := Ideal) top u p (ix2 r j) = back2 (p (ix2 0 j)) (p (ix2 1 j)) (fun r => u (ix2 r j)) r := by
  pointwise [k0_pay7]
  unfold back2
  by_cases h8 : r.val < 8
  · refine (dif_pos h8).trans ?_
    rw [below1 ⟨r.val, h8⟩, below2 ⟨r.val, h8⟩]
    by_cases h1 : r.val < 1
    · rw [if_pos h1, dif_pos h1]; rfl
    · rw [if_neg h1, dif_neg h1]
      by_cases h2 : r.val < 2
      · rw [if_pos h2, dif_pos h2]; rfl
      · rw [if_neg h2, dif_neg h2]
        exact congrArg (fun q => u (ix2 q j)) (Fin.ext (by show (r.val + 512 - 2) % 512 = r.val - 2; omega))
  · have h1 : ¬ r.val < 1 := by omega
    have h2 : ¬ r.val < 2 := by omega
    rw [dif_neg h8, dif_neg h1, dif_neg h2]
    exact congrArg (fun q => u (ix2 q j)) (Fin.ext (by show (8 + (r.val - 8) + 512 - 2) % 512 = r.val - 2; omega))

theorem pay10_at (u u1 u2 : FVec Ideal S512x256 .f32) (cw : FVec Ideal S3x256 .f32) (cb : FVec Ideal S1x256 .f32) (r : Fin 512) (j : Fin 256) :
    k0_pay10 (F := Ideal) u u1 u2 cw cb (ix2 r j)
      = taps (cw (ix2 0 j)) (cw (ix2 1 j)) (cw (ix2 2 j)) (cb (ix2 0 j)) (u2 (ix2 r j)) (u1 (ix2 r j)) (u (ix2 r j)) := by
  pointwise [k0_pay10]
  rfl

theorem pay20_at (acc : FVec Ideal S512x1024 .f32) (d : FVec Ideal S256x1024 .bf16) (h : FVec Ideal S512x256 .bf16) (r : Fin 512) (f : Fin 1024) :
    k0_pay20 (F := Ideal) acc d h (ix2 r f) = acc (ix2 r f) + ∑ l : Fin 256, h (ix2 r l) * d (ix2 l f) := by
  pointwise [k0_pay20]

theorem pay18_at (d : FVec Ideal S256x1024 .bf16) (l : Fin 256) (f : Fin 1024) : k0_pay18 (F := Ideal) d (ix2 l f) = d (ix2 l f) := by
  pointwise [k0_pay18]

theorem pay19_at (a u u1 : FVec Ideal S512x256 .f32) (x : FVec Ideal S8x256 .f32) (y : FVec Ideal S504x256 .f32)
    (cw : FVec Ideal S3x256 .f32) (cb : FVec Ideal S1x256 .f32) (r : Fin 512) (j : Fin 256) :
    k0_pay19 (F := Ideal) a u u1 x y cw cb (ix2 r j)
      = gelu (taps (cw (ix2 0 j)) (cw (ix2 1 j)) (cw (ix2 2 j)) (cb (ix2 0 j)) (if h : r.val < 8 then x (ix2 ⟨r.val, h⟩ j) else y (ix2 ⟨r.val - 8, by omega⟩ j))
          (u1 (ix2 r j)) (u (ix2 r j))) * a (ix2 r j) := by
  pointwise [k0_pay19]
  rw [← gelu_eq]
  rfl

theorem pay7_parts (h : FVec Ideal S512x1024 .bf16) (w : FVec Ideal S1024x256 .bf16) (p : FVec Ideal S8x256 .f32) (r : Fin 512) (j : Fin 256) :
    (if hr : r.val < 8 then k0_pay14 (F := Ideal) h top w p (ix2 ⟨r.val, hr⟩ j) else k0_pay15 h w (ix2 ⟨r.val - 8, by omega⟩ j)) = k0_pay7 (F := Ideal) top (k0_pay11 h w) p (ix2 r j) := by
  pointwise [k0_pay7, k0_pay14, k0_pay15, k0_pay12]

/-- The second convolution is the first's expression, and the hidden columns its gelu times the other. -/
theorem hidden_at (h : FVec Ideal S512x1024 .bf16) (a : FVec Ideal S512x256 .f32) (w : FVec Ideal S1024x256 .bf16) (p : FVec Ideal S8x256 .f32)
    (cw : FVec Ideal S3x256 .f32) (cb : FVec Ideal S1x256 .f32) (r : Fin 512) (j : Fin 256) :
    hidden h a w p cw cb (ix2 r j) = gelu (conv h w p cw cb (ix2 r j)) * a (ix2 r j) := by
  refine (pay19_at _ _ _ _ _ _ _ r j).trans ?_
  rw [pay7_parts]
  exact congrArg (fun g => gelu g * a (ix2 r j)) (pay10_at _ _ _ _ _ r j).symm

end Cert.KernelFfnIdeal.Final
-- ==== Proof.FfnSum.lean ====
/-
  The feed-forward call's sum over its eleven column chunks is one sum over the hidden columns, when the rows kept from before
  are the ones the convolution looks back at.
-/
module

public import proofs.«01_k».proof.Proof.FfnRead

@[expose] public section

set_option maxRecDepth 16384

noncomputable section

namespace Cert.KernelFfnIdeal.Final

open Cert.KernelFfnIdeal Cert.KernelFfnIdeal.Gen Cert.RefFfnIdeal.Read
open Idealize.ShloMosaic Idealize.ShloMosaic.TcCoe Idealize.SL.Sem

variable (h : FVec Ideal S512x1024 .bf16) (W : FVec Ideal S1024x5632 .bf16) (P : FVec Ideal S8x5632 .f32) (Cw : FVec Ideal S3x5632 .f32) (Cb : FVec Ideal S1x5632 .f32)
  (D : FVec Ideal S2816x1024 .bf16)

/-- The convolution at a row of the block and a column. -/
def convAt (r : Fin 512) (j : Fin 5632) : EReal :=
  taps (Cw (ix2 0 j)) (Cw (ix2 1 j)) (Cw (ix2 2 j)) (Cb (ix2 0 j)) (back2 (P (ix2 0 j)) (P (ix2 1 j)) (fun r => up h W r j) r)
    (back1 (P (ix2 1 j)) (fun r => up h W r j) r) (up h W r j)

/-- A hidden column of a row of the block. -/
def hidAt (r : Fin 512) (k : Fin 2816) : EReal :=
  gelu (convAt h W P Cw Cb r ⟨2816 + k.val, by omega⟩) * convAt h W P Cw Cb r ⟨k.val, by omega⟩

theorem conv_at (o : ℕ) (ho : o + 256 ≤ 5632) (r : Fin 512) (j : Fin 256) :
    conv h (cols (e := .bf16) W o ho) (cols (e := .f32) P o ho) (cols (e := .f32) Cw o ho) (cols (e := .f32) Cb o ho) (ix2 r j)
      = convAt h W P Cw Cb r ⟨o + j.val, by omega⟩ := by
  refine (pay10_at _ _ _ _ _ r j).trans ?_
  rw [pay6_at, pay7_at]
  simp only [up_at]
  rw [cols_at (e := .f32) Cw o ho 0 j, cols_at (e := .f32) Cw o ho 1 j, cols_at (e := .f32) Cw o ho 2 j, cols_at (e := .f32) Cb o ho 0 j,
    cols_at (e := .f32) P o ho 0 j, cols_at (e := .f32) P o ho 1 j]
  rfl

/-- A hidden column's term of the down-projection, by its number. -/
def term (r : Fin 512) (f : Fin 1024) (n : ℕ) : EReal :=
  if hn : n < 2816 then hidAt h W P Cw Cb r ⟨n, hn⟩ * D (ix2 ⟨n, hn⟩ f) else 0

theorem step_at (o : ℕ) (ho : o + 256 ≤ 2816) (acc : FVec Ideal S512x1024 .f32) (r : Fin 512) (f : Fin 1024)
    (ha : acc (ix2 r f) = ∑ n ∈ Finset.range o, term h W P Cw Cb D r f n) :
    step h W P Cw Cb D o ho acc (ix2 r f) = ∑ n ∈ Finset.range (o + 256), term h W P Cw Cb D r f n := by
  refine (pay20_at _ _ _ r f).trans ?_
  rw [ha, Finset.sum_range_add]
  refine congrArg _ (Eq.trans ?_ (Fin.sum_univ_eq_sum_range (fun x => term h W P Cw Cb D r f (o + x)) 256))
  refine Finset.sum_congr rfl fun l _ => ?_
  have hl : o + l.val < 2816 := by have := l.isLt; omega
  refine Eq.trans ?_ (dif_pos hl).symm
  refine congr (congrArg HMul.hMul ?_) ((pay18_at _ l f).trans (rows_at (e := .bf16) D o ho l f))
  refine (hidden_at _ _ _ _ _ _ r l).trans (congr (congrArg HMul.hMul (congrArg gelu ?_)) (conv_at h W P Cw Cb o (by omega) r l))
  refine (conv_at h W P Cw Cb (2816 + o) (by omega) r l).trans (congrArg _ (Fin.ext ?_))
  exact Nat.add_assoc 2816 o l.val

theorem total_at (r : Fin 512) (f : Fin 1024) :
    total h W P Cw Cb D (ix2 r f) = ∑ k : Fin 2816, hidAt h W P Cw Cb r k * D (ix2 k f) := by
  have e0 : (k0_pay4 : FVec Ideal S512x1024 .f32) (ix2 r f) = ∑ n ∈ Finset.range 0, term h W P Cw Cb D r f n := by
    rw [Finset.sum_range_zero]
    pointwise [k0_pay4]
  have e := step_at h W P Cw Cb D 2560 (by omega) _ r f (step_at h W P Cw Cb D 2304 (by omega) _ r f (step_at h W P Cw Cb D 2048 (by omega) _ r f
    (step_at h W P Cw Cb D 1792 (by omega) _ r f (step_at h W P Cw Cb D 1536 (by omega) _ r f (step_at h W P Cw Cb D 1280 (by omega) _ r f
      (step_at h W P Cw Cb D 1024 (by omega) _ r f (step_at h W P Cw Cb D 768 (by omega) _ r f (step_at h W P Cw Cb D 512 (by omega) _ r f
        (step_at h W P Cw Cb D 256 (by omega) _ r f (step_at h W P Cw Cb D 0 (by omega) _ r f e0))))))))))
  refine e.trans ((Fin.sum_univ_eq_sum_range (term h W P Cw Cb D r f) 2816).symm.trans (Finset.sum_congr rfl fun k _ => ?_))
  exact dif_pos k.isLt

end Cert.KernelFfnIdeal.Final
-- ==== Proof.FfnValue.lean ====
/-
  The feed-forward call: its two result arrays are the reference's results.
-/
module

public import proofs.«01_k».proof.Proof.FfnSum

@[expose] public section

set_option maxRecDepth 16384

noncomputable section

namespace Cert.KernelFfnIdeal.Final

open Cert.KernelFfnIdeal Cert.KernelFfnIdeal.Gen Cert.RefFfnIdeal.Read
open Idealize.ShloMosaic Idealize.ShloMosaic.TcCoe Idealize.SL.Sem
open Idealize.ShloMosaic.Pipeline (Dat)

theorem idx : ∀ t : Fin cfg0.N, win0_0.index t = ![t.val / 8, t.val % 8, 0] ∧ win0_1.index t = ![0, 0]
    ∧ win0_2.index t = ![t.val / 8, 0, 0] ∧ win0_3.index t = ![t.val / 8, 0, 0] ∧ win0_4.index t = ![t.val / 8, 0, 0] ∧ win0_5.index t = ![0, 0]
    ∧ win0_6.index t = ![0, 0] ∧ win0_7.index t = ![0, 0] ∧ win0_8.index t = ![0, 0] ∧ win0_9.index t = ![0, 0]
    ∧ win0_10.index t = ![t.val / 8, t.val % 8, 0] ∧ win0_11.index t = ![t.val / 8, t.val % 8, 0, 0] ∧ t.val < 32 :=
  (by decide +kernel : ∀ t : Fin grid0.N, _)

variable (m : (ℓ : Loc nD τ sig) → Buf (Elt Ideal) ℓ)

/-- The call's arguments on device `c`. -/
abbrev X (c : Dev nD) : FVec Ideal S4x4096x1024 .f32 := m ((c : Thread nD τ).loc main_arg0)
abbrev G (c : Dev nD) : FVec Ideal S1024 .f32 := m ((c : Thread nD τ).loc main_arg1)
abbrev Sc (c : Dev nD) : FVec Ideal S4x1x1024 .f32 := m ((c : Thread nD τ).loc main_arg2)
abbrev Sh (c : Dev nD) : FVec Ideal S4x1x1024 .f32 := m ((c : Thread nD τ).loc main_arg3)
abbrev Gt (c : Dev nD) : FVec Ideal S4x1x1024 .f32 := m ((c : Thread nD τ).loc main_arg4)
abbrev Gp (c : Dev nD) : FVec Ideal S1024 .f32 := m ((c : Thread nD τ).loc main_arg5)
abbrev Wu (c : Dev nD) : FVec Ideal S1024x5632 .f32 := m ((c : Thread nD τ).loc main_arg6)
abbrev Cw (c : Dev nD) : FVec Ideal S3x5632 .f32 := m ((c : Thread nD τ).loc main_arg7)
abbrev Cb (c : Dev nD) : FVec Ideal S5632 .f32 := m ((c : Thread nD τ).loc main_arg8)
abbrev Wd (c : Dev nD) : FVec Ideal S2816x1024 .f32 := m ((c : Thread nD τ).loc main_arg9)

variable (c : Dev nD) (t : Fin cfg0.N)

/-- The batch of a grid point and the position its block's row stands for. -/
def bt : Fin 4 := ⟨t.val / 8, by have := (idx t).2.2.2.2.2.2.2.2.2.2.2.2; omega⟩
def pos (r : Fin 512) : Fin 4096 := ⟨t.val % 8 * 512 + r.val, by omega⟩

theorem read0 (r : Fin 512) (f : Fin 1024) : (iblk m c 0 t : FVec Ideal S1x512x1024 .f32) (ix3 0 r f) = X m c (ix3 (bt t) (pos t r) f) := by
  blk_ext [iblk, V, idx t, bt, pos]
theorem read1 (f : Fin 1024) : (iblk m c 1 t : FVec Ideal S1x1024 .f32) (ix2 0 f) = G m c (ix1 f) := by
  blk_simp [iblk]; entry_read; pointwise; blk_ext [idx t]
theorem read2 (f : Fin 1024) : (iblk m c 2 t : FVec Ideal S1x1x1024 .f32) (ix3 0 0 f) = Sc m c (ix3 (bt t) 0 f) := by
  blk_ext [iblk, V, idx t, bt]
theorem read3 (f : Fin 1024) : (iblk m c 3 t : FVec Ideal S1x1x1024 .f32) (ix3 0 0 f) = Sh m c (ix3 (bt t) 0 f) := by
  blk_ext [iblk, V, idx t, bt]
theorem read4 (f : Fin 1024) : (iblk m c 4 t : FVec Ideal S1x1x1024 .f32) (ix3 0 0 f) = Gt m c (ix3 (bt t) 0 f) := by
  blk_ext [iblk, V, idx t, bt]
theorem read5 (f : Fin 1024) : (iblk m c 5 t : FVec Ideal S1x1024 .f32) (ix2 0 f) = Gp m c (ix1 f) := by
  blk_simp [iblk]; entry_read; pointwise; blk_ext [idx t]
theorem read6 (l : Fin 1024) (j : Fin 5632) : (iblk m c 6 t : FVec Ideal S1024x5632 .bf16) (ix2 l j) = Wu m c (ix2 l j) := by
  blk_simp [iblk]; entry_read; pointwise; blk_ext [idx t]
theorem read7 (a : Fin 3) (j : Fin 5632) : (iblk m c 7 t : FVec Ideal S3x5632 .f32) (ix2 a j) = Cw m c (ix2 a j) := by
  blk_ext [iblk, V, idx t]
theorem read8 (j : Fin 5632) : (iblk m c 8 t : FVec Ideal S1x5632 .f32) (ix2 0 j) = Cb m c (ix1 j) := by
  blk_simp [iblk]; entry_read; pointwise; blk_ext [idx t]
theorem read9 (k : Fin 2816) (f : Fin 1024) : (iblk m c 9 t : FVec Ideal S2816x1024 .bf16) (ix2 k f) = Wd m c (ix2 k f) := by
  blk_simp [iblk]; entry_read; pointwise; blk_ext [idx t]

/-- The reference's up-projection of a position, and the same after two zero rows. -/
abbrev U (b : Fin 4) (s : Fin 4096) (j : Fin 5632) : EReal := val_main_v20 (F := Ideal) (X m c) (G m c) (Sc m c) (Sh m c) (Wu m c) (ix3 b s j)
abbrev Joined (b : Fin 4) (n : Fin 4098) (j : Fin 5632) : EReal := val_main_v21 (F := Ideal) (X m c) (G m c) (Sc m c) (Sh m c) (Wu m c) (ix3 b n j)

theorem up_hb (r : Fin 512) (j : Fin 5632) : up (hb m c t) (iblk m c 6 t) r j = U m c (bt t) (pos t r) j := by
  unfold up
  refine Eq.trans ?_ (v20_at _ _ _ _ _ _ _ _).symm
  refine Finset.sum_congr rfl fun l _ => ?_
  rw [read6]
  refine congrArg (· * Wu m c (ix2 l j)) ((pay3_at _ _ _ _ r l).trans (Eq.trans ?_ (v18_at _ _ _ _ _ _ l).symm))
  simp only [read0, read1, read2, read3]

/-- What the kept rows hold when a grid point starts: the two rows before its block, zero before the first. -/
def Before (P : FVec Ideal S8x5632 .f32) : Prop :=
  ∀ (a : Fin 8) (ha : a.val < 2) (j : Fin 5632), P (ix2 a j) = Joined m c (bt t) ⟨t.val % 8 * 512 + a.val, by omega⟩ j

theorem before_A (h : t.val % 8 = 0) : Before m c t k0_pay2 := by
  intro a ha j
  refine Eq.trans ?_ (v21_at _ _ _ _ _ _ _ _).symm
  refine Eq.trans ?_ (dif_pos (by show t.val % 8 * 512 + a.val < 2; omega)).symm
  pointwise [k0_pay2]

theorem kept (a : Fin 8) (ha : a.val < 2) (j : Fin 5632) :
    (outsAt0 m c t.val t.isLt).2.2 (ix2 a j) = U m c (bt t) (pos t ⟨510 + a.val, by omega⟩) j := by
  have e : (outsAt0 m c t.val t.isLt).2.2 (ix2 a j) = keep (hb m c t) (iblk m c 6 t) (ix2 a j) := by
    by_cases h : t.val % 8 = 0
    · exact kept_A m c t h a ha j
    · exact kept_B m c t h a ha j
  refine e.trans ((dif_pos ha).trans ?_)
  exact up_hb m c t _ j

theorem before_B (h : ¬ t.val % 8 = 0) : Before m c t (outsAt0 m c (t.val - 1) (Nat.lt_of_le_of_lt (Nat.sub_le _ _) t.isLt)).2.2 := by
  intro a ha j
  refine (kept m c ⟨t.val - 1, Nat.lt_of_le_of_lt (Nat.sub_le _ _) t.isLt⟩ a ha j).trans ?_
  have hn : ¬ (t.val % 8 * 512 + a.val) < 2 := by omega
  refine Eq.trans ?_ ((v21_at _ _ _ _ _ _ _ _).trans (dif_neg hn)).symm
  refine congr (congr (congrArg (U m c) (Fin.ext ?_)) (Fin.ext ?_)) rfl
  · show (t.val - 1) / 8 = t.val / 8; omega
  · show (t.val - 1) % 8 * 512 + (510 + a.val) = t.val % 8 * 512 + a.val - 2; omega

theorem convAt_eq (P : FVec Ideal S8x5632 .f32) (hP : Before m c t P) (r : Fin 512) (j : Fin 5632) :
    convAt (hb m c t) (iblk m c 6 t) P (iblk m c 7 t) (iblk m c 8 t) r j
      = val_main_v44 (F := Ideal) (X m c) (G m c) (Sc m c) (Sh m c) (Wu m c) (Cw m c) (Cb m c) (ix3 (bt t) (pos t r) j) := by
  rw [v44_at]
  unfold convAt
  rw [read7, read7, read7, read8, hP 0 (by decide) j, hP 1 (by decide) j]
  simp only [up_hb]
  have e2 : back2 (Joined m c (bt t) ⟨t.val % 8 * 512 + (0 : Fin 8).val, by omega⟩ j) (Joined m c (bt t) ⟨t.val % 8 * 512 + (1 : Fin 8).val, by omega⟩ j)
      (fun r => U m c (bt t) (pos t r) j) r = Joined m c (bt t) ⟨(pos t r).val, by omega⟩ j := by
    unfold back2
    by_cases h1 : r.val < 1
    · refine (dif_pos h1).trans (congrArg (fun n => Joined m c (bt t) n j) (Fin.ext ?_))
      show t.val % 8 * 512 + 0 = t.val % 8 * 512 + r.val; omega
    by_cases h2 : r.val < 2
    · refine (dif_neg h1).trans ((dif_pos h2).trans (congrArg (fun n => Joined m c (bt t) n j) (Fin.ext ?_)))
      show t.val % 8 * 512 + 1 = t.val % 8 * 512 + r.val; omega
    refine (dif_neg h1).trans ((dif_neg h2).trans ?_)
    have hn : ¬ (pos t r).val < 2 := by show ¬ t.val % 8 * 512 + r.val < 2; omega
    refine Eq.trans (congrArg (fun s => U m c (bt t) s j) (Fin.ext ?_)) ((v21_at _ _ _ _ _ _ _ _).trans (dif_neg hn)).symm
    show t.val % 8 * 512 + (r.val - 2) = t.val % 8 * 512 + r.val - 2; omega
  have e1 : back1 (Joined m c (bt t) ⟨t.val % 8 * 512 + (1 : Fin 8).val, by omega⟩ j) (fun r => U m c (bt t) (pos t r) j) r
      = Joined m c (bt t) ⟨1 + (pos t r).val, by omega⟩ j := by
    unfold back1
    by_cases h1 : r.val < 1
    · refine (dif_pos h1).trans (congrArg (fun n => Joined m c (bt t) n j) (Fin.ext ?_))
      show t.val % 8 * 512 + 1 = 1 + (t.val % 8 * 512 + r.val); omega
    refine (dif_neg h1).trans ?_
    have hn : ¬ 1 + (pos t r).val < 2 := by show ¬ 1 + (t.val % 8 * 512 + r.val) < 2; omega
    refine Eq.trans (congrArg (fun s => U m c (bt t) s j) (Fin.ext ?_)) ((v21_at _ _ _ _ _ _ _ _).trans (dif_neg hn)).symm
    show t.val % 8 * 512 + (r.val - 1) = 1 + (t.val % 8 * 512 + r.val) - 2; omega
  have e0 : U m c (bt t) (pos t r) j = Joined m c (bt t) ⟨2 + (pos t r).val, by omega⟩ j := by
    have hn : ¬ 2 + (pos t r).val < 2 := by omega
    refine Eq.trans (congrArg (fun s => U m c (bt t) s j) (Fin.ext ?_)) ((v21_at _ _ _ _ _ _ _ _).trans (dif_neg hn)).symm
    show (pos t r).val = 2 + (pos t r).val - 2; omega
  exact congr (congr (congrArg (taps _ _ _ _) e2) e1) e0

theorem total_eq (P : FVec Ideal S8x5632 .f32) (hP : Before m c t P) (r : Fin 512) (f : Fin 1024) :
    total (hb m c t) (iblk m c 6 t) P (iblk m c 7 t) (iblk m c 8 t) (iblk m c 9 t) (ix2 r f)
      = val_main_v61 (F := Ideal) (X m c) (G m c) (Sc m c) (Sh m c) (Wu m c) (Cw m c) (Cb m c) (Wd m c) (ix3 (bt t) (pos t r) f) := by
  rw [total_at, v61_at]
  refine Finset.sum_congr rfl fun k _ => ?_
  rw [read9, v60_at]
  unfold hidAt
  rw [convAt_eq m c t P hP, convAt_eq m c t P hP]

theorem closed (P : FVec Ideal S8x5632 .f32) (hP : Before m c t P) (r : Fin 512) (f : Fin 1024) :
    closing (iblk m c 0 t) (iblk m c 4 t) (iblk m c 5 t) (total (hb m c t) (iblk m c 6 t) P (iblk m c 7 t) (iblk m c 8 t) (iblk m c 9 t)) (ix3 0 r f)
      = val_main_v80 (F := Ideal) (X m c) (G m c) (Sc m c) (Sh m c) (Gt m c) (Gp m c) (Wu m c) (Cw m c) (Cb m c) (Wd m c) (ix3 (bt t) (pos t r) f) := by
  refine (closing_at _ _ _ _ r f).trans ?_
  rw [v80_at, read0, read4, read5]
  exact congrArg (fun y => merged _ _ y _ f) (funext fun k => total_eq m c t P hP r k)

/-- What a grid point leaves in its block of the result. -/
theorem point (r : Fin 512) (f : Fin 1024) : (outsAt0 m c t.val t.isLt).1 (ix3 0 r f)
    = val_main_v80 (F := Ideal) (X m c) (G m c) (Sc m c) (Sh m c) (Gt m c) (Gp m c) (Wu m c) (Cw m c) (Cb m c) (Wd m c) (ix3 (bt t) (pos t r) f) := by
  by_cases h : t.val % 8 = 0
  · exact (congrFun (out_A m c t h) _).trans (closed m c t _ (before_A m c t h) r f)
  · exact (congrFun (out_B m c t h) _).trans (closed m c t _ (before_B m c t h) r f)

/-- What a grid point leaves in its block of tails. -/
theorem tail_point (a : Fin 2) (j : Fin 5632) : (outsAt0 m c t.val t.isLt).2.1 (ix4 0 0 a j)
    = val_main_v64 (F := Ideal) (X m c) (G m c) (Sc m c) (Sh m c) (Wu m c) (ix4 (bt t) ⟨t.val % 8, Nat.mod_lt _ (by decide)⟩ a j) := by
  have e : (outsAt0 m c t.val t.isLt).2.1 (ix4 0 0 a j) = tails (hb m c t) (iblk m c 6 t) (ix4 0 0 a j) := by
    by_cases h : t.val % 8 = 0
    · exact tail_A m c t h _
    · exact tail_B m c t h _
  have e' : tails (hb m c t) (iblk m c 6 t) (ix4 0 0 a j) = U m c (bt t) (pos t ⟨510 + a.val, by omega⟩) j := up_hb m c t _ j
  have hn : ¬ 2 + (t.val % 8 * 512 + (510 + a.val)) < 2 := by omega
  rw [e, e', v64_at, v21_at, dif_neg hn]
  refine congrArg (fun s => U m c (bt t) s j) (Fin.ext ?_)
  show t.val % 8 * 512 + (510 + a.val) = 2 + (t.val % 8 * 512 + (510 + a.val)) - 2; omega

/-- The two result arrays after the run. -/
theorem final : (dats m 0 c).arrAt 10 (cfgs 0).N
    = val_main_v80 (F := Ideal) (X m c) (G m c) (Sc m c) (Sh m c) (Gt m c) (Gp m c) (Wu m c) (Cw m c) (Cb m c) (Wd m c) := by
  refine (dats m 0 c).arrAt_eq_of_covers 10 _ (by decide +kernel) fun t _ y => ?_
  blk_simp
  rw [after0_10]
  obtain ⟨a, r, f, rfl⟩ : ∃ (a : Fin 1) (r : Fin 512) (f : Fin 1024), y = ix3 a r f := ⟨y 0, y 1, y 2, ix3_of y⟩
  obtain rfl : a = 0 := Subsingleton.elim _ _
  refine (point m c t r f).trans (congrArg _ ?_)
  blk_ext [idx t, bt, pos]

theorem final_tail : (dats m 0 c).arrAt 11 (cfgs 0).N
    = val_main_v64 (F := Ideal) (X m c) (G m c) (Sc m c) (Sh m c) (Wu m c) := by
  refine (dats m 0 c).arrAt_eq_of_covers 11 _ (by decide +kernel) fun t _ y => ?_
  blk_simp
  rw [after0_11]
  obtain ⟨a₁, a₂, a, j, rfl⟩ : ∃ (a₁ a₂ : Fin 1) (a : Fin 2) (j : Fin 5632), y = ix4 a₁ a₂ a j := ⟨y 0, y 1, y 2, y 3, ix4_of y⟩
  obtain rfl : a₁ = 0 := Subsingleton.elim _ _
  obtain rfl : a₂ = 0 := Subsingleton.elim _ _
  refine (tail_point m c t a j).trans (congrArg _ ?_)
  blk_ext [idx t, bt]

end Cert.KernelFfnIdeal.Final
-- ==== Proof.AlgFfn.lean ====
/-
  The claims about the feed-forward call's reference and kernel.
-/
module

public import proofs.«01_k».proof.Defs
public import proofs.«01_k».proof.Proof.FfnValue
public import proofs.«01_k».proof.Proof.Gen.RefFfnIdeal.Run
public import Idealize.ShloMosaic.Lib.Claim
public import Idealize.ShloMosaic.Lib.Quiescent

@[expose] public section

noncomputable section

namespace Cert.AlgFfn

open Idealize.ShloMosaic Idealize.ShloMosaic.TcCoe Idealize.SL.Sem
open Cert.KernelFfnIdeal Cert.KernelFfnIdeal.Final Cert.RefFfnIdeal.Read

/-- The reference terminates, leaves its arguments unchanged and no semaphore raised. -/
theorem reference_frame : Cert.quiescent_RefFfnIdeal (hRefFfnIdeal := Cert.RefFfnIdeal.Gen.facts) := by
  intro m g _
  exact (θ_run _ _ _).mono (fun r h => ⟨fun c => (h c).2.2, sem_eq_zero_of_no_sems rfl _⟩) (Cert.RefFfnIdeal.Value.run m g)

theorem algebraic : Cert.algebraic_KernelFfnIdeal_RefFfnIdeal (hKernelFfnIdeal := Cert.KernelFfnIdeal.Gen.facts)
    (hRefFfnIdeal := Cert.RefFfnIdeal.Gen.facts) := by
  intro m g m' g' _ hagree
  refine ⟨fun c => val_main_v80 (F := Ideal) (X m c) (G m c) (Sc m c) (Sh m c) (Gt m c) (Gp m c) (Wu m c) (Cw m c) (Cb m c) (Wd m c),
    fun c => val_main_v64 (F := Ideal) (X m c) (G m c) (Sc m c) (Sh m c) (Wu m c), ?_, ?_⟩
  · refine (θ_run _ _ _).mono (fun r h c => ?_) (Cert.KernelFfnIdeal.Value.run_blocks m g)
    obtain ⟨h0, h1, hargs⟩ := h c
    exact ⟨h0.trans (Final.final m c), h1.trans (Final.final_tail m c), hargs⟩
  · refine (θ_run _ _ _).mono (fun r h c => ?_) (Cert.RefFfnIdeal.Value.run m' g')
    obtain ⟨h0, h1, hargs⟩ := h c
    obtain ⟨e0, e1, e2, e3, e4, e5, e6, e7, e8, e9⟩ := hagree c
    have k0 := h0.trans (val_main_v80_eq (F := Ideal) (StableHlo.launchContents m' c))
    have k1 := h1.trans (val_main_v64_eq (F := Ideal) (StableHlo.launchContents m' c))
    exact ⟨k0.trans (congr (congr (congr (congr (congr (congr (congr (congr (congr (congrArg (val_main_v80 (F := Ideal)) e0) e1) e2) e3) e4) e5) e6) e7) e8) e9),
      k1.trans (congr (congr (congr (congr (congrArg (val_main_v64 (F := Ideal)) e0) e1) e2) e3) e6), hargs⟩

end Cert.AlgFfn
-- ==== Proof.Rotation.lean ====
/-
  One head's rotation of its first sixteen elements, by pairs (d, d + 8), and its form as three products with table rows.
-/
module

public import Idealize.ShloMosaic.Lib.Claim
public import Idealize.ShloMosaic.Lib.Pipeline.ValueKit

@[expose] public section

noncomputable section

namespace Cert.Rotation

open Idealize.ShloMosaic

/-- Element `d` of the rotated head `x`, with cosines `c` and sines `s`. -/
def head (x : Fin 64 → EReal) (c s : Fin 8 → EReal) (d : Fin 64) : EReal :=
  if h : d.val < 8 then x d * c ⟨d.val, h⟩ - x ⟨8 + d.val, by omega⟩ * s ⟨d.val, h⟩
  else if h' : d.val - 8 < 8 then x ⟨8 + (d.val - 8), by omega⟩ * c ⟨d.val - 8, h'⟩ + x ⟨d.val - 8, by omega⟩ * s ⟨d.val - 8, h'⟩
  else x ⟨16 + (d.val - 8 - 8), by omega⟩

/-- A table row over one head: `u` on the first eight, `v` on the next eight, `w` on the rest. -/
def row (u v : Fin 8 → EReal) (w : EReal) (d : Fin 64) : EReal :=
  if h : d.val < 8 then u ⟨d.val, h⟩ else if h' : d.val - 8 < 8 then v ⟨d.val - 8, h'⟩ else w

/-- The rotation as products of the head, of the element eight before and of the element eight after with table rows. -/
theorem head_sum (x : Fin 64 → EReal) (c s : Fin 8 → EReal) (d : Fin 64) {y l r tc tl tr : EReal} (hy : y = x d)
    (htc : tc = row c c 1 d) (htl : tl = row (fun _ => 0) s 0 d) (htr : tr = row (fun k => -s k) (fun _ => 0) 0 d)
    (hl : ∀ _ : 8 ≤ d.val, l = x ⟨d.val - 8, by omega⟩) (hr : ∀ h : d.val < 8, r = x ⟨8 + d.val, by omega⟩) :
    y * tc + l * tl + r * tr = head x c s d := by
  subst hy htc htl htr
  unfold head row
  by_cases h : d.val < 8
  · simp only [dif_pos h, mul_zero, add_zero, hr h, mul_neg]
    rfl
  · by_cases h' : d.val - 8 < 8
    · have e : (⟨8 + (d.val - 8), by omega⟩ : Fin 64) = d := Fin.ext (by dsimp only; omega)
      simp only [dif_neg h, dif_pos h', mul_zero, add_zero, hl (by omega), e]
    · have e : (⟨16 + (d.val - 8 - 8), by omega⟩ : Fin 64) = d := Fin.ext (by dsimp only; omega)
      simp only [dif_neg h, dif_neg h', mul_zero, add_zero, mul_one, e]

/-- A chain of cases all of which are `v` is `v`. -/
theorem cases_eq {p : Prop} [Decidable p] {f : p → EReal} {g : ¬p → EReal} {v : EReal} (hf : ∀ h, f h = v) (hg : ∀ h, g h = v) :
    dite p f g = v := by
  by_cases h : p
  · rw [dif_pos h, hf]
  · rw [dif_neg h, hg]

/-- A table of 128 columns that repeats one head's row reads that row at any column of the same remainder. -/
theorem col_eq (T : Fin 128 → EReal) (g : Fin 64 → EReal) (hT : ∀ (a : Fin 2) (d : Fin 64), T ⟨64 * a.val + d.val, by omega⟩ = g d)
    (d : Fin 64) (n : Fin 128) (e : n.val % 64 = d.val) : T n = g d := by
  rw [← hT ⟨n.val / 64, by omega⟩ d]
  exact congrArg T (Fin.ext (by dsimp only; omega))

end Cert.Rotation
-- ==== Proof.RopeBody.lean ====
/-
  The rotation call's body, read at an index.
-/
module

public import proofs.«01_k».proof.Proof.Rotation
public import proofs.«01_k».proof.Proof.Gen.KernelRopeIdeal.Value
public import Idealize.ShloMosaic.Lib.Claim
public import Idealize.ShloMosaic.Lib.Pipeline.ValueKit

@[expose] public section

set_option maxRecDepth 16384

noncomputable section

namespace Cert.RopeBody

open Cert.KernelRopeIdeal Cert.KernelRopeIdeal.Gen Cert.Rotation
open Idealize.ShloMosaic Idealize.ShloMosaic.TcCoe Idealize.SL.Sem

/-- A table block whose row `r` repeats `row (u r) (v r) w` every 64 columns. -/
abbrev Repeats (x : FVec Ideal S512x128 .f32) (r : Fin 512) (u v : Fin 8 → EReal) (w : EReal) : Prop :=
  ∀ (a : Fin 2) (d : Fin 64), x (ix2 r ⟨64 * a.val + d.val, by omega⟩) = row u v w d

variable {x0 x2 x4 : FVec Ideal S512x128 .f32} {r : Fin 512} {c s : Fin 8 → EReal}

/-- The queries. -/
theorem pay9_at (h0 : Repeats x0 r c c 1) (h2 : Repeats x2 r (fun _ => 0) s 0) (h4 : Repeats x4 r (fun k => -s k) (fun _ => 0) 0)
    (x6 : FVec Ideal S1x512x1024 .f32) (h : Fin 16) (d : Fin 64) :
    k0_pay9 (F := Ideal) x0 x2 x4 x6 (ix3 0 r ⟨64 * h.val + d.val, by omega⟩)
      = head (fun k => x6 (ix3 0 r ⟨64 * h.val + k.val, by omega⟩)) c s d := by
  pointwise [k0_pay9, k0_pay6, k0_pay7, k0_pay8]
  refine head_sum _ c s d rfl ?_ ?_ ?_ (fun e => congrArg x6 (congrArg (ix3 0 r) (Fin.ext ?_))) (fun e => congrArg x6 (congrArg (ix3 0 r) (Fin.ext ?_)))
  · repeat' first
      | exact col_eq (fun n => x0 (ix2 r n)) _ h0 d _ (by dsimp only; omega)
      | refine cases_eq (fun _ => ?_) (fun _ => ?_)
  · repeat' first
      | exact col_eq (fun n => x2 (ix2 r n)) _ h2 d _ (by dsimp only; omega)
      | refine cases_eq (fun _ => ?_) (fun _ => ?_)
  · repeat' first
      | exact col_eq (fun n => x4 (ix2 r n)) _ h4 d _ (by dsimp only; omega)
      | refine cases_eq (fun _ => ?_) (fun _ => ?_)
  · dsimp only; omega
  · dsimp only; omega

/-- One branch's keys. -/
theorem pay10_key (h0 : Repeats x0 r c c 1) (h2 : Repeats x2 r (fun _ => 0) s 0) (h4 : Repeats x4 r (fun k => -s k) (fun _ => 0) 0)
    (x6 : FVec Ideal S1x512x512 .f32) (g : Fin 4) (d : Fin 64) :
    k0_pay10 (F := Ideal) x0 x2 x4 x6 (ix2 r ⟨64 * g.val + d.val, by omega⟩)
      = head (fun k => x6 (ix3 0 r ⟨64 * g.val + k.val, by omega⟩)) c s d := by
  pointwise [k0_pay10, k0_pay6, k0_pay7, k0_pay8]
  refine (dif_pos (by omega)).trans ?_
  refine head_sum _ c s d rfl ?_ ?_ ?_ (fun e => congrArg x6 (congrArg (ix3 0 r) (Fin.ext ?_))) (fun e => congrArg x6 (congrArg (ix3 0 r) (Fin.ext ?_)))
  · repeat' first
      | exact col_eq (fun n => x0 (ix2 r n)) _ h0 d _ (by dsimp only; omega)
      | refine cases_eq (fun _ => ?_) (fun _ => ?_)
  · repeat' first
      | exact col_eq (fun n => x2 (ix2 r n)) _ h2 d _ (by dsimp only; omega)
      | refine cases_eq (fun _ => ?_) (fun _ => ?_)
  · repeat' first
      | exact col_eq (fun n => x4 (ix2 r n)) _ h4 d _ (by dsimp only; omega)
      | refine cases_eq (fun _ => ?_) (fun _ => ?_)
  · dsimp only; omega
  · dsimp only; omega

/-- One branch's values. -/
theorem pay10_value (x0 x2 x4 : FVec Ideal S512x128 .f32) (x6 : FVec Ideal S1x512x512 .f32) (r : Fin 512) (g : Fin 4) (d : Fin 64) :
    k0_pay10 (F := Ideal) x0 x2 x4 x6 (ix2 r ⟨256 + (64 * g.val + d.val), by omega⟩) = x6 (ix3 0 r ⟨256 + (64 * g.val + d.val), by omega⟩) := by
  pointwise [k0_pay10, k0_pay6, k0_pay7, k0_pay8]

/-- The other branches' blocks are computed alike. -/
theorem pay12_eq (x0 x2 x4 : FVec Ideal S512x128 .f32) (x6 : FVec Ideal S1x512x512 .f32) :
    k0_pay12 (F := Ideal) (k0_pay6 x0) (k0_pay7 x2) (k0_pay8 x4) x6 = k0_pay10 x0 x2 x4 x6 := rfl
theorem pay14_eq (x0 x2 x4 : FVec Ideal S512x128 .f32) (x6 : FVec Ideal S1x512x512 .f32) :
    k0_pay14 (F := Ideal) (k0_pay6 x0) (k0_pay7 x2) (k0_pay8 x4) x6 = k0_pay10 x0 x2 x4 x6 := rfl

theorem pay11_at (x : FVec Ideal S512x512 .f32) (r f : Fin 512) : k0_pay11 (F := Ideal) x (ix3 0 r f) = x (ix2 r f) := by
  pointwise [k0_pay11]
theorem pay13_at (x0 x2 x4 : FVec Ideal S512x128 .f32) (x6 : FVec Ideal S1x512x512 .f32) (r f : Fin 512) :
    k0_pay13 (F := Ideal) x0 x2 x4 x6 (ix3 0 r f) = k0_pay12 x0 x2 x4 x6 (ix2 r f) := by
  pointwise [k0_pay13]
theorem pay15_at (x0 x2 x4 : FVec Ideal S512x128 .f32) (x6 : FVec Ideal S1x512x512 .f32) (r f : Fin 512) :
    k0_pay15 (F := Ideal) x0 x2 x4 x6 (ix3 0 r f) = k0_pay14 x0 x2 x4 x6 (ix2 r f) := by
  pointwise [k0_pay15]
theorem pay2_at (x : FVec Ideal S512x512 .f32) (r : Fin 512) (f : Fin 256) : k0_pay2 (F := Ideal) x (ix3 0 r f) = x (ix2 r ⟨f.val, by omega⟩) := by
  pointwise [k0_pay2]
theorem pay4_at (x : FVec Ideal S512x512 .f32) (r : Fin 512) (f : Fin 256) : k0_pay4 (F := Ideal) x (ix3 0 r f) = x (ix2 r ⟨f.val, by omega⟩) := by
  pointwise [k0_pay4]

/-- The transposed values, sixteen rows of ones after each head. -/
theorem pay3_at (x : FVec Ideal S512x512 .f32) (o : EReal) (r : Fin 512) (g : Fin 4) (e : Fin 80) :
    k0_pay3 (F := Ideal) x o (ix3 0 ⟨80 * g.val + e.val, by omega⟩ r)
      = if h : e.val < 64 then x (ix2 r ⟨256 + (64 * g.val + e.val), by omega⟩) else o := by
  pointwise [k0_pay3, k0_pay1]
  by_cases h : e.val < 64
  · refine Eq.trans ?_ (dif_pos h).symm
    repeat' first
      | refine cases_eq (fun _ => ?_) (fun _ => ?_)
      | exact congrArg x (congrArg (ix2 r) (Fin.ext (by dsimp only; omega)))
      | (exfalso; omega)
  · refine Eq.trans ?_ (dif_neg h).symm
    repeat' first
      | refine cases_eq (fun _ => ?_) (fun _ => ?_)
      | rfl
      | (exfalso; omega)
theorem pay5_eq (x : FVec Ideal S512x512 .f32) (o : EReal) : k0_pay5 (F := Ideal) x o = k0_pay3 (F := Ideal) x o := rfl

end Cert.RopeBody
-- ==== Proof.Reshape.lean ====
/-
  The reshapes between rows, heads and key-value arrays, read at an index, for `B` sequences of `T` rows.
-/
module

public import Idealize.ShloMosaic.Lib.Claim
public import Idealize.ShloMosaic.Lib.Pipeline.ValueKit

@[expose] public section

noncomputable section

namespace Cert.Reshape

open Idealize.ShloMosaic Idealize.ShloMosaic.TcCoe Idealize.SL.Sem

variable {B T B' T' : ℕ}

/-- A row of 1024 as sixteen heads. -/
theorem heads_at (x : FVec Ideal ⟨3, ![B, T, 1024]⟩ .f32) (w : Shape.ShapeCasts ⟨3, ![B, T, 1024]⟩ ⟨4, ![B, T, 16, 64]⟩) (b : Fin B) (s : Fin T)
    (h : Fin 16) (d : Fin 64) : shapeCast ⟨4, ![B, T, 16, 64]⟩ x w (ix4 b s h d) = x (ix3 b s ⟨64 * h.val + d.val, by omega⟩) := by
  refine shapeCast_apply x w (ix4 b s h d) (ix3 b s ⟨64 * h.val + d.val, by omega⟩) ?_
  rewrite [Shape.rowMajor_val_three, Shape.rowMajor_val_four]
  show (b.val * T + s.val) * 1024 + (64 * h.val + d.val) = ((b.val * T + s.val) * 16 + h.val) * 64 + d.val
  omega

/-- Sixteen heads as a row of 1024, the rows laid out anew. -/
theorem row_of_heads (x : FVec Ideal ⟨4, ![B, T, 16, 64]⟩ .f32) (w : Shape.ShapeCasts ⟨4, ![B, T, 16, 64]⟩ ⟨3, ![B', T', 1024]⟩) (b : Fin B) (s : Fin T)
    (b' : Fin B') (s' : Fin T') (e : b'.val * T' + s'.val = b.val * T + s.val) (h : Fin 16) (d : Fin 64) :
    shapeCast ⟨3, ![B', T', 1024]⟩ x w (ix3 b' s' ⟨64 * h.val + d.val, by omega⟩) = x (ix4 b s h d) := by
  refine shapeCast_apply x w (ix3 b' s' ⟨64 * h.val + d.val, by omega⟩) (ix4 b s h d) ?_
  rewrite [Shape.rowMajor_val_three, Shape.rowMajor_val_four]
  show ((b.val * T + s.val) * 16 + h.val) * 64 + d.val = (b'.val * T' + s'.val) * 1024 + (64 * h.val + d.val)
  omega

/-- The rows of the three key-value arrays: a branch, keys or values, a head, an element. -/
theorem parts_at (x : FVec Ideal ⟨3, ![B, T, 1536]⟩ .f32) (w : Shape.ShapeCasts ⟨3, ![B, T, 1536]⟩ ⟨6, ![B, T, 3, 2, 4, 64]⟩) (b : Fin B) (s : Fin T)
    (i : Fin 3) (a : Fin 2) (g : Fin 4) (d : Fin 64) :
    shapeCast ⟨6, ![B, T, 3, 2, 4, 64]⟩ x w (ix6 b s i a g d) = x (ix3 b s ⟨512 * i.val + 256 * a.val + 64 * g.val + d.val, by omega⟩) := by
  refine shapeCast_apply x w (ix6 b s i a g d) (ix3 b s ⟨512 * i.val + 256 * a.val + 64 * g.val + d.val, by omega⟩) ?_
  rewrite [Shape.rowMajor_val_three, Shape.rowMajor_val_six]
  show (b.val * T + s.val) * 1536 + (512 * i.val + 256 * a.val + 64 * g.val + d.val)
    = ((((b.val * T + s.val) * 3 + i.val) * 2 + a.val) * 4 + g.val) * 64 + d.val
  omega

/-- Keys or values alone, of all branches. -/
theorem half_at (x : FVec Ideal ⟨6, ![B, T, 3, 1, 4, 64]⟩ .f32) (w : Shape.ShapeCasts ⟨6, ![B, T, 3, 1, 4, 64]⟩ ⟨5, ![B, T, 3, 4, 64]⟩) (b : Fin B) (s : Fin T)
    (i : Fin 3) (g : Fin 4) (d : Fin 64) : shapeCast ⟨5, ![B, T, 3, 4, 64]⟩ x w (ix5 b s i g d) = x (ix6 b s i 0 g d) := by
  refine shapeCast_apply x w (ix5 b s i g d) (ix6 b s i 0 g d) ?_
  rewrite [Shape.rowMajor_val_five, Shape.rowMajor_val_six]
  show ((((b.val * T + s.val) * 3 + i.val) * 1 + 0) * 4 + g.val) * 64 + d.val = (((b.val * T + s.val) * 3 + i.val) * 4 + g.val) * 64 + d.val
  omega

/-- The heads of all branches in a row, and back. -/
theorem twelve_at (x : FVec Ideal ⟨5, ![B, T, 3, 4, 64]⟩ .f32) (w : Shape.ShapeCasts ⟨5, ![B, T, 3, 4, 64]⟩ ⟨4, ![B, T, 12, 64]⟩) (b : Fin B) (s : Fin T)
    (i : Fin 3) (g : Fin 4) (d : Fin 64) :
    shapeCast ⟨4, ![B, T, 12, 64]⟩ x w (ix4 b s ⟨4 * i.val + g.val, by omega⟩ d) = x (ix5 b s i g d) := by
  refine shapeCast_apply x w (ix4 b s ⟨4 * i.val + g.val, by omega⟩ d) (ix5 b s i g d) ?_
  rewrite [Shape.rowMajor_val_five, Shape.rowMajor_val_four]
  show (((b.val * T + s.val) * 3 + i.val) * 4 + g.val) * 64 + d.val = ((b.val * T + s.val) * 12 + (4 * i.val + g.val)) * 64 + d.val
  omega
theorem three_at (x : FVec Ideal ⟨4, ![B, T, 12, 64]⟩ .f32) (w : Shape.ShapeCasts ⟨4, ![B, T, 12, 64]⟩ ⟨5, ![B, T, 3, 4, 64]⟩) (b : Fin B) (s : Fin T)
    (i : Fin 3) (g : Fin 4) (d : Fin 64) :
    shapeCast ⟨5, ![B, T, 3, 4, 64]⟩ x w (ix5 b s i g d) = x (ix4 b s ⟨4 * i.val + g.val, by omega⟩ d) := by
  refine shapeCast_apply x w (ix5 b s i g d) (ix4 b s ⟨4 * i.val + g.val, by omega⟩ d) ?_
  rewrite [Shape.rowMajor_val_five, Shape.rowMajor_val_four]
  show ((b.val * T + s.val) * 12 + (4 * i.val + g.val)) * 64 + d.val = (((b.val * T + s.val) * 3 + i.val) * 4 + g.val) * 64 + d.val
  omega

/-- One branch's array. -/
theorem branch_at (x : FVec Ideal ⟨6, ![B, T, 1, 2, 4, 64]⟩ .f32) (w : Shape.ShapeCasts ⟨6, ![B, T, 1, 2, 4, 64]⟩ ⟨5, ![B, T, 2, 4, 64]⟩) (b : Fin B) (s : Fin T)
    (a : Fin 2) (g : Fin 4) (d : Fin 64) : shapeCast ⟨5, ![B, T, 2, 4, 64]⟩ x w (ix5 b s a g d) = x (ix6 b s 0 a g d) := by
  refine shapeCast_apply x w (ix5 b s a g d) (ix6 b s 0 a g d) ?_
  rewrite [Shape.rowMajor_val_five, Shape.rowMajor_val_six]
  show ((((b.val * T + s.val) * 1 + 0) * 2 + a.val) * 4 + g.val) * 64 + d.val = (((b.val * T + s.val) * 2 + a.val) * 4 + g.val) * 64 + d.val
  omega

/-- One branch's array as rows of 512, the rows laid out anew. -/
theorem row_of_branch (x : FVec Ideal ⟨5, ![B, T, 2, 4, 64]⟩ .f32) (w : Shape.ShapeCasts ⟨5, ![B, T, 2, 4, 64]⟩ ⟨3, ![B', T', 512]⟩) (b : Fin B) (s : Fin T)
    (b' : Fin B') (s' : Fin T') (e : b'.val * T' + s'.val = b.val * T + s.val) (a : Fin 2) (g : Fin 4) (d : Fin 64) :
    shapeCast ⟨3, ![B', T', 512]⟩ x w (ix3 b' s' ⟨256 * a.val + 64 * g.val + d.val, by omega⟩) = x (ix5 b s a g d) := by
  refine shapeCast_apply x w (ix3 b' s' ⟨256 * a.val + 64 * g.val + d.val, by omega⟩) (ix5 b s a g d) ?_
  rewrite [Shape.rowMajor_val_three, Shape.rowMajor_val_five]
  show (((b.val * T + s.val) * 2 + a.val) * 4 + g.val) * 64 + d.val = (b'.val * T' + s'.val) * 512 + (256 * a.val + 64 * g.val + d.val)
  omega

/-- Indices with equal coordinates are equal. -/
theorem ext2 {l0 l1 : ℕ} {x y : (⟨2, ![l0, l1]⟩ : Shape).Idx} (h0 : x 0 = y 0) (h1 : x 1 = y 1) : x = y :=
  funext fun a => match a with | ⟨0, _⟩ => h0 | ⟨1, _⟩ => h1
theorem ext4 {l0 l1 l2 l3 : ℕ} {x y : (⟨4, ![l0, l1, l2, l3]⟩ : Shape).Idx} (h0 : x 0 = y 0) (h1 : x 1 = y 1) (h2 : x 2 = y 2)
    (h3 : x 3 = y 3) : x = y :=
  funext fun a => match a with | ⟨0, _⟩ => h0 | ⟨1, _⟩ => h1 | ⟨2, _⟩ => h2 | ⟨3, _⟩ => h3
theorem ext5 {l0 l1 l2 l3 l4 : ℕ} {x y : (⟨5, ![l0, l1, l2, l3, l4]⟩ : Shape).Idx} (h0 : x 0 = y 0) (h1 : x 1 = y 1) (h2 : x 2 = y 2)
    (h3 : x 3 = y 3) (h4 : x 4 = y 4) : x = y :=
  funext fun a => match a with | ⟨0, _⟩ => h0 | ⟨1, _⟩ => h1 | ⟨2, _⟩ => h2 | ⟨3, _⟩ => h3 | ⟨4, _⟩ => h4
theorem ext6 {l0 l1 l2 l3 l4 l5 : ℕ} {x y : (⟨6, ![l0, l1, l2, l3, l4, l5]⟩ : Shape).Idx} (h0 : x 0 = y 0) (h1 : x 1 = y 1) (h2 : x 2 = y 2)
    (h3 : x 3 = y 3) (h4 : x 4 = y 4) (h5 : x 5 = y 5) : x = y :=
  funext fun a => match a with | ⟨0, _⟩ => h0 | ⟨1, _⟩ => h1 | ⟨2, _⟩ => h2 | ⟨3, _⟩ => h3 | ⟨4, _⟩ => h4 | ⟨5, _⟩ => h5

/-- A column of the three key-value arrays in the projections: element `d` of head `g` of the keys (`a = 0`) or values (`a = 1`) of branch `i`. -/
abbrev col (i : Fin 3) (a : Fin 2) (g : Fin 4) (d : Fin 64) : Fin 9216 := ⟨7168 + (512 * i.val + 256 * a.val + 64 * g.val + d.val), by omega⟩

theorem ix3_of {a b c : ℕ} (y : (⟨3, ![a, b, c]⟩ : Shape).Idx) : y = ix3 (y 0) (y 1) (y 2) := by
  funext i
  match i with
  | ⟨0, _⟩ => rfl
  | ⟨1, _⟩ => rfl
  | ⟨2, _⟩ => rfl

/-- A column as a head and an element of it, or as a half, a head and an element. -/
theorem headOf {n : ℕ} (f : Fin (64 * n)) : ∃ (h : Fin n) (d : Fin 64), f = ⟨64 * h.val + d.val, by omega⟩ :=
  ⟨⟨f.val / 64, by omega⟩, ⟨f.val % 64, by omega⟩, Fin.ext (by dsimp only; omega)⟩
theorem halfOf (f : Fin 512) : ∃ (a : Fin 2) (g : Fin 4) (d : Fin 64), f = ⟨256 * a.val + 64 * g.val + d.val, by omega⟩ :=
  ⟨⟨f.val / 256, by omega⟩, ⟨f.val % 256 / 64, by omega⟩, ⟨f.val % 64, by omega⟩, Fin.ext (by dsimp only; omega)⟩
theorem rowOf (f : Fin 320) : ∃ (g : Fin 4) (e : Fin 80), f = ⟨80 * g.val + e.val, by omega⟩ :=
  ⟨⟨f.val / 80, by omega⟩, ⟨f.val % 80, by omega⟩, Fin.ext (by dsimp only; omega)⟩

end Cert.Reshape
-- ==== Proof.RopeRead.lean ====
/-
  The reference's rotated queries and key-value arrays of the prompt, read at an index.
-/
module

public import proofs.«01_k».proof.Proof.Rotation
public import proofs.«01_k».proof.Proof.Reshape
public import proofs.«01_k».proof.Proof.Gen.RefRopeIdeal.Read
public import Idealize.ShloMosaic.Lib.Claim
public import Idealize.ShloMosaic.Lib.Pipeline.ValueKit

@[expose] public section

set_option maxRecDepth 16384

noncomputable section

namespace Cert.RopeRead

open Cert.RefRopeIdeal Cert.RefRopeIdeal.Read Cert.Rotation Cert.Reshape
open Idealize.ShloMosaic Idealize.ShloMosaic.TcCoe Idealize.SL.Sem

/-- The cosines and sines of position `s`. -/
abbrev cosAt (s : Fin 4096) (k : Fin 8) : EReal := val_main_v15 (F := Ideal) (ix2 s k)
abbrev sinAt (s : Fin 4096) (k : Fin 8) : EReal := val_main_v17 (F := Ideal) (ix2 s k)

variable (z : FVec Ideal S4x4096x9216 .f32) (b : Fin 4) (s : Fin 4096)

theorem v2_at (h : Fin 16) (d : Fin 64) : val_main_v2 (F := Ideal) z (ix4 b s h d) = z (ix3 b s ⟨4096 + (64 * h.val + d.val), by omega⟩) := by
  refine (heads_at _ _ b s h d).trans ?_
  pointwise [val_main_v1]

/-- The queries. -/
theorem v36_at (h : Fin 16) (d : Fin 64) : val_main_v36 (F := Ideal) z (ix4 b s h d)
    = head (fun k => z (ix3 b s ⟨4096 + (64 * h.val + k.val), by omega⟩)) (cosAt s) (sinAt s) d := by
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v18, val_main_v16]
  simp only [v2_at]
  rfl

theorem v89_at (h : Fin 16) (d : Fin 64) : val_main_v89 (F := Ideal) z (ix3 b s ⟨64 * h.val + d.val, by omega⟩)
    = head (fun k => z (ix3 b s ⟨4096 + (64 * h.val + k.val), by omega⟩)) (cosAt s) (sinAt s) d :=
  (row_of_heads _ _ b s b s rfl h d).trans (v36_at z b s h d)

theorem v38_at (i : Fin 3) (a : Fin 2) (g : Fin 4) (d : Fin 64) : val_main_v38 (F := Ideal) z (ix6 b s i a g d) = z (ix3 b s (col i a g d)) := by
  refine (parts_at _ _ b s i a g d).trans ?_
  pointwise [val_main_v37]

theorem v40_at (i : Fin 3) (g : Fin 4) (d : Fin 64) : val_main_v40 (F := Ideal) z (ix5 b s i g d) = z (ix3 b s (col i 0 g d)) := by
  refine (half_at _ _ b s i g d).trans ?_
  pointwise [val_main_v39]
  rw [v38_at]

theorem v41_at (i : Fin 3) (g : Fin 4) (d : Fin 64) :
    val_main_v41 (F := Ideal) z (ix4 b s ⟨4 * i.val + g.val, by omega⟩ d) = z (ix3 b s (col i 0 g d)) :=
  (twelve_at _ _ b s i g d).trans (v40_at z b s i g d)

theorem v54_eq : val_main_v54 (F := Ideal) = val_main_v15 (F := Ideal) := rfl
theorem v56_eq : val_main_v56 (F := Ideal) = val_main_v17 (F := Ideal) := rfl

theorem v62_at (h : Fin 12) (k : Fin 8) : val_main_v62 (F := Ideal) (ix4 b s h k) = cosAt s k :=
  (val_main_v62_apply _).trans ((val_main_v61_apply _).trans ((val_main_v55_apply _).trans
    ((congrArg _ (ext2 rfl rfl)).trans (congrFun v54_eq (ix2 s k)))))
theorem v65_at (h : Fin 12) (k : Fin 8) : val_main_v65 (F := Ideal) (ix4 b s h k) = sinAt s k :=
  (val_main_v65_apply _).trans ((val_main_v64_apply _).trans ((val_main_v57_apply _).trans
    ((congrArg _ (ext2 rfl rfl)).trans (congrFun v56_eq (ix2 s k)))))
theorem v69_at (h : Fin 12) (k : Fin 8) : val_main_v69 (F := Ideal) (ix4 b s h k) = cosAt s k :=
  (val_main_v69_apply _).trans ((val_main_v68_apply _).trans ((val_main_v55_apply _).trans
    ((congrArg _ (ext2 rfl rfl)).trans (congrFun v54_eq (ix2 s k)))))
theorem v72_at (h : Fin 12) (k : Fin 8) : val_main_v72 (F := Ideal) (ix4 b s h k) = sinAt s k :=
  (val_main_v72_apply _).trans ((val_main_v71_apply _).trans ((val_main_v57_apply _).trans
    ((congrArg _ (ext2 rfl rfl)).trans (congrFun v56_eq (ix2 s k)))))
theorem v58_at (h : Fin 12) (k : Fin 8) : val_main_v58 (F := Ideal) z (ix4 b s h k) = val_main_v41 (F := Ideal) z (ix4 b s h ⟨k.val, by omega⟩) :=
  (val_main_v58_apply _ _).trans (congrArg _ (ext4 rfl rfl rfl rfl))
theorem v59_at (h : Fin 12) (k : Fin 8) : val_main_v59 (F := Ideal) z (ix4 b s h k) = val_main_v41 (F := Ideal) z (ix4 b s h ⟨8 + k.val, by omega⟩) :=
  (val_main_v59_apply _ _).trans (congrArg _ (ext4 rfl rfl rfl rfl))
theorem v60_at (h : Fin 12) (k : Fin 48) : val_main_v60 (F := Ideal) z (ix4 b s h k) = val_main_v41 (F := Ideal) z (ix4 b s h ⟨16 + k.val, by omega⟩) :=
  (val_main_v60_apply _ _).trans (congrArg _ (ext4 rfl rfl rfl rfl))

/-- The keys of all branches. -/
theorem v75_at (i : Fin 3) (g : Fin 4) (d : Fin 64) : val_main_v75 (F := Ideal) z (ix4 b s ⟨4 * i.val + g.val, by omega⟩ d)
    = head (fun k => z (ix3 b s (col i 0 g k))) (cosAt s) (sinAt s) d := by
  pointwise [val_main_v75]
  simp only [val_main_v74_apply, val_main_v73_apply, val_main_v70_apply, val_main_v67_apply, val_main_v66_apply, val_main_v63_apply,
    v58_at, v59_at, v60_at, v62_at, v65_at, v69_at, v72_at, v41_at]
  rfl

theorem v76_at (i : Fin 3) (g : Fin 4) (d : Fin 64) : val_main_v76 (F := Ideal) z (ix5 b s i g d)
    = head (fun k => z (ix3 b s (col i 0 g k))) (cosAt s) (sinAt s) d :=
  (three_at _ _ b s i g d).trans (v75_at z b s i g d)

theorem v78_at (i : Fin 3) (g : Fin 4) (d : Fin 64) : val_main_v78 (F := Ideal) z (ix5 b s i g d) = z (ix3 b s (col i 1 g d)) := by
  refine (half_at _ _ b s i g d).trans ?_
  pointwise [val_main_v77]
  exact v38_at z b s i 1 g d

/-- The stacked keys and values. -/
theorem key_at (i : Fin 3) (g : Fin 4) (d : Fin 64) : val_main_v81 (F := Ideal) z (ix6 b s i 0 g d)
    = head (fun k => z (ix3 b s (col i 0 g k))) (cosAt s) (sinAt s) d := by
  pointwise [val_main_v81]
  exact (val_main_v79_apply _ _).trans ((congrArg _ (ext5 rfl rfl rfl rfl rfl)).trans (v76_at z b s i g d))
theorem value_at (i : Fin 3) (g : Fin 4) (d : Fin 64) : val_main_v81 (F := Ideal) z (ix6 b s i 1 g d) = z (ix3 b s (col i 1 g d)) := by
  pointwise [val_main_v81]
  exact (val_main_v80_apply _ _).trans ((congrArg _ (ext5 rfl rfl rfl rfl rfl)).trans (v78_at z b s i g d))

theorem v83_at (a : Fin 2) (g : Fin 4) (d : Fin 64) : val_main_v83 (F := Ideal) z (ix5 b s a g d) = val_main_v81 (F := Ideal) z (ix6 b s 0 a g d) :=
  (branch_at _ _ b s a g d).trans ((val_main_v82_apply _ _).trans (congrArg _ (ext6 rfl rfl rfl rfl rfl rfl)))

end Cert.RopeRead
-- ==== Proof.RopeTable.lean ====
/-
  The tables the host prepares for the rotation call: the reference's cosines and sines laid out over a head's columns,
  twice over a row.
-/
module

public import proofs.«01_k».proof.Proof.Rotation
public import proofs.«01_k».proof.Proof.RopeRead
public import proofs.«01_k».proof.Proof.Gen.KernelRopeIdeal.Value
public import Idealize.ShloMosaic.Lib.Claim
public import Idealize.ShloMosaic.Lib.Pipeline.ValueKit

@[expose] public section

set_option maxRecDepth 16384

noncomputable section

namespace Cert.RopeTable

open Cert.KernelRopeIdeal Cert.KernelRopeIdeal.Gen Cert.Rotation Cert.RopeRead
open Cert.RefRopeIdeal.Read (val_main_v15 val_main_v17)
open Idealize.ShloMosaic Idealize.ShloMosaic.TcCoe Idealize.SL.Sem

variable (m : (ℓ : Loc nD τ sig) → Buf (Elt Ideal) ℓ)

/-- Eight columns, eight columns and 48 columns side by side. -/
def joined (u v : FVec Ideal S4096x8 .f32) (w : FVec Ideal S4096x48 .f32) : FVec Ideal S4096x64 .f32 :=
  concatenate S4096x64 1 [⟨S4096x8, u⟩, ⟨S4096x8, v⟩, ⟨S4096x48, w⟩] concatenates_S4096x8_S4096x8_S4096x48_S4096x64_d1
def twice (x : FVec Ideal S4096x64 .f32) : FVec Ideal S4096x128 .f32 :=
  concatenate S4096x128 1 [⟨S4096x64, x⟩, ⟨S4096x64, x⟩] concatenates_S4096x64_S4096x64_S4096x128_d1
def zeros8 : FVec Ideal S4096x8 .f32 := broadcastInDim S4096x8 ![] bcast_S_S4096x8 (constant (F := Ideal) S_ .f32 0x00000000#32)
def zeros48 : FVec Ideal S4096x48 .f32 := broadcastInDim S4096x48 ![] bcast_S_S4096x48 (constant (F := Ideal) S_ .f32 0x00000000#32)
def ones48 : FVec Ideal S4096x48 .f32 := broadcastInDim S4096x48 ![] bcast_S_S4096x48 (constant (F := Ideal) S_ .f32 0x3F800000#32)
def cosTable : FVec Ideal S4096x64 .f32 := joined (val_main_v15 (F := Ideal)) (val_main_v15 (F := Ideal)) ones48
def sinTable : FVec Ideal S4096x64 .f32 := joined zeros8 (val_main_v17 (F := Ideal)) zeros48
def negTable : FVec Ideal S4096x64 .f32 := joined (Host.negf (F := Ideal) (s := S4096x8) (φ := .f32) (val_main_v17 (F := Ideal))) zeros8 zeros48

theorem cos_eq (c : Dev nD) : V m c main_v22 = twice cosTable := by rfl
theorem sin_eq (c : Dev nD) : V m c main_v23 = twice sinTable := by rfl
theorem neg_eq (c : Dev nD) : V m c main_v24 = twice negTable := by rfl

theorem twice_at (x : FVec Ideal S4096x64 .f32) (s : Fin 4096) (a : Fin 2) (d : Fin 64) :
    twice x (ix2 s ⟨64 * a.val + d.val, by omega⟩) = x (ix2 s d) := by
  pointwise [twice]
  exact cases_eq (fun _ => congrArg x (congrArg (ix2 s) (Fin.ext (by dsimp only; omega))))
    (fun _ => congrArg x (congrArg (ix2 s) (Fin.ext (by dsimp only; omega))))

theorem cosTable_at (s : Fin 4096) (d : Fin 64) : cosTable (ix2 s d) = row (cosAt s) (cosAt s) 1 d := by
  pointwise [cosTable, joined, ones48]
  rfl
theorem sinTable_at (s : Fin 4096) (d : Fin 64) : sinTable (ix2 s d) = row (fun _ => 0) (sinAt s) 0 d := by
  pointwise [sinTable, joined, zeros8, zeros48]
  rfl
theorem negTable_at (s : Fin 4096) (d : Fin 64) : negTable (ix2 s d) = row (fun k => -sinAt s k) (fun _ => 0) 0 d := by
  pointwise [negTable, joined, zeros8, zeros48]
  rfl

end Cert.RopeTable
-- ==== Proof.RopeOut.lean ====
/-
  The reference's rotated queries and key-value arrays of the prompt, read at an index: the eight results.
-/
module

public import proofs.«01_k».proof.Proof.RopeRead
public import proofs.«01_k».proof.Proof.Gen.RefRopeIdeal.Read
public import Idealize.ShloMosaic.Lib.Claim
public import Idealize.ShloMosaic.Lib.Pipeline.ValueKit

@[expose] public section

set_option maxRecDepth 16384

noncomputable section

namespace Cert.RopeRead

open Cert.RefRopeIdeal Cert.RefRopeIdeal.Read Cert.Rotation Cert.Reshape
open Idealize.ShloMosaic Idealize.ShloMosaic.TcCoe Idealize.SL.Sem

variable (z : FVec Ideal S4x4096x9216 .f32) (b : Fin 4) (s : Fin 4096)

theorem v85_at (a : Fin 2) (g : Fin 4) (d : Fin 64) : val_main_v85 (F := Ideal) z (ix5 b s a g d) = val_main_v81 (F := Ideal) z (ix6 b s 1 a g d) :=
  (branch_at _ _ b s a g d).trans ((val_main_v84_apply _ _).trans (congrArg _ (ext6 rfl rfl rfl rfl rfl rfl)))
theorem v87_at (a : Fin 2) (g : Fin 4) (d : Fin 64) : val_main_v87 (F := Ideal) z (ix5 b s a g d) = val_main_v81 (F := Ideal) z (ix6 b s 2 a g d) :=
  (branch_at _ _ b s a g d).trans ((val_main_v86_apply _ _).trans (congrArg _ (ext6 rfl rfl rfl rfl rfl rfl)))
theorem v90_at (a : Fin 2) (g : Fin 4) (d : Fin 64) : val_main_v90 (F := Ideal) z (ix3 b s ⟨256 * a.val + 64 * g.val + d.val, by omega⟩)
    = val_main_v83 (F := Ideal) z (ix5 b s a g d) :=
  row_of_branch _ _ b s b s rfl a g d
theorem v91_at (a : Fin 2) (g : Fin 4) (d : Fin 64) : val_main_v91 (F := Ideal) z (ix3 b s ⟨256 * a.val + 64 * g.val + d.val, by omega⟩)
    = val_main_v85 (F := Ideal) z (ix5 b s a g d) :=
  row_of_branch _ _ b s b s rfl a g d
theorem v92_at (a : Fin 2) (g : Fin 4) (d : Fin 64) : val_main_v92 (F := Ideal) z (ix3 b s ⟨256 * a.val + 64 * g.val + d.val, by omega⟩)
    = val_main_v87 (F := Ideal) z (ix5 b s a g d) :=
  row_of_branch _ _ b s b s rfl a g d
theorem v96_at (g : Fin 4) (d : Fin 64) : val_main_v96 (F := Ideal) z (ix3 b s ⟨64 * g.val + d.val, by omega⟩) = val_main_v85 (F := Ideal) z (ix5 b s 0 g d) := by
  refine (val_main_v96_apply _ _).trans ?_
  show val_main_v95 (F := Ideal) z _ = _
  unfold val_main_v95
  refine (shapeCast_apply _ _ (ix3 b s ⟨64 * g.val + d.val, by omega⟩) (ix4 b s g d) ?_).trans ?_
  · rewrite [Shape.rowMajor_val_three, Shape.rowMajor_val_four]
    show ((b.val * 4096 + s.val) * 4 + g.val) * 64 + d.val = (b.val * 4096 + s.val) * 256 + (64 * g.val + d.val)
    omega
  unfold val_main_v94
  refine (shapeCast_apply _ _ (ix4 b s g d) (ix5 b s 0 g d) ?_).trans ?_
  · rewrite [Shape.rowMajor_val_five, Shape.rowMajor_val_four]
    show (((b.val * 4096 + s.val) * 1 + 0) * 4 + g.val) * 64 + d.val = ((b.val * 4096 + s.val) * 4 + g.val) * 64 + d.val
    omega
  exact (val_main_v93_apply _ _).trans (congrArg _ (ext5 rfl rfl rfl rfl rfl))
theorem v106_at (g : Fin 4) (d : Fin 64) : val_main_v106 (F := Ideal) z (ix3 b s ⟨64 * g.val + d.val, by omega⟩) = val_main_v87 (F := Ideal) z (ix5 b s 0 g d) := by
  refine (val_main_v106_apply _ _).trans ?_
  show val_main_v105 (F := Ideal) z _ = _
  unfold val_main_v105
  refine (shapeCast_apply _ _ (ix3 b s ⟨64 * g.val + d.val, by omega⟩) (ix4 b s g d) ?_).trans ?_
  · rewrite [Shape.rowMajor_val_three, Shape.rowMajor_val_four]
    show ((b.val * 4096 + s.val) * 4 + g.val) * 64 + d.val = (b.val * 4096 + s.val) * 256 + (64 * g.val + d.val)
    omega
  unfold val_main_v104
  refine (shapeCast_apply _ _ (ix4 b s g d) (ix5 b s 0 g d) ?_).trans ?_
  · rewrite [Shape.rowMajor_val_five, Shape.rowMajor_val_four]
    show (((b.val * 4096 + s.val) * 1 + 0) * 4 + g.val) * 64 + d.val = ((b.val * 4096 + s.val) * 4 + g.val) * 64 + d.val
    omega
  exact (val_main_v103_apply _ _).trans (congrArg _ (ext5 rfl rfl rfl rfl rfl))
theorem v98_at (g : Fin 4) (d : Fin 64) : val_main_v98 (F := Ideal) z (ix4 b s g d) = val_main_v85 (F := Ideal) z (ix5 b s 1 g d) := by
  unfold val_main_v98
  refine (shapeCast_apply _ _ (ix4 b s g d) (ix5 b s 0 g d) ?_).trans ?_
  · rewrite [Shape.rowMajor_val_five, Shape.rowMajor_val_four]
    show (((b.val * 4096 + s.val) * 1 + 0) * 4 + g.val) * 64 + d.val = ((b.val * 4096 + s.val) * 4 + g.val) * 64 + d.val
    omega
  exact (val_main_v97_apply _ _).trans (congrArg _ (ext5 rfl rfl rfl rfl rfl))
theorem v102_at (g : Fin 4) (e : Fin 80) : val_main_v102 (F := Ideal) z (ix3 b ⟨80 * g.val + e.val, by omega⟩ s)
    = if h : e.val < 64 then val_main_v85 (F := Ideal) z (ix5 b s 1 g ⟨e.val, h⟩) else 1 := by
  refine (val_main_v102_apply _ _).trans ?_
  show val_main_v101 (F := Ideal) z _ = _
  unfold val_main_v101
  refine (shapeCast_apply _ _ (ix3 b ⟨80 * g.val + e.val, by omega⟩ s) (ix4 b g e s) ?_).trans ?_
  · rewrite [Shape.rowMajor_val_three, Shape.rowMajor_val_four]
    show ((b.val * 4 + g.val) * 80 + e.val) * 4096 + s.val = (b.val * 320 + (80 * g.val + e.val)) * 4096 + s.val
    omega
  pointwise [val_main_v100, val_main_v99, val_main_v88, val_main_cst_3]
  simp only [v98_at]
theorem v108_at (g : Fin 4) (d : Fin 64) : val_main_v108 (F := Ideal) z (ix4 b s g d) = val_main_v87 (F := Ideal) z (ix5 b s 1 g d) := by
  unfold val_main_v108
  refine (shapeCast_apply _ _ (ix4 b s g d) (ix5 b s 0 g d) ?_).trans ?_
  · rewrite [Shape.rowMajor_val_five, Shape.rowMajor_val_four]
    show (((b.val * 4096 + s.val) * 1 + 0) * 4 + g.val) * 64 + d.val = ((b.val * 4096 + s.val) * 4 + g.val) * 64 + d.val
    omega
  exact (val_main_v107_apply _ _).trans (congrArg _ (ext5 rfl rfl rfl rfl rfl))
theorem v112_at (g : Fin 4) (e : Fin 80) : val_main_v112 (F := Ideal) z (ix3 b ⟨80 * g.val + e.val, by omega⟩ s)
    = if h : e.val < 64 then val_main_v87 (F := Ideal) z (ix5 b s 1 g ⟨e.val, h⟩) else 1 := by
  refine (val_main_v112_apply _ _).trans ?_
  show val_main_v111 (F := Ideal) z _ = _
  unfold val_main_v111
  refine (shapeCast_apply _ _ (ix3 b ⟨80 * g.val + e.val, by omega⟩ s) (ix4 b g e s) ?_).trans ?_
  · rewrite [Shape.rowMajor_val_three, Shape.rowMajor_val_four]
    show ((b.val * 4 + g.val) * 80 + e.val) * 4096 + s.val = (b.val * 320 + (80 * g.val + e.val)) * 4096 + s.val
    omega
  pointwise [val_main_v110, val_main_v109, val_main_v88, val_main_cst_3]
  simp only [v108_at]

end Cert.RopeRead
-- ==== Proof.RopeValue.lean ====
/-
  The rotation call's result arrays are the reference's results.
-/
module

public import proofs.«01_k».proof.Proof.RopeBody
public import proofs.«01_k».proof.Proof.RopeTable
public import proofs.«01_k».proof.Proof.RopeOut

@[expose] public section

set_option maxRecDepth 16384

noncomputable section

namespace Cert.KernelRopeIdeal.Final

open Cert.KernelRopeIdeal Cert.KernelRopeIdeal.Gen Cert.RefRopeIdeal.Read Cert.Rotation Cert.Reshape Cert.RopeRead Cert.RopeBody Cert.RopeTable
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 8, 4] ∧ win0_1.index t = ![t.val / 8, t.val % 8, 14]
    ∧ win0_2.index t = ![t.val / 8, t.val % 8, 15] ∧ win0_3.index t = ![t.val / 8, t.val % 8, 16]
    ∧ win0_4.index t = ![t.val % 8, 0] ∧ win0_5.index t = ![t.val % 8, 0] ∧ win0_6.index t = ![t.val % 8, 0]
    ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0]
    ∧ win0_11.index t = ![t.val / 8, t.val % 8, 0] ∧ win0_12.index t = ![t.val / 8, 0, t.val % 8]
    ∧ win0_13.index t = ![t.val / 8, t.val % 8, 0] ∧ win0_14.index t = ![t.val / 8, 0, t.val % 8] ∧ t.val < 32 :=
  (by decide +kernel : ∀ t : Fin grid0.N, _)

/-- The call's argument on device `c`. -/
abbrev Z (c : Dev nD) : FVec Ideal S4x4096x9216 .f32 := m ((c : Thread nD τ).loc main_arg0)

variable (c : Dev nD) (t : Fin cfg0.N)

/-- The batch of a grid point and the position its block's row stands for. -/
def bt : Fin 4 := ⟨t.val / 8, by have := (idx t).2.2.2.2.2.2.2.2.2.2.2.2.2.2.2; omega⟩
def pos (r : Fin 512) : Fin 4096 := ⟨t.val % 8 * 512 + r.val, by omega⟩

theorem read0 (r : Fin 512) (f : Fin 1024) : (iblk m c 0 t : FVec Ideal S1x512x1024 .f32) (ix3 0 r f)
    = Z m c (ix3 (bt t) (pos t r) ⟨4096 + f.val, by omega⟩) := by
  blk_ext [iblk, V, idx t, bt, pos]
theorem read1 (r f : Fin 512) : (iblk m c 1 t : FVec Ideal S1x512x512 .f32) (ix3 0 r f)
    = Z m c (ix3 (bt t) (pos t r) ⟨7168 + 512 * (0 : Fin 3).val + f.val, by omega⟩) := by
  have e : (iblk m c 1 t : FVec Ideal S1x512x512 .f32) (ix3 0 r f) = Z m c (ix3 (bt t) (pos t r) ⟨7168 + f.val, by omega⟩) := by
    blk_ext [iblk, V, idx t, bt, pos]
  refine e.trans (congrArg (Z m c) (congrArg (ix3 _ _) (Fin.ext ?_)))
  show 7168 + f.val = 7168 + 512 * 0 + f.val
  omega
theorem read2 (r f : Fin 512) : (iblk m c 2 t : FVec Ideal S1x512x512 .f32) (ix3 0 r f)
    = Z m c (ix3 (bt t) (pos t r) ⟨7168 + 512 * (1 : Fin 3).val + f.val, by omega⟩) := by
  have e : (iblk m c 2 t : FVec Ideal S1x512x512 .f32) (ix3 0 r f) = Z m c (ix3 (bt t) (pos t r) ⟨7680 + f.val, by omega⟩) := by
    blk_ext [iblk, V, idx t, bt, pos]
  refine e.trans (congrArg (Z m c) (congrArg (ix3 _ _) (Fin.ext ?_)))
  show 7680 + f.val = 7168 + 512 * 1 + f.val
  omega
theorem read3 (r f : Fin 512) : (iblk m c 3 t : FVec Ideal S1x512x512 .f32) (ix3 0 r f)
    = Z m c (ix3 (bt t) (pos t r) ⟨7168 + 512 * (2 : Fin 3).val + f.val, by omega⟩) := by
  have e : (iblk m c 3 t : FVec Ideal S1x512x512 .f32) (ix3 0 r f) = Z m c (ix3 (bt t) (pos t r) ⟨8192 + f.val, by omega⟩) := by
    blk_ext [iblk, V, idx t, bt, pos]
  refine e.trans (congrArg (Z m c) (congrArg (ix3 _ _) (Fin.ext ?_)))
  show 8192 + f.val = 7168 + 512 * 2 + f.val
  omega
theorem read4 (r : Fin 512) (f : Fin 128) : (iblk m c 4 t : FVec Ideal S512x128 .f32) (ix2 r f) = twice cosTable (ix2 (pos t r) f) := by
  blk_simp [iblk]; rw [cos_eq]; blk_ext [idx t, pos]
theorem read5 (r : Fin 512) (f : Fin 128) : (iblk m c 5 t : FVec Ideal S512x128 .f32) (ix2 r f) = twice sinTable (ix2 (pos t r) f) := by
  blk_simp [iblk]; rw [sin_eq]; blk_ext [idx t, pos]
theorem read6 (r : Fin 512) (f : Fin 128) : (iblk m c 6 t : FVec Ideal S512x128 .f32) (ix2 r f) = twice negTable (ix2 (pos t r) f) := by
  blk_simp [iblk]; rw [neg_eq]; blk_ext [idx t, pos]

theorem repeats4 (r : Fin 512) : Repeats (iblk m c 4 t) r (cosAt (pos t r)) (cosAt (pos t r)) 1 :=
  fun a d => (read4 m c t r _).trans ((twice_at _ _ a d).trans (cosTable_at _ d))
theorem repeats5 (r : Fin 512) : Repeats (iblk m c 5 t) r (fun _ => 0) (sinAt (pos t r)) 0 :=
  fun a d => (read5 m c t r _).trans ((twice_at _ _ a d).trans (sinTable_at _ d))
theorem repeats6 (r : Fin 512) : Repeats (iblk m c 6 t) r (fun k => -sinAt (pos t r) k) (fun _ => 0) 0 :=
  fun a d => (read6 m c t r _).trans ((twice_at _ _ a d).trans (negTable_at _ d))

/-- One branch's rows, keys rotated and values kept, are the reference's. -/
theorem rotated (i : Fin 3) (x : FVec Ideal S1x512x512 .f32) (r : Fin 512)
    (hx : ∀ f : Fin 512, x (ix3 0 r f) = Z m c (ix3 (bt t) (pos t r) ⟨7168 + 512 * i.val + f.val, by omega⟩)) (a : Fin 2) (g : Fin 4) (d : Fin 64) :
    k0_pay10 (F := Ideal) (iblk m c 4 t) (iblk m c 5 t) (iblk m c 6 t) x (ix2 r ⟨256 * a.val + 64 * g.val + d.val, by omega⟩)
      = val_main_v81 (F := Ideal) (Z m c) (ix6 (bt t) (pos t r) i a g d) := by
  match a with
  | ⟨0, _⟩ =>
    refine (congrArg _ (congrArg (ix2 r) (Fin.ext ?_))).trans ((pay10_key (repeats4 m c t r) (repeats5 m c t r) (repeats6 m c t r) x g d).trans
      (Eq.trans ?_ (key_at (Z m c) (bt t) (pos t r) i g d).symm))
    · dsimp only; omega
    · refine congrArg (fun y => head y _ _ d) (funext fun k => (hx _).trans (congrArg (Z m c) (congrArg (ix3 _ _) (Fin.ext ?_))))
      show 7168 + 512 * i.val + (64 * g.val + k.val) = 7168 + (512 * i.val + 256 * 0 + 64 * g.val + k.val)
      omega
  | ⟨1, _⟩ =>
    refine (congrArg _ (congrArg (ix2 r) (Fin.ext ?_))).trans ((pay10_value _ _ _ x r g d).trans
      ((hx _).trans (Eq.trans ?_ (value_at (Z m c) (bt t) (pos t r) i g d).symm)))
    · dsimp only; omega
    · refine congrArg (Z m c) (congrArg (ix3 _ _) (Fin.ext ?_))
      show 7168 + 512 * i.val + (256 + (64 * g.val + d.val)) = 7168 + (512 * i.val + 256 * 1 + 64 * g.val + d.val)
      omega

/-- A load of a whole block is the block. -/
theorem ld_table (x : Vec Ideal S512x128 .f32) : View.ld x r0_0 = x :=
  View.ld_unit_lit (Val := Elt Ideal) (S := S512x128) (e := .f32) (off := ![0, 0]) inb_S512x128_S512x128_0_0 x (by decide)
theorem ld_block (x : Vec Ideal S1x512x512 .f32) : View.ld x r0_2 = x :=
  View.ld_unit_lit (Val := Elt Ideal) (S := S1x512x512) (e := .f32) (off := ![0, 0, 0]) inb_S1x512x512_S1x512x512_0_0_0 x (by decide)

section
variable (x0 : FVec Ideal S1x512x1024 .f32) (x1 x2 x3 : FVec Ideal S1x512x512 .f32) (x4 x5 x6 : FVec Ideal S512x128 .f32)
/-- The values the later stores share, over the loaded blocks. -/
theorem pay16_eq : k0_pay16 (F := Ideal) x0 x1 x2 x3 x4 x5 x6 = k0_pay6 x4 := congrArg k0_pay6 (ld_table x4)
theorem pay17_eq : k0_pay17 (F := Ideal) x0 x1 x2 x3 x4 x5 x6 = k0_pay7 x5 := congrArg k0_pay7 (ld_table x5)
theorem pay18_eq : k0_pay18 (F := Ideal) x0 x1 x2 x3 x4 x5 x6 = k0_pay8 x6 := congrArg k0_pay8 (ld_table x6)
theorem pay19_eq : k0_pay19 (F := Ideal) x0 x1 x2 x3 x4 x5 x6 = k0_pay10 x4 x5 x6 x2 := by
  unfold k0_pay19
  rw [pay16_eq, pay17_eq, pay18_eq, pay12_eq]
  exact congrArg _ (ld_block x2)
theorem pay20_eq : k0_pay20 (F := Ideal) x0 x1 x2 x3 x4 x5 x6 = k0_pay10 x4 x5 x6 x3 := by
  unfold k0_pay20
  rw [pay16_eq, pay17_eq, pay18_eq, pay14_eq]
  exact congrArg _ (ld_block x3)
end

theorem point7 (r : Fin 512) (h : Fin 16) (d : Fin 64) :
    out0_7 (F := Ideal) (iblk m c 0 t) (iblk m c 1 t) (iblk m c 2 t) (iblk m c 3 t) (iblk m c 4 t) (iblk m c 5 t) (iblk m c 6 t) (ix3 0 r ⟨64 * h.val + d.val, by omega⟩)
      = val_main_v89 (F := Ideal) (Z m c) (ix3 (bt t) (pos t r) ⟨64 * h.val + d.val, by omega⟩) := by
  frame_out
  refine (pay9_at (repeats4 m c t r) (repeats5 m c t r) (repeats6 m c t r) _ h d).trans (Eq.trans ?_ (v89_at (Z m c) (bt t) (pos t r) h d).symm)
  exact congrArg (fun y => head y _ _ d) (funext fun k => read0 m c t r _)

theorem point8 (r : Fin 512) (a : Fin 2) (g : Fin 4) (d : Fin 64) :
    out0_8 (F := Ideal) (iblk m c 0 t) (iblk m c 1 t) (iblk m c 2 t) (iblk m c 3 t) (iblk m c 4 t) (iblk m c 5 t) (iblk m c 6 t) (ix3 0 r ⟨256 * a.val + 64 * g.val + d.val, by omega⟩)
      = val_main_v90 (F := Ideal) (Z m c) (ix3 (bt t) (pos t r) ⟨256 * a.val + 64 * g.val + d.val, by omega⟩) := by
  frame_out
  exact (pay11_at _ _ _).trans ((rotated m c t 0 _ r (read1 m c t r) a g d).trans ((v90_at _ _ _ a g d).trans (v83_at _ _ _ a g d)).symm)

theorem point9 (r : Fin 512) (a : Fin 2) (g : Fin 4) (d : Fin 64) :
    out0_9 (F := Ideal) (iblk m c 0 t) (iblk m c 1 t) (iblk m c 2 t) (iblk m c 3 t) (iblk m c 4 t) (iblk m c 5 t) (iblk m c 6 t) (ix3 0 r ⟨256 * a.val + 64 * g.val + d.val, by omega⟩)
      = val_main_v91 (F := Ideal) (Z m c) (ix3 (bt t) (pos t r) ⟨256 * a.val + 64 * g.val + d.val, by omega⟩) := by
  frame_out
  rw [pay16_eq, pay17_eq, pay18_eq]
  exact (pay13_at _ _ _ _ _ _).trans ((congrFun (pay12_eq _ _ _ _) _).trans ((rotated m c t 1 _ r (read2 m c t r) a g d).trans ((v91_at _ _ _ a g d).trans (v85_at _ _ _ a g d)).symm))

theorem point10 (r : Fin 512) (a : Fin 2) (g : Fin 4) (d : Fin 64) :
    out0_10 (F := Ideal) (iblk m c 0 t) (iblk m c 1 t) (iblk m c 2 t) (iblk m c 3 t) (iblk m c 4 t) (iblk m c 5 t) (iblk m c 6 t) (ix3 0 r ⟨256 * a.val + 64 * g.val + d.val, by omega⟩)
      = val_main_v92 (F := Ideal) (Z m c) (ix3 (bt t) (pos t r) ⟨256 * a.val + 64 * g.val + d.val, by omega⟩) := by
  frame_out
  rw [pay16_eq, pay17_eq, pay18_eq]
  exact (pay15_at _ _ _ _ _ _).trans ((congrFun (pay14_eq _ _ _ _) _).trans ((rotated m c t 2 _ r (read3 m c t r) a g d).trans ((v92_at _ _ _ a g d).trans (v87_at _ _ _ a g d)).symm))

/-- A block's rotated keys and its values, as the two attention kernels read them. -/
theorem keys_of (i : Fin 3) (x : FVec Ideal S1x512x512 .f32) (r : Fin 512)
    (hx : ∀ f : Fin 512, x (ix3 0 r f) = Z m c (ix3 (bt t) (pos t r) ⟨7168 + 512 * i.val + f.val, by omega⟩)) (g : Fin 4) (d : Fin 64) :
    k0_pay10 (F := Ideal) (iblk m c 4 t) (iblk m c 5 t) (iblk m c 6 t) x (ix2 r ⟨64 * g.val + d.val, by omega⟩)
      = val_main_v81 (F := Ideal) (Z m c) (ix6 (bt t) (pos t r) i 0 g d) := by
  refine (congrArg _ (congrArg (ix2 r) (Fin.ext ?_))).trans (rotated m c t i x r hx 0 g d)
  show 64 * g.val + d.val = 256 * 0 + 64 * g.val + d.val
  omega
theorem values_of (i : Fin 3) (x : FVec Ideal S1x512x512 .f32) (r : Fin 512)
    (hx : ∀ f : Fin 512, x (ix3 0 r f) = Z m c (ix3 (bt t) (pos t r) ⟨7168 + 512 * i.val + f.val, by omega⟩)) (g : Fin 4) (d : Fin 64) :
    k0_pay10 (F := Ideal) (iblk m c 4 t) (iblk m c 5 t) (iblk m c 6 t) x (ix2 r ⟨256 + (64 * g.val + d.val), by omega⟩)
      = val_main_v81 (F := Ideal) (Z m c) (ix6 (bt t) (pos t r) i 1 g d) := by
  refine (congrArg _ (congrArg (ix2 r) (Fin.ext ?_))).trans (rotated m c t i x r hx 1 g d)
  show 256 + (64 * g.val + d.val) = 256 * 1 + 64 * g.val + d.val
  omega

theorem point11 (r : Fin 512) (g : Fin 4) (d : Fin 64) :
    out0_11 (F := Ideal) (iblk m c 0 t) (iblk m c 1 t) (iblk m c 2 t) (iblk m c 3 t) (iblk m c 4 t) (iblk m c 5 t) (iblk m c 6 t) (ix3 0 r ⟨64 * g.val + d.val, by omega⟩)
      = val_main_v96 (F := Ideal) (Z m c) (ix3 (bt t) (pos t r) ⟨64 * g.val + d.val, by omega⟩) := by
  frame_out
  rw [pay19_eq]
  exact (pay2_at _ _ _).trans (((keys_of m c t 1 _ r (read2 m c t r) g d).trans ((v96_at _ _ _ g d).trans (v85_at _ _ _ 0 g d)).symm))

theorem point13 (r : Fin 512) (g : Fin 4) (d : Fin 64) :
    out0_13 (F := Ideal) (iblk m c 0 t) (iblk m c 1 t) (iblk m c 2 t) (iblk m c 3 t) (iblk m c 4 t) (iblk m c 5 t) (iblk m c 6 t) (ix3 0 r ⟨64 * g.val + d.val, by omega⟩)
      = val_main_v106 (F := Ideal) (Z m c) (ix3 (bt t) (pos t r) ⟨64 * g.val + d.val, by omega⟩) := by
  frame_out
  rw [pay20_eq]
  exact (pay4_at _ _ _).trans (((keys_of m c t 2 _ r (read3 m c t r) g d).trans ((v106_at _ _ _ g d).trans (v87_at _ _ _ 0 g d)).symm))

theorem one_eq : (Scalar.ofBits (F := Ideal) .bf16 0x3F80#16) = (1 : EReal) := by
  pointwise

theorem point12 (r : Fin 512) (g : Fin 4) (e : Fin 80) :
    out0_12 (F := Ideal) (iblk m c 0 t) (iblk m c 1 t) (iblk m c 2 t) (iblk m c 3 t) (iblk m c 4 t) (iblk m c 5 t) (iblk m c 6 t) (ix3 0 ⟨80 * g.val + e.val, by omega⟩ r)
      = val_main_v102 (F := Ideal) (Z m c) (ix3 (bt t) ⟨80 * g.val + e.val, by omega⟩ (pos t r)) := by
  frame_out
  rw [pay19_eq]
  refine (pay3_at _ _ r g e).trans (Eq.trans ?_ (v102_at (Z m c) (bt t) (pos t r) g e).symm)
  by_cases h : e.val < 64
  · exact (dif_pos h).trans (((values_of m c t 1 _ r (read2 m c t r) g ⟨e.val, h⟩).trans ((dif_pos h).trans (v85_at _ _ _ 1 g ⟨e.val, h⟩)).symm))
  · refine (dif_neg h).trans (one_eq.trans ?_)
    rw [dif_neg h]

theorem point14 (r : Fin 512) (g : Fin 4) (e : Fin 80) :
    out0_14 (F := Ideal) (iblk m c 0 t) (iblk m c 1 t) (iblk m c 2 t) (iblk m c 3 t) (iblk m c 4 t) (iblk m c 5 t) (iblk m c 6 t) (ix3 0 ⟨80 * g.val + e.val, by omega⟩ r)
      = val_main_v112 (F := Ideal) (Z m c) (ix3 (bt t) ⟨80 * g.val + e.val, by omega⟩ (pos t r)) := by
  frame_out
  rw [pay20_eq]
  refine (congrFun (pay5_eq _ _) _).trans ((pay3_at _ _ r g e).trans (Eq.trans ?_ (v112_at (Z m c) (bt t) (pos t r) g e).symm))
  by_cases h : e.val < 64
  · exact (dif_pos h).trans (((values_of m c t 2 _ r (read3 m c t r) g ⟨e.val, h⟩).trans ((dif_pos h).trans (v87_at _ _ _ 1 g ⟨e.val, h⟩)).symm))
  · refine (dif_neg h).trans (one_eq.trans ?_)
    rw [dif_neg h]

theorem final7 : (dats m 0 c).arrAt 7 (cfgs 0).N = val_main_v89 (F := Ideal) (Z m c) := by
  refine (dats m 0 c).arrAt_eq_of_covers 7 _ (by decide +kernel) fun t _ y => ?_
  blk_simp
  rw [after0_7]
  obtain ⟨a, r, f, rfl⟩ : ∃ (a : Fin 1) (r : Fin 512) (f : Fin 1024), y = ix3 a r f := ⟨y 0, y 1, y 2, ix3_of y⟩
  obtain rfl : a = 0 := Subsingleton.elim _ _
  obtain ⟨h, d, rfl⟩ := headOf (n := 16) f
  refine (point7 m c t r h d).trans (congrArg _ ?_)
  blk_ext [idx t, bt, pos]

theorem final8 : (dats m 0 c).arrAt 8 (cfgs 0).N = val_main_v90 (F := Ideal) (Z m c) := by
  refine (dats m 0 c).arrAt_eq_of_covers 8 _ (by decide +kernel) fun t _ y => ?_
  blk_simp
  rw [after0_8]
  obtain ⟨b, r, f, rfl⟩ : ∃ (b : Fin 1) (r f : Fin 512), y = ix3 b r f := ⟨y 0, y 1, y 2, ix3_of y⟩
  obtain rfl : b = 0 := Subsingleton.elim _ _
  obtain ⟨a, g, d, rfl⟩ := halfOf f
  refine (point8 m c t r a g d).trans (congrArg _ ?_)
  blk_ext [idx t, bt, pos]

theorem final9 : (dats m 0 c).arrAt 9 (cfgs 0).N = val_main_v91 (F := Ideal) (Z m c) := by
  refine (dats m 0 c).arrAt_eq_of_covers 9 _ (by decide +kernel) fun t _ y => ?_
  blk_simp
  rw [after0_9]
  obtain ⟨b, r, f, rfl⟩ : ∃ (b : Fin 1) (r f : Fin 512), y = ix3 b r f := ⟨y 0, y 1, y 2, ix3_of y⟩
  obtain rfl : b = 0 := Subsingleton.elim _ _
  obtain ⟨a, g, d, rfl⟩ := halfOf f
  refine (point9 m c t r a g d).trans (congrArg _ ?_)
  blk_ext [idx t, bt, pos]

theorem final10 : (dats m 0 c).arrAt 10 (cfgs 0).N = val_main_v92 (F := Ideal) (Z m c) := by
  refine (dats m 0 c).arrAt_eq_of_covers 10 _ (by decide +kernel) fun t _ y => ?_
  blk_simp
  rw [after0_10]
  obtain ⟨b, r, f, rfl⟩ : ∃ (b : Fin 1) (r f : Fin 512), y = ix3 b r f := ⟨y 0, y 1, y 2, ix3_of y⟩
  obtain rfl : b = 0 := Subsingleton.elim _ _
  obtain ⟨a, g, d, rfl⟩ := halfOf f
  refine (point10 m c t r a g d).trans (congrArg _ ?_)
  blk_ext [idx t, bt, pos]

theorem final11 : (dats m 0 c).arrAt 11 (cfgs 0).N = val_main_v96 (F := Ideal) (Z m c) := by
  refine (dats m 0 c).arrAt_eq_of_covers 11 _ (by decide +kernel) fun t _ y => ?_
  blk_simp
  rw [after0_11]
  obtain ⟨b, r, f, rfl⟩ : ∃ (b : Fin 1) (r : Fin 512) (f : Fin 256), y = ix3 b r f := ⟨y 0, y 1, y 2, ix3_of y⟩
  obtain rfl : b = 0 := Subsingleton.elim _ _
  obtain ⟨g, d, rfl⟩ := headOf (n := 4) f
  refine (point11 m c t r g d).trans (congrArg _ ?_)
  blk_ext [idx t, bt, pos]

theorem final13 : (dats m 0 c).arrAt 13 (cfgs 0).N = val_main_v106 (F := Ideal) (Z m c) := by
  refine (dats m 0 c).arrAt_eq_of_covers 13 _ (by decide +kernel) fun t _ y => ?_
  blk_simp
  rw [after0_13]
  obtain ⟨b, r, f, rfl⟩ : ∃ (b : Fin 1) (r : Fin 512) (f : Fin 256), y = ix3 b r f := ⟨y 0, y 1, y 2, ix3_of y⟩
  obtain rfl : b = 0 := Subsingleton.elim _ _
  obtain ⟨g, d, rfl⟩ := headOf (n := 4) f
  refine (point13 m c t r g d).trans (congrArg _ ?_)
  blk_ext [idx t, bt, pos]

theorem final12 : (dats m 0 c).arrAt 12 (cfgs 0).N = val_main_v102 (F := Ideal) (Z m c) := by
  refine (dats m 0 c).arrAt_eq_of_covers 12 _ (by decide +kernel) fun t _ y => ?_
  blk_simp
  rw [after0_12]
  obtain ⟨b, f, r, rfl⟩ : ∃ (b : Fin 1) (f : Fin 320) (r : Fin 512), y = ix3 b f r := ⟨y 0, y 1, y 2, ix3_of y⟩
  obtain rfl : b = 0 := Subsingleton.elim _ _
  obtain ⟨g, e, rfl⟩ := rowOf f
  refine (point12 m c t r g e).trans (congrArg _ ?_)
  blk_ext [idx t, bt, pos]

theorem final14 : (dats m 0 c).arrAt 14 (cfgs 0).N = val_main_v112 (F := Ideal) (Z m c) := by
  refine (dats m 0 c).arrAt_eq_of_covers 14 _ (by decide +kernel) fun t _ y => ?_
  blk_simp
  rw [after0_14]
  obtain ⟨b, f, r, rfl⟩ : ∃ (b : Fin 1) (f : Fin 320) (r : Fin 512), y = ix3 b f r := ⟨y 0, y 1, y 2, ix3_of y⟩
  obtain rfl : b = 0 := Subsingleton.elim _ _
  obtain ⟨g, e, rfl⟩ := rowOf f
  refine (point14 m c t r g e).trans (congrArg _ ?_)
  blk_ext [idx t, bt, pos]

end Cert.KernelRopeIdeal.Final
-- ==== Proof.AlgRope.lean ====
/-
  The claims about the rotation call's reference and kernel.
-/
module

public import proofs.«01_k».proof.Defs
public import proofs.«01_k».proof.Proof.RopeValue
public import proofs.«01_k».proof.Proof.Gen.RefRopeIdeal.Run
public import Idealize.ShloMosaic.Lib.Claim
public import Idealize.ShloMosaic.Lib.Quiescent

@[expose] public section

noncomputable section

namespace Cert.AlgRope

open Idealize.ShloMosaic Idealize.ShloMosaic.TcCoe Idealize.SL.Sem
open Cert.KernelRopeIdeal Cert.KernelRopeIdeal.Final Cert.RefRopeIdeal.Read

/-- The reference terminates, leaves its argument unchanged and no semaphore raised. -/
theorem reference_frame : Cert.quiescent_RefRopeIdeal (hRefRopeIdeal := Cert.RefRopeIdeal.Gen.facts) := by
  intro m g _
  exact (θ_run _ _ _).mono (fun r h => ⟨fun c => (h c).2.2.2.2.2.2.2.2, sem_eq_zero_of_no_sems rfl _⟩) (Cert.RefRopeIdeal.Value.run m g)

theorem algebraic : Cert.algebraic_KernelRopeIdeal_RefRopeIdeal (hKernelRopeIdeal := Cert.KernelRopeIdeal.Gen.facts)
    (hRefRopeIdeal := Cert.RefRopeIdeal.Gen.facts) := by
  intro m g m' g' _ hagree
  refine ⟨fun c => val_main_v89 (F := Ideal) (Z m c), fun c => val_main_v90 (F := Ideal) (Z m c), fun c => val_main_v91 (F := Ideal) (Z m c),
    fun c => val_main_v92 (F := Ideal) (Z m c), fun c => val_main_v96 (F := Ideal) (Z m c), fun c => val_main_v102 (F := Ideal) (Z m c),
    fun c => val_main_v106 (F := Ideal) (Z m c), fun c => val_main_v112 (F := Ideal) (Z m c), ?_, ?_⟩
  · refine (θ_run _ _ _).mono (fun r h c => ?_) (Cert.KernelRopeIdeal.Value.run_blocks m g)
    obtain ⟨h0, h1, h2, h3, h4, h5, h6, h7, hargs⟩ := h c
    exact ⟨h0.trans (Final.final7 m c), h1.trans (Final.final8 m c), h2.trans (Final.final9 m c), h3.trans (Final.final10 m c),
      h4.trans (Final.final11 m c), h5.trans (Final.final12 m c), h6.trans (Final.final13 m c), h7.trans (Final.final14 m c), hargs⟩
  · refine (θ_run _ _ _).mono (fun r h c => ?_) (Cert.RefRopeIdeal.Value.run m' g')
    obtain ⟨h0, h1, h2, h3, h4, h5, h6, h7, hargs⟩ := h c
    have e := hagree c
    exact ⟨(h0.trans (val_main_v89_eq (F := Ideal) m' c)).trans (congrArg (val_main_v89 (F := Ideal)) e),
      (h1.trans (val_main_v90_eq (F := Ideal) m' c)).trans (congrArg (val_main_v90 (F := Ideal)) e),
      (h2.trans (val_main_v91_eq (F := Ideal) m' c)).trans (congrArg (val_main_v91 (F := Ideal)) e),
      (h3.trans (val_main_v92_eq (F := Ideal) m' c)).trans (congrArg (val_main_v92 (F := Ideal)) e),
      (h4.trans (val_main_v96_eq (F := Ideal) m' c)).trans (congrArg (val_main_v96 (F := Ideal)) e),
      (h5.trans (val_main_v102_eq (F := Ideal) m' c)).trans (congrArg (val_main_v102 (F := Ideal)) e),
      (h6.trans (val_main_v106_eq (F := Ideal) m' c)).trans (congrArg (val_main_v106 (F := Ideal)) e),
      (h7.trans (val_main_v112_eq (F := Ideal) m' c)).trans (congrArg (val_main_v112 (F := Ideal)) e), hargs⟩

end Cert.AlgRope
-- ==== Proof.RotBody.lean ====
/-
  The sample's rotation call's body, read at an index.
-/
module

public import proofs.«01_k».proof.Proof.Rotation
public import proofs.«01_k».proof.Proof.Gen.KernelRotIdeal.Value
public import Idealize.ShloMosaic.Lib.Claim
public import Idealize.ShloMosaic.Lib.Pipeline.ValueKit

@[expose] public section

set_option maxRecDepth 16384

noncomputable section

namespace Cert.RotBody

open Cert.KernelRotIdeal Cert.KernelRotIdeal.Gen Cert.Rotation
open Idealize.ShloMosaic Idealize.ShloMosaic.TcCoe Idealize.SL.Sem

/-- A table block whose row `r` repeats `row (u r) (v r) w` every 64 columns. -/
abbrev Repeats (x : FVec Ideal S256x128 .f32) (r : Fin 256) (u v : Fin 8 → EReal) (w : EReal) : Prop :=
  ∀ (a : Fin 2) (d : Fin 64), x (ix2 r ⟨64 * a.val + d.val, by omega⟩) = row u v w d

variable {x0 x2 x4 : FVec Ideal S256x128 .f32} {r : Fin 256} {c s : Fin 8 → EReal}

/-- The queries. -/
theorem pay4_at (h0 : Repeats x0 r c c 1) (h2 : Repeats x2 r (fun _ => 0) s 0) (h4 : Repeats x4 r (fun k => -s k) (fun _ => 0) 0)
    (x6 : FVec Ideal S1x256x1024 .f32) (h : Fin 16) (d : Fin 64) :
    k0_pay4 (F := Ideal) x0 x2 x4 x6 (ix3 0 r ⟨64 * h.val + d.val, by omega⟩)
      = head (fun k => x6 (ix3 0 r ⟨64 * h.val + k.val, by omega⟩)) c s d := by
  pointwise [k0_pay4, k0_pay1, k0_pay2, k0_pay3]
  refine head_sum _ c s d rfl ?_ ?_ ?_ (fun e => congrArg x6 (congrArg (ix3 0 r) (Fin.ext ?_))) (fun e => congrArg x6 (congrArg (ix3 0 r) (Fin.ext ?_)))
  · repeat' first
      | exact col_eq (fun n => x0 (ix2 r n)) _ h0 d _ (by dsimp only; omega)
      | refine cases_eq (fun _ => ?_) (fun _ => ?_)
  · repeat' first
      | exact col_eq (fun n => x2 (ix2 r n)) _ h2 d _ (by dsimp only; omega)
      | refine cases_eq (fun _ => ?_) (fun _ => ?_)
  · repeat' first
      | exact col_eq (fun n => x4 (ix2 r n)) _ h4 d _ (by dsimp only; omega)
      | refine cases_eq (fun _ => ?_) (fun _ => ?_)
  · dsimp only; omega
  · dsimp only; omega

/-- One branch's keys. -/
theorem pay5_key (h0 : Repeats x0 r c c 1) (h2 : Repeats x2 r (fun _ => 0) s 0) (h4 : Repeats x4 r (fun k => -s k) (fun _ => 0) 0)
    (x6 : FVec Ideal S1x256x512 .f32) (g : Fin 4) (d : Fin 64) :
    k0_pay5 (F := Ideal) x0 x2 x4 x6 (ix2 r ⟨64 * g.val + d.val, by omega⟩)
      = head (fun k => x6 (ix3 0 r ⟨64 * g.val + k.val, by omega⟩)) c s d := by
  pointwise [k0_pay5, k0_pay1, k0_pay2, k0_pay3]
  refine (dif_pos (by omega)).trans ?_
  refine head_sum _ c s d rfl ?_ ?_ ?_ (fun e => congrArg x6 (congrArg (ix3 0 r) (Fin.ext ?_))) (fun e => congrArg x6 (congrArg (ix3 0 r) (Fin.ext ?_)))
  · repeat' first
      | exact col_eq (fun n => x0 (ix2 r n)) _ h0 d _ (by dsimp only; omega)
      | refine cases_eq (fun _ => ?_) (fun _ => ?_)
  · repeat' first
      | exact col_eq (fun n => x2 (ix2 r n)) _ h2 d _ (by dsimp only; omega)
      | refine cases_eq (fun _ => ?_) (fun _ => ?_)
  · repeat' first
      | exact col_eq (fun n => x4 (ix2 r n)) _ h4 d _ (by dsimp only; omega)
      | refine cases_eq (fun _ => ?_) (fun _ => ?_)
  · dsimp only; omega
  · dsimp only; omega

/-- One branch's values. -/
theorem pay5_value (x0 x2 x4 : FVec Ideal S256x128 .f32) (x6 : FVec Ideal S1x256x512 .f32) (r : Fin 256) (g : Fin 4) (d : Fin 64) :
    k0_pay5 (F := Ideal) x0 x2 x4 x6 (ix2 r ⟨256 + (64 * g.val + d.val), by omega⟩) = x6 (ix3 0 r ⟨256 + (64 * g.val + d.val), by omega⟩) := by
  pointwise [k0_pay5, k0_pay1, k0_pay2, k0_pay3]

theorem pay6_at (x : FVec Ideal S256x512 .f32) (r : Fin 256) (f : Fin 512) : k0_pay6 (F := Ideal) x (ix3 0 r f) = x (ix2 r f) := by
  pointwise [k0_pay6]

/-- The other branches' blocks are computed alike. -/
theorem pay7_eq (x0 x2 x4 : FVec Ideal S256x128 .f32) (x6 : FVec Ideal S1x256x512 .f32) :
    k0_pay7 (F := Ideal) (k0_pay1 x0) (k0_pay2 x2) (k0_pay3 x4) x6 = k0_pay6 (k0_pay5 x0 x2 x4 x6) := rfl
theorem pay8_eq (x0 x2 x4 : FVec Ideal S256x128 .f32) (x6 : FVec Ideal S1x256x512 .f32) :
    k0_pay8 (F := Ideal) (k0_pay1 x0) (k0_pay2 x2) (k0_pay3 x4) x6 = k0_pay6 (k0_pay5 x0 x2 x4 x6) := rfl

end Cert.RotBody
-- ==== Proof.RotRead.lean ====
/-
  The reference's rotated queries and key-value arrays of the sample, read at an index.
-/
module

public import proofs.«01_k».proof.Proof.Rotation
public import proofs.«01_k».proof.Proof.Reshape
public import proofs.«01_k».proof.Proof.Gen.RefRotIdeal.Read
public import Idealize.ShloMosaic.Lib.Claim
public import Idealize.ShloMosaic.Lib.Pipeline.ValueKit

@[expose] public section

set_option maxRecDepth 16384

noncomputable section

namespace Cert.RotRead

open Cert.RefRotIdeal Cert.RefRotIdeal.Read Cert.Rotation Cert.Reshape
open Idealize.ShloMosaic Idealize.ShloMosaic.TcCoe Idealize.SL.Sem

/-- The cosines and sines of a sequence's row `s`. -/
abbrev cosAt (s : Fin 8) (k : Fin 8) : EReal := val_main_v18 (F := Ideal) (ix2 s k)
abbrev sinAt (s : Fin 8) (k : Fin 8) : EReal := val_main_v20 (F := Ideal) (ix2 s k)

/-- The row of the call's arrays that row `s` of sequence `b` is. -/
abbrev line (b : Fin 32) (s : Fin 8) : Fin 256 := ⟨8 * b.val + s.val, by omega⟩

variable (z : FVec Ideal S1x256x9216 .f32) (b : Fin 32) (s : Fin 8)

theorem line_eq : (0 : Fin 1).val * 256 + (line b s).val = b.val * 8 + s.val := by
  show 0 * 256 + (8 * b.val + s.val) = b.val * 8 + s.val
  omega

theorem v0_at (f : Fin 9216) : val_main_v0 (F := Ideal) z (ix3 b s f) = z (ix3 0 (line b s) f) := by
  unfold val_main_v0
  refine shapeCast_apply _ _ (ix3 b s f) (ix3 0 (line b s) f) ?_
  rewrite [Shape.rowMajor_val_three, Shape.rowMajor_val_three]
  show (0 * 256 + (8 * b.val + s.val)) * 9216 + f.val = (b.val * 8 + s.val) * 9216 + f.val
  omega

theorem v5_at (h : Fin 16) (d : Fin 64) : val_main_v5 (F := Ideal) z (ix4 b s h d) = z (ix3 0 (line b s) ⟨4096 + (64 * h.val + d.val), by omega⟩) := by
  refine (heads_at _ _ b s h d).trans (Eq.trans ?_ (v0_at z b s _))
  pointwise [val_main_v4]

theorem v39_at (h : Fin 16) (d : Fin 64) : val_main_v39 (F := Ideal) z (ix4 b s h d)
    = head (fun k => z (ix3 0 (line b s) ⟨4096 + (64 * h.val + k.val), by omega⟩)) (cosAt s) (sinAt s) d := by
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v19]
  simp only [v5_at]
  rfl

/-- The queries. -/
theorem v91_at (h : Fin 16) (d : Fin 64) : val_main_v91 (F := Ideal) z (ix3 0 (line b s) ⟨64 * h.val + d.val, by omega⟩)
    = head (fun k => z (ix3 0 (line b s) ⟨4096 + (64 * h.val + k.val), by omega⟩)) (cosAt s) (sinAt s) d :=
  (row_of_heads _ _ b s 0 (line b s) (line_eq b s) h d).trans (v39_at z b s h d)

theorem v41_at (i : Fin 3) (a : Fin 2) (g : Fin 4) (d : Fin 64) : val_main_v41 (F := Ideal) z (ix6 b s i a g d) = z (ix3 0 (line b s) (col i a g d)) := by
  refine (parts_at _ _ b s i a g d).trans (Eq.trans ?_ (v0_at z b s _))
  pointwise [val_main_v40]

theorem v44_at (i : Fin 3) (g : Fin 4) (d : Fin 64) :
    val_main_v44 (F := Ideal) z (ix4 b s ⟨4 * i.val + g.val, by omega⟩ d) = z (ix3 0 (line b s) (col i 0 g d)) := by
  refine (twelve_at _ _ b s i g d).trans ((half_at _ _ b s i g d).trans (Eq.trans ?_ (v41_at z b s i 0 g d)))
  pointwise [val_main_v42]

theorem v57_eq : val_main_v57 (F := Ideal) = val_main_v18 (F := Ideal) := rfl
theorem v59_eq : val_main_v59 (F := Ideal) = val_main_v20 (F := Ideal) := rfl

theorem v65_at (h : Fin 12) (k : Fin 8) : val_main_v65 (F := Ideal) (ix4 b s h k) = cosAt s k :=
  (val_main_v65_apply _).trans ((val_main_v64_apply _).trans ((val_main_v58_apply _).trans
    ((congrArg _ (ext2 rfl rfl)).trans (congrFun v57_eq (ix2 s k)))))
theorem v68_at (h : Fin 12) (k : Fin 8) : val_main_v68 (F := Ideal) (ix4 b s h k) = sinAt s k :=
  (val_main_v68_apply _).trans ((val_main_v67_apply _).trans ((val_main_v60_apply _).trans
    ((congrArg _ (ext2 rfl rfl)).trans (congrFun v59_eq (ix2 s k)))))
theorem v72_at (h : Fin 12) (k : Fin 8) : val_main_v72 (F := Ideal) (ix4 b s h k) = cosAt s k :=
  (val_main_v72_apply _).trans ((val_main_v71_apply _).trans ((val_main_v58_apply _).trans
    ((congrArg _ (ext2 rfl rfl)).trans (congrFun v57_eq (ix2 s k)))))
theorem v75_at (h : Fin 12) (k : Fin 8) : val_main_v75 (F := Ideal) (ix4 b s h k) = sinAt s k :=
  (val_main_v75_apply _).trans ((val_main_v74_apply _).trans ((val_main_v60_apply _).trans
    ((congrArg _ (ext2 rfl rfl)).trans (congrFun v59_eq (ix2 s k)))))
theorem v61_at (h : Fin 12) (k : Fin 8) : val_main_v61 (F := Ideal) z (ix4 b s h k) = val_main_v44 (F := Ideal) z (ix4 b s h ⟨k.val, by omega⟩) :=
  (val_main_v61_apply _ _).trans (congrArg _ (ext4 rfl rfl rfl rfl))
theorem v62_at (h : Fin 12) (k : Fin 8) : val_main_v62 (F := Ideal) z (ix4 b s h k) = val_main_v44 (F := Ideal) z (ix4 b s h ⟨8 + k.val, by omega⟩) :=
  (val_main_v62_apply _ _).trans (congrArg _ (ext4 rfl rfl rfl rfl))
theorem v63_at (h : Fin 12) (k : Fin 48) : val_main_v63 (F := Ideal) z (ix4 b s h k) = val_main_v44 (F := Ideal) z (ix4 b s h ⟨16 + k.val, by omega⟩) :=
  (val_main_v63_apply _ _).trans (congrArg _ (ext4 rfl rfl rfl rfl))

/-- The keys of all branches. -/
theorem v78_at (i : Fin 3) (g : Fin 4) (d : Fin 64) : val_main_v78 (F := Ideal) z (ix4 b s ⟨4 * i.val + g.val, by omega⟩ d)
    = head (fun k => z (ix3 0 (line b s) (col i 0 g k))) (cosAt s) (sinAt s) d := by
  pointwise [val_main_v78]
  simp only [val_main_v77_apply, val_main_v76_apply, val_main_v73_apply, val_main_v70_apply, val_main_v69_apply, val_main_v66_apply,
    v61_at, v62_at, v63_at, v65_at, v68_at, v72_at, v75_at, v44_at]
  rfl

theorem v81_at (i : Fin 3) (g : Fin 4) (d : Fin 64) : val_main_v81 (F := Ideal) z (ix5 b s i g d) = z (ix3 0 (line b s) (col i 1 g d)) := by
  refine (half_at _ _ b s i g d).trans ?_
  pointwise [val_main_v80]
  exact v41_at z b s i 1 g d

/-- The stacked keys and values. -/
theorem key_at (i : Fin 3) (g : Fin 4) (d : Fin 64) : val_main_v84 (F := Ideal) z (ix6 b s i 0 g d)
    = head (fun k => z (ix3 0 (line b s) (col i 0 g k))) (cosAt s) (sinAt s) d := by
  pointwise [val_main_v84]
  exact (val_main_v82_apply _ _).trans ((congrArg _ (ext5 rfl rfl rfl rfl rfl)).trans ((three_at _ _ b s i g d).trans (v78_at z b s i g d)))
theorem value_at (i : Fin 3) (g : Fin 4) (d : Fin 64) : val_main_v84 (F := Ideal) z (ix6 b s i 1 g d) = z (ix3 0 (line b s) (col i 1 g d)) := by
  pointwise [val_main_v84]
  exact (val_main_v83_apply _ _).trans ((congrArg _ (ext5 rfl rfl rfl rfl rfl)).trans (v81_at z b s i g d))

/-- The three results of keys and values. -/
theorem v92_at (a : Fin 2) (g : Fin 4) (d : Fin 64) : val_main_v92 (F := Ideal) z (ix3 0 (line b s) ⟨256 * a.val + 64 * g.val + d.val, by omega⟩)
    = val_main_v84 (F := Ideal) z (ix6 b s 0 a g d) :=
  (row_of_branch _ _ b s 0 (line b s) (line_eq b s) a g d).trans ((branch_at _ _ b s a g d).trans
    ((val_main_v85_apply _ _).trans (congrArg _ (ext6 rfl rfl rfl rfl rfl rfl))))
theorem v93_at (a : Fin 2) (g : Fin 4) (d : Fin 64) : val_main_v93 (F := Ideal) z (ix3 0 (line b s) ⟨256 * a.val + 64 * g.val + d.val, by omega⟩)
    = val_main_v84 (F := Ideal) z (ix6 b s 1 a g d) :=
  (row_of_branch _ _ b s 0 (line b s) (line_eq b s) a g d).trans ((branch_at _ _ b s a g d).trans
    ((val_main_v87_apply _ _).trans (congrArg _ (ext6 rfl rfl rfl rfl rfl rfl))))
theorem v94_at (a : Fin 2) (g : Fin 4) (d : Fin 64) : val_main_v94 (F := Ideal) z (ix3 0 (line b s) ⟨256 * a.val + 64 * g.val + d.val, by omega⟩)
    = val_main_v84 (F := Ideal) z (ix6 b s 2 a g d) :=
  (row_of_branch _ _ b s 0 (line b s) (line_eq b s) a g d).trans ((branch_at _ _ b s a g d).trans
    ((val_main_v89_apply _ _).trans (congrArg _ (ext6 rfl rfl rfl rfl rfl rfl))))

end Cert.RotRead
-- ==== Proof.RotTable.lean ====
/-
  The tables the host prepares for the sample's rotation call: the cosines and sines of a sequence's eight rows, the
  same for every sequence, laid out over a head's columns, twice over a row.
-/
module

public import proofs.«01_k».proof.Proof.Rotation
public import proofs.«01_k».proof.Proof.RotRead
public import proofs.«01_k».proof.Proof.Gen.KernelRotIdeal.Value
public import Idealize.ShloMosaic.Lib.Claim
public import Idealize.ShloMosaic.Lib.Pipeline.ValueKit

@[expose] public section

set_option maxRecDepth 16384

noncomputable section

namespace Cert.RotTable

open Cert.KernelRotIdeal Cert.KernelRotIdeal.Gen Cert.Rotation Cert.RotRead
open Cert.RefRotIdeal.Read (val_main_v3 val_main_v12 val_main_v13 val_main_v14 val_main_v15 val_main_v16 val_main_v17 val_main_v18 val_main_v20)
open Idealize.ShloMosaic Idealize.ShloMosaic.TcCoe Idealize.SL.Sem

variable (m : (ℓ : Loc nD τ sig) → Buf (Elt Ideal) ℓ)

/-- The positions of the 256 rows: those of one sequence's eight rows, for each of the 32 sequences. -/
def places : IVec S256 32 :=
  shapeCast S256 (broadcastInDim S32x8 ![0, 1] bcast_S1x8_S32x8_0_1 (shapeCast S1x8 (val_main_v3 (F := Ideal)) shapeCasts_S8_S1x8)) shapeCasts_S32x8_S256
def angles : FVec Ideal S256x8 .f32 :=
  mulf (broadcastInDim S256x8 ![0, 1] bcast_S256x1_S256x8_0_1 (broadcastInDim S256x1 ![0] bcast_S256_S256x1_0 (sitofp (F := Ideal) .f32 places)))
    (broadcastInDim S256x8 ![0, 1] bcast_S1x8_S256x8_0_1 (val_main_v14 (F := Ideal)))
def cosines : FVec Ideal S256x8 .f32 := Host.cos angles
def sines : FVec Ideal S256x8 .f32 := Host.sin angles

/-- Eight columns, eight columns and 48 columns side by side. -/
def joined (u v : FVec Ideal S256x8 .f32) (w : FVec Ideal S256x48 .f32) : FVec Ideal S256x64 .f32 :=
  concatenate S256x64 1 [⟨S256x8, u⟩, ⟨S256x8, v⟩, ⟨S256x48, w⟩] concatenates_S256x8_S256x8_S256x48_S256x64_d1
def twice (x : FVec Ideal S256x64 .f32) : FVec Ideal S256x128 .f32 :=
  concatenate S256x128 1 [⟨S256x64, x⟩, ⟨S256x64, x⟩] concatenates_S256x64_S256x64_S256x128_d1
def zeros8 : FVec Ideal S256x8 .f32 := broadcastInDim S256x8 ![] bcast_S_S256x8 (constant (F := Ideal) S_ .f32 0x00000000#32)
def zeros48 : FVec Ideal S256x48 .f32 := broadcastInDim S256x48 ![] bcast_S_S256x48 (constant (F := Ideal) S_ .f32 0x00000000#32)
def ones48 : FVec Ideal S256x48 .f32 := broadcastInDim S256x48 ![] bcast_S_S256x48 (constant (F := Ideal) S_ .f32 0x3F800000#32)
def cosTable : FVec Ideal S256x64 .f32 := joined cosines cosines ones48
def sinTable : FVec Ideal S256x64 .f32 := joined zeros8 sines zeros48
def negTable : FVec Ideal S256x64 .f32 := joined (Host.negf (F := Ideal) (s := S256x8) (φ := .f32) sines) zeros8 zeros48

theorem cos_eq (c : Dev nD) : V m c main_v27 = twice cosTable := by rfl
theorem sin_eq (c : Dev nD) : V m c main_v28 = twice sinTable := by rfl
theorem neg_eq (c : Dev nD) : V m c main_v29 = twice negTable := by rfl

variable (b : Fin 32) (s : Fin 8)

theorem places_at : places (ix1 (line b s)) = val_main_v3 (F := Ideal) (ix1 s) := by
  unfold places
  refine (shapeCast_apply _ _ (ix1 (line b s)) (ix2 b s) ?_).trans ?_
  · rewrite [Shape.rowMajor_val_two, Shape.rowMajor_val_one]
    show b.val * 8 + s.val = 8 * b.val + s.val
    omega
  refine (broadcastInDim_apply _ bcast_S1x8_S32x8_0_1 _ (ix2 b s) (ix2 0 s) fun a => match a with | ⟨0, _⟩ => rfl | ⟨1, _⟩ => rfl).trans ?_
  refine shapeCast_apply _ _ (ix2 0 s) (ix1 s) ?_
  rewrite [Shape.rowMajor_val_two, Shape.rowMajor_val_one]
  show s.val = 0 * 8 + s.val
  omega

theorem angles_at (k : Fin 8) : angles (ix2 (line b s) k) = val_main_v17 (F := Ideal) (ix2 s k) := by
  pointwise [angles, val_main_v17, val_main_v16, val_main_v15, val_main_v13, val_main_v12]
  rw [places_at]

theorem cosines_at (k : Fin 8) : cosines (ix2 (line b s) k) = cosAt s k :=
  congrArg (Host.cos (F := Ideal) (s := S_) (φ := .f32) fun _ => ·) (angles_at b s k) |> fun h => congrFun h default
theorem sines_at (k : Fin 8) : sines (ix2 (line b s) k) = sinAt s k :=
  congrArg (Host.sin (F := Ideal) (s := S_) (φ := .f32) fun _ => ·) (angles_at b s k) |> fun h => congrFun h default

theorem twice_at (x : FVec Ideal S256x64 .f32) (r : Fin 256) (a : Fin 2) (d : Fin 64) :
    twice x (ix2 r ⟨64 * a.val + d.val, by omega⟩) = x (ix2 r d) := by
  pointwise [twice]
  exact cases_eq (fun _ => congrArg x (congrArg (ix2 r) (Fin.ext (by dsimp only; omega))))
    (fun _ => congrArg x (congrArg (ix2 r) (Fin.ext (by dsimp only; omega))))

theorem cosTable_at (d : Fin 64) : cosTable (ix2 (line b s) d) = row (cosAt s) (cosAt s) 1 d := by
  pointwise [cosTable, joined, ones48]
  simp only [cosines_at]
  rfl
theorem sinTable_at (d : Fin 64) : sinTable (ix2 (line b s) d) = row (fun _ => 0) (sinAt s) 0 d := by
  pointwise [sinTable, joined, zeros8, zeros48]
  simp only [sines_at]
  rfl
theorem negTable_at (d : Fin 64) : negTable (ix2 (line b s) d) = row (fun k => -sinAt s k) (fun _ => 0) 0 d := by
  pointwise [negTable, joined, zeros8, zeros48]
  simp only [sines_at]
  rfl

end Cert.RotTable
-- ==== Proof.RotValue.lean ====
/-
  The sample's rotation call's result arrays are the reference's results.
-/
module

public import proofs.«01_k».proof.Proof.RotBody
public import proofs.«01_k».proof.Proof.RotTable
public import proofs.«01_k».proof.Proof.RotRead

@[expose] public section

set_option maxRecDepth 16384

noncomputable section

namespace Cert.KernelRotIdeal.Final

open Cert.KernelRotIdeal Cert.KernelRotIdeal.Gen Cert.RefRotIdeal.Read Cert.Rotation Cert.Reshape Cert.RotRead Cert.RotBody Cert.RotTable
open Idealize.ShloMosaic Idealize.ShloMosaic.TcCoe Idealize.SL.Sem
open Idealize.ShloMosaic.Pipeline (Dat)

variable (m : (ℓ : Loc nD τ sig) → Buf (Elt Ideal) ℓ)

/-- The grid has one point: the blocks are the queries, the three key-value arrays and the whole tables. -/
theorem idx : ∀ t : Fin cfg0.N, win0_0.index t = ![0, 0, 4] ∧ win0_1.index t = ![0, 0, 14]
    ∧ win0_2.index t = ![0, 0, 15] ∧ win0_3.index t = ![0, 0, 16]
    ∧ win0_4.index t = ![0, 0] ∧ win0_5.index t = ![0, 0] ∧ win0_6.index t = ![0, 0]
    ∧ win0_7.index t = ![0, 0, 0] ∧ win0_8.index t = ![0, 0, 0]
    ∧ win0_9.index t = ![0, 0, 0] ∧ win0_10.index t = ![0, 0, 0] :=
  (by decide +kernel : ∀ t : Fin grid0.N, _)

/-- The call's argument on device `c`. -/
abbrev Z (c : Dev nD) : FVec Ideal S1x256x9216 .f32 := m ((c : Thread nD τ).loc main_arg0)

variable (c : Dev nD) (t : Fin cfg0.N)

theorem read0 (r : Fin 256) (f : Fin 1024) : (iblk m c 0 t : FVec Ideal S1x256x1024 .f32) (ix3 0 r f)
    = Z m c (ix3 0 r ⟨4096 + f.val, by omega⟩) := by
  blk_ext [iblk, V, idx t]
theorem read1 (r : Fin 256) (f : Fin 512) : (iblk m c 1 t : FVec Ideal S1x256x512 .f32) (ix3 0 r f)
    = Z m c (ix3 0 r ⟨7168 + 512 * (0 : Fin 3).val + f.val, by omega⟩) := by
  have e : (iblk m c 1 t : FVec Ideal S1x256x512 .f32) (ix3 0 r f) = Z m c (ix3 0 r ⟨7168 + f.val, by omega⟩) := by
    blk_ext [iblk, V, idx t]
  refine e.trans (congrArg (Z m c) (congrArg (ix3 _ _) (Fin.ext ?_)))
  show 7168 + f.val = 7168 + 512 * 0 + f.val
  omega
theorem read2 (r : Fin 256) (f : Fin 512) : (iblk m c 2 t : FVec Ideal S1x256x512 .f32) (ix3 0 r f)
    = Z m c (ix3 0 r ⟨7168 + 512 * (1 : Fin 3).val + f.val, by omega⟩) := by
  have e : (iblk m c 2 t : FVec Ideal S1x256x512 .f32) (ix3 0 r f) = Z m c (ix3 0 r ⟨7680 + f.val, by omega⟩) := by
    blk_ext [iblk, V, idx t]
  refine e.trans (congrArg (Z m c) (congrArg (ix3 _ _) (Fin.ext ?_)))
  show 7680 + f.val = 7168 + 512 * 1 + f.val
  omega
theorem read3 (r : Fin 256) (f : Fin 512) : (iblk m c 3 t : FVec Ideal S1x256x512 .f32) (ix3 0 r f)
    = Z m c (ix3 0 r ⟨7168 + 512 * (2 : Fin 3).val + f.val, by omega⟩) := by
  have e : (iblk m c 3 t : FVec Ideal S1x256x512 .f32) (ix3 0 r f) = Z m c (ix3 0 r ⟨8192 + f.val, by omega⟩) := by
    blk_ext [iblk, V, idx t]
  refine e.trans (congrArg (Z m c) (congrArg (ix3 _ _) (Fin.ext ?_)))
  show 8192 + f.val = 7168 + 512 * 2 + f.val
  omega
theorem read4 (r : Fin 256) (f : Fin 128) : (iblk m c 4 t : FVec Ideal S256x128 .f32) (ix2 r f) = twice cosTable (ix2 r f) := by
  blk_simp [iblk]; rw [cos_eq]; blk_ext [idx t]
theorem read5 (r : Fin 256) (f : Fin 128) : (iblk m c 5 t : FVec Ideal S256x128 .f32) (ix2 r f) = twice sinTable (ix2 r f) := by
  blk_simp [iblk]; rw [sin_eq]; blk_ext [idx t]
theorem read6 (r : Fin 256) (f : Fin 128) : (iblk m c 6 t : FVec Ideal S256x128 .f32) (ix2 r f) = twice negTable (ix2 r f) := by
  blk_simp [iblk]; rw [neg_eq]; blk_ext [idx t]

variable (b : Fin 32) (s : Fin 8)

theorem repeats4 : Repeats (iblk m c 4 t) (line b s) (cosAt s) (cosAt s) 1 :=
  fun a d => (read4 m c t _ _).trans ((twice_at _ _ a d).trans (cosTable_at b s d))
theorem repeats5 : Repeats (iblk m c 5 t) (line b s) (fun _ => 0) (sinAt s) 0 :=
  fun a d => (read5 m c t _ _).trans ((twice_at _ _ a d).trans (sinTable_at b s d))
theorem repeats6 : Repeats (iblk m c 6 t) (line b s) (fun k => -sinAt s k) (fun _ => 0) 0 :=
  fun a d => (read6 m c t _ _).trans ((twice_at _ _ a d).trans (negTable_at b s d))

/-- One branch's rows, keys rotated and values kept, are the reference's. -/
theorem rotated (i : Fin 3) (x : FVec Ideal S1x256x512 .f32)
    (hx : ∀ f : Fin 512, x (ix3 0 (line b s) f) = Z m c (ix3 0 (line b s) ⟨7168 + 512 * i.val + f.val, by omega⟩)) (a : Fin 2) (g : Fin 4) (d : Fin 64) :
    k0_pay5 (F := Ideal) (iblk m c 4 t) (iblk m c 5 t) (iblk m c 6 t) x (ix2 (line b s) ⟨256 * a.val + 64 * g.val + d.val, by omega⟩)
      = val_main_v84 (F := Ideal) (Z m c) (ix6 b s i a g d) := by
  match a with
  | ⟨0, _⟩ =>
    refine (congrArg _ (congrArg (ix2 (line b s)) (Fin.ext ?_))).trans ((pay5_key (repeats4 m c t b s) (repeats5 m c t b s) (repeats6 m c t b s) x g d).trans
      (Eq.trans ?_ (key_at (Z m c) b s i g d).symm))
    · dsimp only; omega
    · refine congrArg (fun y => head y _ _ d) (funext fun k => (hx _).trans (congrArg (Z m c) (congrArg (ix3 _ _) (Fin.ext ?_))))
      show 7168 + 512 * i.val + (64 * g.val + k.val) = 7168 + (512 * i.val + 256 * 0 + 64 * g.val + k.val)
      omega
  | ⟨1, _⟩ =>
    refine (congrArg _ (congrArg (ix2 (line b s)) (Fin.ext ?_))).trans ((pay5_value _ _ _ x (line b s) g d).trans
      ((hx _).trans (Eq.trans ?_ (value_at (Z m c) b s i g d).symm)))
    · dsimp only; omega
    · refine congrArg (Z m c) (congrArg (ix3 _ _) (Fin.ext ?_))
      show 7168 + 512 * i.val + (256 + (64 * g.val + d.val)) = 7168 + (512 * i.val + 256 * 1 + 64 * g.val + d.val)
      omega

/-- A load of a whole table is the table. -/
theorem ld_table (x : Vec Ideal S256x128 .f32) : View.ld x r0_0 = x :=
  View.ld_unit_lit (Val := Elt Ideal) (S := S256x128) (e := .f32) (off := ![0, 0]) inb_S256x128_S256x128_0_0 x (by decide)

section
variable (x0 : FVec Ideal S1x256x1024 .f32) (x1 x2 x3 : FVec Ideal S1x256x512 .f32) (x4 x5 x6 : FVec Ideal S256x128 .f32)
/-- The values the later stores share, over the loaded tables. -/
theorem pay9_eq : k0_pay9 (F := Ideal) x0 x1 x2 x3 x4 x5 x6 = k0_pay1 x4 := congrArg k0_pay1 (ld_table x4)
theorem pay10_eq : k0_pay10 (F := Ideal) x0 x1 x2 x3 x4 x5 x6 = k0_pay2 x5 := congrArg k0_pay2 (ld_table x5)
theorem pay11_eq : k0_pay11 (F := Ideal) x0 x1 x2 x3 x4 x5 x6 = k0_pay3 x6 := congrArg k0_pay3 (ld_table x6)
end

theorem point7 (h : Fin 16) (d : Fin 64) :
    out0_7 (F := Ideal) (iblk m c 0 t) (iblk m c 1 t) (iblk m c 2 t) (iblk m c 3 t) (iblk m c 4 t) (iblk m c 5 t) (iblk m c 6 t) (ix3 0 (line b s) ⟨64 * h.val + d.val, by omega⟩)
      = val_main_v91 (F := Ideal) (Z m c) (ix3 0 (line b s) ⟨64 * h.val + d.val, by omega⟩) := by
  frame_out
  refine (pay4_at (repeats4 m c t b s) (repeats5 m c t b s) (repeats6 m c t b s) _ h d).trans (Eq.trans ?_ (v91_at (Z m c) b s h d).symm)
  exact congrArg (fun y => head y _ _ d) (funext fun k => read0 m c t (line b s) _)

theorem point8 (a : Fin 2) (g : Fin 4) (d : Fin 64) :
    out0_8 (F := Ideal) (iblk m c 0 t) (iblk m c 1 t) (iblk m c 2 t) (iblk m c 3 t) (iblk m c 4 t) (iblk m c 5 t) (iblk m c 6 t) (ix3 0 (line b s) ⟨256 * a.val + 64 * g.val + d.val, by omega⟩)
      = val_main_v92 (F := Ideal) (Z m c) (ix3 0 (line b s) ⟨256 * a.val + 64 * g.val + d.val, by omega⟩) := by
  frame_out
  exact (pay6_at _ _ _).trans ((rotated m c t b s 0 _ (read1 m c t (line b s)) a g d).trans (v92_at _ b s a g d).symm)

theorem point9 (a : Fin 2) (g : Fin 4) (d : Fin 64) :
    out0_9 (F := Ideal) (iblk m c 0 t) (iblk m c 1 t) (iblk m c 2 t) (iblk m c 3 t) (iblk m c 4 t) (iblk m c 5 t) (iblk m c 6 t) (ix3 0 (line b s) ⟨256 * a.val + 64 * g.val + d.val, by omega⟩)
      = val_main_v93 (F := Ideal) (Z m c) (ix3 0 (line b s) ⟨256 * a.val + 64 * g.val + d.val, by omega⟩) := by
  frame_out
  rw [pay9_eq, pay10_eq, pay11_eq, pay7_eq]
  exact (pay6_at _ _ _).trans ((rotated m c t b s 1 _ (read2 m c t (line b s)) a g d).trans (v93_at _ b s a g d).symm)

theorem point10 (a : Fin 2) (g : Fin 4) (d : Fin 64) :
    out0_10 (F := Ideal) (iblk m c 0 t) (iblk m c 1 t) (iblk m c 2 t) (iblk m c 3 t) (iblk m c 4 t) (iblk m c 5 t) (iblk m c 6 t) (ix3 0 (line b s) ⟨256 * a.val + 64 * g.val + d.val, by omega⟩)
      = val_main_v94 (F := Ideal) (Z m c) (ix3 0 (line b s) ⟨256 * a.val + 64 * g.val + d.val, by omega⟩) := by
  frame_out
  rw [pay9_eq, pay10_eq, pay11_eq, pay8_eq]
  exact (pay6_at _ _ _).trans ((rotated m c t b s 2 _ (read3 m c t (line b s)) a g d).trans (v94_at _ b s a g d).symm)

theorem lineOf (r : Fin 256) : ∃ (b : Fin 32) (s : Fin 8), r = line b s :=
  ⟨⟨r.val / 8, by omega⟩, ⟨r.val % 8, by omega⟩, Fin.ext (by dsimp only; omega)⟩

theorem final7 : (dats m 0 c).arrAt 7 (cfgs 0).N = val_main_v91 (F := Ideal) (Z m c) := by
  refine (dats m 0 c).arrAt_eq_of_covers 7 _ (by decide +kernel) fun t _ y => ?_
  blk_simp
  rw [after0_7]
  obtain ⟨a, r, f, rfl⟩ : ∃ (a : Fin 1) (r : Fin 256) (f : Fin 1024), y = ix3 a r f := ⟨y 0, y 1, y 2, ix3_of y⟩
  obtain rfl : a = 0 := Subsingleton.elim _ _
  obtain ⟨h, d, rfl⟩ := headOf (n := 16) f
  obtain ⟨b, s, rfl⟩ := lineOf r
  refine (point7 m c t b s h d).trans (congrArg _ ?_)
  blk_ext [idx t]

theorem final8 : (dats m 0 c).arrAt 8 (cfgs 0).N = val_main_v92 (F := Ideal) (Z m c) := by
  refine (dats m 0 c).arrAt_eq_of_covers 8 _ (by decide +kernel) fun t _ y => ?_
  blk_simp
  rw [after0_8]
  obtain ⟨u, r, f, rfl⟩ : ∃ (u : Fin 1) (r : Fin 256) (f : Fin 512), y = ix3 u r f := ⟨y 0, y 1, y 2, ix3_of y⟩
  obtain rfl : u = 0 := Subsingleton.elim _ _
  obtain ⟨a, g, d, rfl⟩ := halfOf f
  obtain ⟨b, s, rfl⟩ := lineOf r
  refine (point8 m c t b s a g d).trans (congrArg _ ?_)
  blk_ext [idx t]

theorem final9 : (dats m 0 c).arrAt 9 (cfgs 0).N = val_main_v93 (F := Ideal) (Z m c) := by
  refine (dats m 0 c).arrAt_eq_of_covers 9 _ (by decide +kernel) fun t _ y => ?_
  blk_simp
  rw [after0_9]
  obtain ⟨u, r, f, rfl⟩ : ∃ (u : Fin 1) (r : Fin 256) (f : Fin 512), y = ix3 u r f := ⟨y 0, y 1, y 2, ix3_of y⟩
  obtain rfl : u = 0 := Subsingleton.elim _ _
  obtain ⟨a, g, d, rfl⟩ := halfOf f
  obtain ⟨b, s, rfl⟩ := lineOf r
  refine (point9 m c t b s a g d).trans (congrArg _ ?_)
  blk_ext [idx t]

theorem final10 : (dats m 0 c).arrAt 10 (cfgs 0).N = val_main_v94 (F := Ideal) (Z m c) := by
  refine (dats m 0 c).arrAt_eq_of_covers 10 _ (by decide +kernel) fun t _ y => ?_
  blk_simp
  rw [after0_10]
  obtain ⟨u, r, f, rfl⟩ : ∃ (u : Fin 1) (r : Fin 256) (f : Fin 512), y = ix3 u r f := ⟨y 0, y 1, y 2, ix3_of y⟩
  obtain rfl : u = 0 := Subsingleton.elim _ _
  obtain ⟨a, g, d, rfl⟩ := halfOf f
  obtain ⟨b, s, rfl⟩ := lineOf r
  refine (point10 m c t b s a g d).trans (congrArg _ ?_)
  blk_ext [idx t]

end Cert.KernelRotIdeal.Final
-- ==== Proof.AlgRot.lean ====
/-
  The claims about the sample's rotation call's reference and kernel.
-/
module

public import proofs.«01_k».proof.Defs
public import proofs.«01_k».proof.Proof.RotValue
public import proofs.«01_k».proof.Proof.Gen.RefRotIdeal.Run
public import Idealize.ShloMosaic.Lib.Claim
public import Idealize.ShloMosaic.Lib.Quiescent

@[expose] public section

noncomputable section

namespace Cert.AlgRot

open Idealize.ShloMosaic Idealize.ShloMosaic.TcCoe Idealize.SL.Sem
open Cert.KernelRotIdeal Cert.KernelRotIdeal.Final Cert.RefRotIdeal.Read

/-- The reference terminates, leaves its argument unchanged and no semaphore raised. -/
theorem reference_frame : Cert.quiescent_RefRotIdeal (hRefRotIdeal := Cert.RefRotIdeal.Gen.facts) := by
  intro m g _
  exact (θ_run _ _ _).mono (fun r h => ⟨fun c => (h c).2.2.2.2, sem_eq_zero_of_no_sems rfl _⟩) (Cert.RefRotIdeal.Value.run m g)

theorem algebraic : Cert.algebraic_KernelRotIdeal_RefRotIdeal (hKernelRotIdeal := Cert.KernelRotIdeal.Gen.facts)
    (hRefRotIdeal := Cert.RefRotIdeal.Gen.facts) := by
  intro m g m' g' _ hagree
  refine ⟨fun c => val_main_v91 (F := Ideal) (Z m c), fun c => val_main_v92 (F := Ideal) (Z m c), fun c => val_main_v93 (F := Ideal) (Z m c),
    fun c => val_main_v94 (F := Ideal) (Z m c), ?_, ?_⟩
  · refine (θ_run _ _ _).mono (fun r h c => ?_) (Cert.KernelRotIdeal.Value.run_blocks m g)
    obtain ⟨h0, h1, h2, h3, hargs⟩ := h c
    exact ⟨h0.trans (Final.final7 m c), h1.trans (Final.final8 m c), h2.trans (Final.final9 m c), h3.trans (Final.final10 m c), hargs⟩
  · refine (θ_run _ _ _).mono (fun r h c => ?_) (Cert.RefRotIdeal.Value.run m' g')
    obtain ⟨h0, h1, h2, h3, hargs⟩ := h c
    have e := hagree c
    exact ⟨(h0.trans (val_main_v91_eq (F := Ideal) m' c)).trans (congrArg (val_main_v91 (F := Ideal)) e),
      (h1.trans (val_main_v92_eq (F := Ideal) m' c)).trans (congrArg (val_main_v92 (F := Ideal)) e),
      (h2.trans (val_main_v93_eq (F := Ideal) m' c)).trans (congrArg (val_main_v93 (F := Ideal)) e),
      (h3.trans (val_main_v94_eq (F := Ideal) m' c)).trans (congrArg (val_main_v94 (F := Ideal)) e), hargs⟩

end Cert.AlgRot
-- ==== Proof.lean ====
module

public import proofs.«01_k».proof.Proof.Gen.RefRopeIdeal.Read
public import proofs.«01_k».proof.Proof.Gen.KernelRope
public import proofs.«01_k».proof.Proof.Gen.KernelRope.Frame
public import proofs.«01_k».proof.Proof.Gen.KernelRopeIdeal
public import proofs.«01_k».proof.Proof.Gen.KernelRopeIdeal.Frame
public import proofs.«01_k».proof.Proof.Gen.KernelRopeIdeal.Value
public import proofs.«01_k».proof.Proof.Gen.RefRopeIdeal
public import proofs.«01_k».proof.Proof.Gen.RefRopeIdeal.Run
public import proofs.«01_k».proof.Proof.Gen.RefRotIdeal.Read
public import proofs.«01_k».proof.Proof.Gen.KernelRot
public import proofs.«01_k».proof.Proof.Gen.KernelRot.Frame
public import proofs.«01_k».proof.Proof.Gen.KernelRotIdeal
public import proofs.«01_k».proof.Proof.Gen.KernelRotIdeal.Frame
public import proofs.«01_k».proof.Proof.Gen.KernelRotIdeal.Value
public import proofs.«01_k».proof.Proof.Gen.RefRotIdeal
public import proofs.«01_k».proof.Proof.Gen.RefRotIdeal.Run
public import proofs.«01_k».proof.Defs
public import proofs.«01_k».proof.Proof.Gen.KernelS.Frame
public import proofs.«01_k».proof.Proof.Gen.KernelSIdeal.Frame
public import proofs.«01_k».proof.Proof.Gen.RefSIdeal.Run
public import proofs.«01_k».proof.Proof.AlgS
public import proofs.«01_k».proof.Proof.AlgIn
public import proofs.«01_k».proof.Proof.AlgMix
public import proofs.«01_k».proof.Proof.AlgFfn
public import proofs.«01_k».proof.Proof.AlgRope
public import proofs.«01_k».proof.Proof.AlgRot
public import proofs.«01_k».proof.Proof.Gen.KernelIn.Frame
public import proofs.«01_k».proof.Proof.Gen.KernelInIdeal.Frame
public import proofs.«01_k».proof.Proof.Gen.KernelInIdeal.Value
public import proofs.«01_k».proof.Proof.Gen.RefInIdeal.Run
public import proofs.«01_k».proof.Proof.Gen.RefInIdeal.Read
public import proofs.«01_k».proof.Proof.Gen.KernelMix.Frame
public import proofs.«01_k».proof.Proof.Gen.KernelMixIdeal.Frame
public import proofs.«01_k».proof.Proof.Gen.KernelMixIdeal.Value
public import proofs.«01_k».proof.Proof.Gen.RefMixIdeal.Run
public import proofs.«01_k».proof.Proof.Gen.RefMixIdeal.Read
public import proofs.«01_k».proof.Proof.Gen.KernelFfn.Frame
public import proofs.«01_k».proof.Proof.Gen.KernelFfnIdeal.Frame
public import proofs.«01_k».proof.Proof.Gen.KernelFfnIdeal.Value
public import proofs.«01_k».proof.Proof.Gen.RefFfnIdeal.Run
public import proofs.«01_k».proof.Proof.Gen.RefFfnIdeal.Read
public import Idealize.ShloMosaic.Adequacy
public import Idealize.ShloMosaic.Init

@[expose] public section

noncomputable section

namespace Cert.Proof

open Idealize.ShloMosaic Idealize.SL.Sem

theorem claim : Cert.Claim := ⟨Cert.KernelS.Gen.facts, Cert.KernelSIdeal.Gen.facts, Cert.RefSIdeal.Gen.facts, Cert.KernelIn.Gen.facts, Cert.KernelInIdeal.Gen.facts, Cert.RefInIdeal.Gen.facts, Cert.KernelMix.Gen.facts, Cert.KernelMixIdeal.Gen.facts, Cert.RefMixIdeal.Gen.facts, Cert.KernelFfn.Gen.facts, Cert.KernelFfnIdeal.Gen.facts, Cert.RefFfnIdeal.Gen.facts, Cert.KernelRope.Gen.facts, Cert.KernelRopeIdeal.Gen.facts, Cert.RefRopeIdeal.Gen.facts, Cert.KernelRot.Gen.facts, Cert.KernelRotIdeal.Gen.facts, Cert.RefRotIdeal.Gen.facts,
  Cert.AlgS.onRealRows,
  fun m ρ _ => Cert.KernelS.Gen.frame m ρ,
  fun m ρ _ => Cert.KernelSIdeal.Gen.frame m ρ,
  Cert.AlgS.reference_frame,
  fun m ρ _ => Cert.KernelIn.Gen.frame m ρ,
  fun m ρ _ => Cert.KernelInIdeal.Gen.frame m ρ,
  Cert.AlgIn.reference_frame,
  fun m ρ _ => Cert.KernelMix.Gen.frame m ρ,
  fun m ρ _ => Cert.KernelMixIdeal.Gen.frame m ρ,
  Cert.AlgMix.reference_frame,
  fun m ρ _ => Cert.KernelFfn.Gen.frame m ρ,
  fun m ρ _ => Cert.KernelFfnIdeal.Gen.frame m ρ,
  Cert.AlgFfn.reference_frame,
  fun m ρ _ => Cert.KernelRope.Gen.frame m ρ,
  fun m ρ _ => Cert.KernelRopeIdeal.Gen.frame m ρ,
  Cert.AlgRope.reference_frame,
  fun m ρ _ => Cert.KernelRot.Gen.frame m ρ,
  fun m ρ _ => Cert.KernelRotIdeal.Gen.frame m ρ,
  Cert.AlgRot.reference_frame,
  trivial, Cert.AlgS.algebraic, trivial, Cert.AlgIn.algebraic, trivial, Cert.AlgMix.algebraic, trivial, Cert.AlgFfn.algebraic, trivial, Cert.AlgRope.algebraic, trivial, Cert.AlgRot.algebraic⟩

end Cert.Proof

end
